-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x7680x5120 : Shape := ⟨3, ![3, 7680, 5120]⟩
abbrev S3x8x7680x128 : Shape := ⟨4, ![3, 8, 7680, 128]⟩
abbrev S3x8x120 : Shape := ⟨3, ![3, 8, 120]⟩
abbrev S3x8x128x7680 : Shape := ⟨4, ![3, 8, 128, 7680]⟩
abbrev S3x8x128 : Shape := ⟨3, ![3, 8, 128]⟩
abbrev S3x30x2x40 : Shape := ⟨4, ![3, 30, 2, 40]⟩
abbrev S1x256x5120 : Shape := ⟨3, ![1, 256, 5120]⟩
abbrev S1x1x2x40 : Shape := ⟨4, ![1, 1, 2, 40]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x40 : Shape := ⟨2, ![1, 40]⟩
abbrev S2x40 : Shape := ⟨2, ![2, 40]⟩
abbrev S3x60x40 : Shape := ⟨3, ![3, 60, 40]⟩
abbrev S3x30x2x8x5 : Shape := ⟨5, ![3, 30, 2, 8, 5]⟩
abbrev S3x8x30x5x2 : Shape := ⟨5, ![3, 8, 30, 5, 2]⟩
abbrev S3x8x30x5x2x1 : Shape := ⟨6, ![3, 8, 30, 5, 2, 1]⟩
abbrev S3x8x1x1x1x120 : Shape := ⟨6, ![3, 8, 1, 1, 1, 120]⟩
abbrev S3x8x30x5x2x120 : Shape := ⟨6, ![3, 8, 30, 5, 2, 120]⟩
abbrev S3x1200x1x2x120 : Shape := ⟨5, ![3, 1200, 1, 2, 120]⟩
abbrev S3x8x1x128 : Shape := ⟨4, ![3, 8, 1, 128]⟩
abbrev S1x256x128 : Shape := ⟨3, ![1, 256, 128]⟩
abbrev S1x1x1x2x120 : Shape := ⟨5, ![1, 1, 1, 2, 120]⟩
abbrev S1x1x7680x128 : Shape := ⟨4, ![1, 1, 7680, 128]⟩
abbrev S1x1x128x7680 : Shape := ⟨4, ![1, 1, 128, 7680]⟩
abbrev S1x1x1x128 : Shape := ⟨4, ![1, 1, 1, 128]⟩
abbrev S7680x256 : Shape := ⟨2, ![7680, 256]⟩
abbrev S8x256 : Shape := ⟨2, ![8, 256]⟩
abbrev S128x256 : Shape := ⟨2, ![128, 256]⟩
abbrev S256x128 : Shape := ⟨2, ![256, 128]⟩
abbrev S1x1x256x128 : Shape := ⟨4, ![1, 1, 256, 128]⟩
abbrev S256x256 : Shape := ⟨2, ![256, 256]⟩
abbrev S1x1x1x1x1 : Shape := ⟨5, ![1, 1, 1, 1, 1]⟩
abbrev S64x128 : Shape := ⟨2, ![64, 128]⟩
abbrev S64x256 : Shape := ⟨2, ![64, 256]⟩
abbrev S8x8x256 : Shape := ⟨3, ![8, 8, 256]⟩
abbrev S256 : Shape := ⟨1, ![256]⟩
abbrev S1x256 : Shape := ⟨2, ![1, 256]⟩
abbrev S32x8x256 : Shape := ⟨3, ![32, 8, 256]⟩
abbrev S1x8x256 : Shape := ⟨3, ![1, 8, 256]⟩
abbrev S1x1x128x256 : Shape := ⟨4, ![1, 1, 128, 256]⟩

abbrev nBuf : Space → Nat
  | .hbm => 18
  | .vmem => 20
  | .smem => 2
  | _ => 0

abbrev bufTy : (tb : Table) → Fin (tcTables nBuf tb) → BufTy
  | .hbm, ⟨0, _⟩ => ⟨S3x7680x5120, .bf16⟩
  | .hbm, ⟨1, _⟩ => ⟨S3x8x7680x128, .i8⟩
  | .hbm, ⟨2, _⟩ => ⟨S3x8x120, .f32⟩
  | .hbm, ⟨3, _⟩ => ⟨S3x8x128x7680, .fp8e4m3⟩
  | .hbm, ⟨4, _⟩ => ⟨S3x8x128, .f32⟩
  | .hbm, ⟨5, _⟩ => ⟨S3x7680x5120, .i8⟩
  | .hbm, ⟨6, _⟩ => ⟨S3x30x2x40, .f32⟩
  | .hbm, ⟨7, _⟩ => ⟨S3x60x40, .f32⟩
  | .hbm, ⟨8, _⟩ => ⟨S3x30x2x8x5, .f32⟩
  | .hbm, ⟨9, _⟩ => ⟨S3x8x30x5x2, .f32⟩
  | .hbm, ⟨10, _⟩ => ⟨S3x8x30x5x2x1, .f32⟩
  | .hbm, ⟨11, _⟩ => ⟨S3x8x1x1x1x120, .f32⟩
  | .hbm, ⟨12, _⟩ => ⟨S3x8x30x5x2x120, .f32⟩
  | .hbm, ⟨13, _⟩ => ⟨S3x8x30x5x2x120, .f32⟩
  | .hbm, ⟨14, _⟩ => ⟨S3x8x30x5x2x120, .f32⟩
  | .hbm, ⟨15, _⟩ => ⟨S3x1200x1x2x120, .f32⟩
  | .hbm, ⟨16, _⟩ => ⟨S3x8x1x128, .f32⟩
  | .hbm, ⟨17, _⟩ => ⟨S3x7680x5120, .bf16⟩
  | .local _ .vmem, ⟨0, _⟩ => ⟨S1x256x5120, .bf16⟩
  | .local _ .vmem, ⟨1, _⟩ => ⟨S1x256x5120, .bf16⟩
  | .local _ .vmem, ⟨2, _⟩ => ⟨S1x256x5120, .i8⟩
  | .local _ .vmem, ⟨3, _⟩ => ⟨S1x256x5120, .i8⟩
  | .local _ .vmem, ⟨4, _⟩ => ⟨S1x1x2x40, .f32⟩
  | .local _ .vmem, ⟨5, _⟩ => ⟨S1x1x2x40, .f32⟩
  | .local _ .vmem, ⟨6, _⟩ => ⟨S1x256x128, .i8⟩
  | .local _ .vmem, ⟨7, _⟩ => ⟨S1x256x128, .i8⟩
  | .local _ .vmem, ⟨8, _⟩ => ⟨S1x1x7680x128, .i8⟩
  | .local _ .vmem, ⟨9, _⟩ => ⟨S1x1x7680x128, .i8⟩
  | .local _ .vmem, ⟨10, _⟩ => ⟨S1x1x128x7680, .fp8e4m3⟩
  | .local _ .vmem, ⟨11, _⟩ => ⟨S1x1x128x7680, .fp8e4m3⟩
  | .local _ .vmem, ⟨12, _⟩ => ⟨S1x1x1x128, .f32⟩
  | .local _ .vmem, ⟨13, _⟩ => ⟨S1x1x1x128, .f32⟩
  | .local _ .vmem, ⟨14, _⟩ => ⟨S1x256x128, .bf16⟩
  | .local _ .vmem, ⟨15, _⟩ => ⟨S1x256x128, .bf16⟩
  | .local _ .vmem, ⟨16, _⟩ => ⟨S7680x256, .f32⟩
  | .local _ .vmem, ⟨17, _⟩ => ⟨S8x256, .f32⟩
  | .local _ .vmem, ⟨18, _⟩ => ⟨S8x256, .f32⟩
  | .local _ .vmem, ⟨19, _⟩ => ⟨S128x256, .f32⟩
  | .local _ .smem, ⟨0, _⟩ => ⟨S1x1x1x2x120, .f32⟩
  | .local _ .smem, ⟨1, _⟩ => ⟨S1x1x1x2x120, .f32⟩
  | _, _ => ⟨S3x7680x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc1_stg1_0 : Ref sig .tc := ⟨.smem, 0, rfl⟩
abbrev cc1_stg1_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![3, 30], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x5120 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨4, ![3, 8, 30, 5], ![false, false, false, false]⟩

@[reducible] def k1_t1_loop (i : grid1.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  ⟨c0_i32, v12, c1_i32_5⟩
def k1_off1 (i : grid1.Coords) (k1_t1 : Fin (k1_t1_loop i).trips) : Fin 4 → Nat :=
  let c0_119 : Index := 0#32
  let c0_120 : Index := 0#32
  let c0_i32 : BitVec 32 := 0#32
  let c1_i32_5 : BitVec 32 := 1#32
  let arg14 : BitVec 32 := Scf.iv c0_i32 c1_i32_5 k1_t1
  let c256_i32_118 : BitVec 32 := 256#32
  let v199 : BitVec 32 := Scalar.muli arg14 c256_i32_118
  let v200 : Index := Scalar.indexCast v199
  let c0_121 : Index := 0#32
  ![0, 0, v200.toNat, 0]
def k1_off2 (i : grid1.Coords) (k1_t1 : Fin (k1_t1_loop i).trips) (c0_i32_126 : BitVec 32) : Fin 5 → Nat :=
  let c0_127 : Index := 0#32
  let c0_128 : Index := 0#32
  let c0_129 : Index := 0#32
  let c0_130 : Index := 0#32
  let c0_i32 : BitVec 32 := 0#32
  let c1_i32_5 : BitVec 32 := 1#32
  let arg14 : BitVec 32 := Scf.iv c0_i32 c1_i32_5 k1_t1
  let c4_i32_125 : BitVec 32 := 4#32
  let v207 : BitVec 32 := Scalar.muli arg14 c4_i32_125
  let v208 : BitVec 32 := Scalar.addi v207 c0_i32_126
  let v209 : Index := Scalar.indexCast v208
  ![0, 0, 0, 0, v209.toNat]
def k1_off3 (i : grid1.Coords) (k1_t1 : Fin (k1_t1_loop i).trips) (c0_i32_133 : BitVec 32) : Fin 5 → Nat :=
  let c0_134 : Index := 0#32
  let c0_135 : Index := 0#32
  let c0_136 : Index := 0#32
  let c1_137 : Index := 1#32
  let c0_i32 : BitVec 32 := 0#32
  let c1_i32_5 : BitVec 32 := 1#32
  let arg14 : BitVec 32 := Scf.iv c0_i32 c1_i32_5 k1_t1
  let c4_i32_132 : BitVec 32 := 4#32
  let v215 : BitVec 32 := Scalar.muli arg14 c4_i32_132
  let v216 : BitVec 32 := Scalar.addi v215 c0_i32_133
  let v217 : Index := Scalar.indexCast v216
  ![0, 0, 0, 1, v217.toNat]
def k1_off4 (i : grid1.Coords) (k1_t1 : Fin (k1_t1_loop i).trips) (c0_i32_140 : BitVec 32) : Fin 2 → Nat :=
  let c0_i32 : BitVec 32 := 0#32
  let c1_i32_5 : BitVec 32 := 1#32
  let arg14 : BitVec 32 := Scf.iv c0_i32 c1_i32_5 k1_t1
  let c256_i32_139 : BitVec 32 := 256#32
  let v224 : BitVec 32 := Scalar.muli arg14 c256_i32_139
  let v225 : BitVec 32 := Scalar.addi v224 c0_i32_140
  let v226 : Index := Scalar.indexCast v225
  let c0_141 : Index := 0#32
  ![v226.toNat, 0]
@[reducible] def k1_t2_loop (i : grid1.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_6 : BitVec 32 := 1#32
  ⟨v12, v9, c1_i32_6⟩
def k1_off5 (i : grid1.Coords) (k1_t2 : Fin (k1_t2_loop i).trips) : Fin 4 → Nat :=
  let c0_119 : Index := 0#32
  let c0_120 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_6 : BitVec 32 := 1#32
  let arg14 : BitVec 32 := Scf.iv v12 c1_i32_6 k1_t2
  let c256_i32_118 : BitVec 32 := 256#32
  let v199 : BitVec 32 := Scalar.muli arg14 c256_i32_118
  let v200 : Index := Scalar.indexCast v199
  let c0_121 : Index := 0#32
  ![0, 0, v200.toNat, 0]
def k1_off6 (i : grid1.Coords) (k1_t2 : Fin (k1_t2_loop i).trips) (c0_i32_126 : BitVec 32) : Fin 5 → Nat :=
  let c0_127 : Index := 0#32
  let c0_128 : Index := 0#32
  let c0_129 : Index := 0#32
  let c0_130 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_6 : BitVec 32 := 1#32
  let arg14 : BitVec 32 := Scf.iv v12 c1_i32_6 k1_t2
  let c4_i32_125 : BitVec 32 := 4#32
  let v207 : BitVec 32 := Scalar.muli arg14 c4_i32_125
  let v208 : BitVec 32 := Scalar.addi v207 c0_i32_126
  let v209 : Index := Scalar.indexCast v208
  ![0, 0, 0, 0, v209.toNat]
def k1_off7 (i : grid1.Coords) (k1_t2 : Fin (k1_t2_loop i).trips) (c0_i32_133 : BitVec 32) : Fin 5 → Nat :=
  let c0_134 : Index := 0#32
  let c0_135 : Index := 0#32
  let c0_136 : Index := 0#32
  let c1_137 : Index := 1#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_6 : BitVec 32 := 1#32
  let arg14 : BitVec 32 := Scf.iv v12 c1_i32_6 k1_t2
  let c4_i32_132 : BitVec 32 := 4#32
  let v215 : BitVec 32 := Scalar.muli arg14 c4_i32_132
  let v216 : BitVec 32 := Scalar.addi v215 c0_i32_133
  let v217 : Index := Scalar.indexCast v216
  ![0, 0, 0, 1, v217.toNat]
def k1_off8 (i : grid1.Coords) (k1_t2 : Fin (k1_t2_loop i).trips) (c0_i32_140 : BitVec 32) : Fin 2 → Nat :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_6 : BitVec 32 := 1#32
  let arg14 : BitVec 32 := Scf.iv v12 c1_i32_6 k1_t2
  let c256_i32_139 : BitVec 32 := 256#32
  let v224 : BitVec 32 := Scalar.muli arg14 c256_i32_139
  let v225 : BitVec 32 := Scalar.addi v224 c0_i32_140
  let v226 : Index := Scalar.indexCast v225
  let c0_141 : Index := 0#32
  ![v226.toNat, 0]
def k1_off9 (i : grid1.Coords) : Fin 4 → Nat :=
  let c0_7 : Index := 0#32
  let c0_8 : Index := 0#32
  let arg2 : BitVec 32 := BitVec.ofNat 32 (i 2).val
  let c256_i32 : BitVec 32 := 256#32
  let v15 : BitVec 32 := Scalar.muli arg2 c256_i32
  let v16 : Index := Scalar.indexCast v15
  let c0_9 : Index := 0#32
  ![0, 0, v16.toNat, 0]
def k1_off10 (i : grid1.Coords) (c0_i32_13 : BitVec 32) : Fin 5 → Nat :=
  let c0_14 : Index := 0#32
  let c0_15 : Index := 0#32
  let c0_16 : Index := 0#32
  let c0_17 : Index := 0#32
  let arg2 : BitVec 32 := BitVec.ofNat 32 (i 2).val
  let c4_i32 : BitVec 32 := 4#32
  let v23 : BitVec 32 := Scalar.muli arg2 c4_i32
  let v24 : BitVec 32 := Scalar.addi v23 c0_i32_13
  let v25 : Index := Scalar.indexCast v24
  ![0, 0, 0, 0, v25.toNat]
def k1_off11 (i : grid1.Coords) (c0_i32_20 : BitVec 32) : Fin 5 → Nat :=
  let c0_21 : Index := 0#32
  let c0_22 : Index := 0#32
  let c0_23 : Index := 0#32
  let c1 : Index := 1#32
  let arg2 : BitVec 32 := BitVec.ofNat 32 (i 2).val
  let c4_i32_19 : BitVec 32 := 4#32
  let v31 : BitVec 32 := Scalar.muli arg2 c4_i32_19
  let v32 : BitVec 32 := Scalar.addi v31 c0_i32_20
  let v33 : Index := Scalar.indexCast v32
  ![0, 0, 0, 1, v33.toNat]
def k1_off12 (i : grid1.Coords) (c0_i32_28 : BitVec 32) : Fin 2 → Nat :=
  let arg2 : BitVec 32 := BitVec.ofNat 32 (i 2).val
  let c256_i32_27 : BitVec 32 := 256#32
  let v47 : BitVec 32 := Scalar.muli arg2 c256_i32_27
  let v48 : BitVec 32 := Scalar.addi v47 c0_i32_28
  let v49 : Index := Scalar.indexCast v48
  let c0_29 : Index := 0#32
  ![v49.toNat, 0]
@[reducible] def k1_t3_loop (i : grid1.Coords) : Scf.Loop 32 :=
  let c0_i32_101 : BitVec 32 := 0#32
  let arg2 : BitVec 32 := BitVec.ofNat 32 (i 2).val
  let c1_i32_100 : BitVec 32 := 1#32
  let v176 : BitVec 32 := Scalar.addi arg2 c1_i32_100
  let v177 : BitVec 32 := Scalar.subi v176 c0_i32_101
  let c1_i32_103 : BitVec 32 := 1#32
  let v179 : BitVec 32 := Scalar.divsi v177 c1_i32_103
  let v180 : BitVec 32 := Scalar.muli v179 c1_i32_103
  let v181 : BitVec 32 := Scalar.addi c0_i32_101 v180
  let c1_i32_104 : BitVec 32 := 1#32
  ⟨c0_i32_101, v181, c1_i32_104⟩
def k1_off13 (i : grid1.Coords) (k1_t3 : Fin (k1_t3_loop i).trips) : Fin 2 → Nat :=
  let c0_i32_101 : BitVec 32 := 0#32
  let c1_i32_104 : BitVec 32 := 1#32
  let arg14 : BitVec 32 := Scf.iv c0_i32_101 c1_i32_104 k1_t3
  let c256_i32_118 : BitVec 32 := 256#32
  let v199 : BitVec 32 := Scalar.muli arg14 c256_i32_118
  let v200 : Index := Scalar.indexCast v199
  let c0_119 : Index := 0#32
  ![v200.toNat, 0]
def k1_mult1 (i : grid1.Coords) (k1_t3 : Fin (k1_t3_loop i).trips) : BitVec 32 :=
  let c0_i32_101 : BitVec 32 := 0#32
  let c1_i32_104 : BitVec 32 := 1#32
  let arg14 : BitVec 32 := Scf.iv c0_i32_101 c1_i32_104 k1_t3
  let c256_i32_129 : BitVec 32 := 256#32
  let v220 : BitVec 32 := Scalar.muli arg14 c256_i32_129
  v220
def k1_off14 (i : grid1.Coords) (k1_t3 : Fin (k1_t3_loop i).trips) : Fin 4 → Nat :=
  let c0_130 : Index := 0#32
  let c0_131 : Index := 0#32
  let c0_132 : Index := 0#32
  let c0_i32_101 : BitVec 32 := 0#32
  let c1_i32_104 : BitVec 32 := 1#32
  let arg14 : BitVec 32 := Scf.iv c0_i32_101 c1_i32_104 k1_t3
  let c256_i32_129 : BitVec 32 := 256#32
  let v220 : BitVec 32 := Scalar.muli arg14 c256_i32_129
  let v221 : BitVec 32 := v220
  let v222 : Index := Scalar.indexCast v221
  ![0, 0, 0, v222.toNat]
@[reducible] def k1_t4_loop (i : grid1.Coords) : Scf.Loop 32 :=
  let c0_i32_101 : BitVec 32 := 0#32
  let arg2 : BitVec 32 := BitVec.ofNat 32 (i 2).val
  let c1_i32_100 : BitVec 32 := 1#32
  let v176 : BitVec 32 := Scalar.addi arg2 c1_i32_100
  let v177 : BitVec 32 := Scalar.subi v176 c0_i32_101
  let c1_i32_103 : BitVec 32 := 1#32
  let v179 : BitVec 32 := Scalar.divsi v177 c1_i32_103
  let v180 : BitVec 32 := Scalar.muli v179 c1_i32_103
  let v181 : BitVec 32 := Scalar.addi c0_i32_101 v180
  let v178 : BitVec 32 := Scalar.addi c0_i32_101 v177
  let c1_i32_105 : BitVec 32 := 1#32
  ⟨v181, v178, c1_i32_105⟩
def k1_off15 (i : grid1.Coords) (k1_t4 : Fin (k1_t4_loop i).trips) : Fin 2 → Nat :=
  let c0_i32_101 : BitVec 32 := 0#32
  let arg2 : BitVec 32 := BitVec.ofNat 32 (i 2).val
  let c1_i32_100 : BitVec 32 := 1#32
  let v176 : BitVec 32 := Scalar.addi arg2 c1_i32_100
  let v177 : BitVec 32 := Scalar.subi v176 c0_i32_101
  let c1_i32_103 : BitVec 32 := 1#32
  let v179 : BitVec 32 := Scalar.divsi v177 c1_i32_103
  let v180 : BitVec 32 := Scalar.muli v179 c1_i32_103
  let v181 : BitVec 32 := Scalar.addi c0_i32_101 v180
  let c1_i32_105 : BitVec 32 := 1#32
  let arg14 : BitVec 32 := Scf.iv v181 c1_i32_105 k1_t4
  let c256_i32_118 : BitVec 32 := 256#32
  let v199 : BitVec 32 := Scalar.muli arg14 c256_i32_118
  let v200 : Index := Scalar.indexCast v199
  let c0_119 : Index := 0#32
  ![v200.toNat, 0]
def k1_mult2 (i : grid1.Coords) (k1_t4 : Fin (k1_t4_loop i).trips) : BitVec 32 :=
  let c0_i32_101 : BitVec 32 := 0#32
  let arg2 : BitVec 32 := BitVec.ofNat 32 (i 2).val
  let c1_i32_100 : BitVec 32 := 1#32
  let v176 : BitVec 32 := Scalar.addi arg2 c1_i32_100
  let v177 : BitVec 32 := Scalar.subi v176 c0_i32_101
  let c1_i32_103 : BitVec 32 := 1#32
  let v179 : BitVec 32 := Scalar.divsi v177 c1_i32_103
  let v180 : BitVec 32 := Scalar.muli v179 c1_i32_103
  let v181 : BitVec 32 := Scalar.addi c0_i32_101 v180
  let c1_i32_105 : BitVec 32 := 1#32
  let arg14 : BitVec 32 := Scf.iv v181 c1_i32_105 k1_t4
  let c256_i32_129 : BitVec 32 := 256#32
  let v220 : BitVec 32 := Scalar.muli arg14 c256_i32_129
  v220
def k1_off16 (i : grid1.Coords) (k1_t4 : Fin (k1_t4_loop i).trips) : Fin 4 → Nat :=
  let c0_130 : Index := 0#32
  let c0_131 : Index := 0#32
  let c0_132 : Index := 0#32
  let c0_i32_101 : BitVec 32 := 0#32
  let arg2 : BitVec 32 := BitVec.ofNat 32 (i 2).val
  let c1_i32_100 : BitVec 32 := 1#32
  let v176 : BitVec 32 := Scalar.addi arg2 c1_i32_100
  let v177 : BitVec 32 := Scalar.subi v176 c0_i32_101
  let c1_i32_103 : BitVec 32 := 1#32
  let v179 : BitVec 32 := Scalar.divsi v177 c1_i32_103
  let v180 : BitVec 32 := Scalar.muli v179 c1_i32_103
  let v181 : BitVec 32 := Scalar.addi c0_i32_101 v180
  let c1_i32_105 : BitVec 32 := 1#32
  let arg14 : BitVec 32 := Scf.iv v181 c1_i32_105 k1_t4
  let c256_i32_129 : BitVec 32 := 256#32
  let v220 : BitVec 32 := Scalar.muli arg14 c256_i32_129
  let v221 : BitVec 32 := v220
  let v222 : Index := Scalar.indexCast v221
  ![0, 0, 0, v222.toNat]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c5_i32 : BitVec 32 := 5#32
  let v0 : BitVec 32 := Scalar.muli arg1 c5_i32
  let v1 : BitVec 32 := Scalar.addi v0 arg3
  let c0_i32 : BitVec 32 := 0#32
  ![arg0.toNat, arg2.toNat, v1.toNat]

def cc1_transform_1 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c30_i32 : BitVec 32 := 30#32
  let v0 : BitVec 32 := Scalar.muli arg1 c30_i32
  let v1 : BitVec 32 := Scalar.addi v0 arg2
  let c5_i32 : BitVec 32 := 5#32
  let v2 : BitVec 32 := Scalar.muli v1 c5_i32
  let v3 : BitVec 32 := Scalar.addi v2 arg3
  let c0_i32 : BitVec 32 := 0#32
  let c0_i32_0 : BitVec 32 := 0#32
  let c0_i32_1 : BitVec 32 := 0#32
  let c0_i32_2 : BitVec 32 := 0#32
  ![arg0.toNat, v3.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c5_i32 : BitVec 32 := 5#32
  let v0 : BitVec 32 := Scalar.muli arg1 c5_i32
  let v1 : BitVec 32 := Scalar.addi v0 arg3
  let c0_i32 : BitVec 32 := 0#32
  ![arg0.toNat, arg2.toNat, v1.toNat]

abbrev stage1_0 : Fin 2 → Memref sig .tc .vmem S1x256x128 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true, true]

abbrev stage1_1 : Fin 2 → Memref sig .tc .smem S1x1x1x2x120 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true, true]

abbrev stage1_2 : Fin 2 → Memref sig .tc .vmem S1x1x7680x128 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false, false]

abbrev stage1_3 : Fin 2 → Memref sig .tc .vmem S1x1x128x7680 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false, false]

abbrev stage1_4 : Fin 2 → Memref sig .tc .vmem S1x1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false, false]

abbrev stage1_5 : Fin 2 → Memref sig .tc .vmem S1x256x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true, true]
-- ==== KernelIdeal.lean ====
variable {F : FTy → Type} [FloatOps F] [Named F]
def κ : String → Option EReal := fun
  | "log2_e" => some (((Real.log 2)⁻¹ : ℝ) : EReal)
  | "mask" => some ⊥
  | _ => none
-- ==== ReferenceIdeal.lean ====
abbrev S3x7680x5120 : Shape := ⟨3, ![3, 7680, 5120]⟩
abbrev S3x8x7680x128 : Shape := ⟨4, ![3, 8, 7680, 128]⟩
abbrev S3x8x120 : Shape := ⟨3, ![3, 8, 120]⟩
abbrev S3x8x128x7680 : Shape := ⟨4, ![3, 8, 128, 7680]⟩
abbrev S3x8x128 : Shape := ⟨3, ![3, 8, 128]⟩
abbrev S3x60x40 : Shape := ⟨3, ![3, 60, 40]⟩
abbrev S3x60x128x40x128 : Shape := ⟨5, ![3, 60, 128, 40, 128]⟩
abbrev S3x60x1x40x1 : Shape := ⟨5, ![3, 60, 1, 40, 1]⟩
abbrev S3x7680x40x128 : Shape := ⟨4, ![3, 7680, 40, 128]⟩
abbrev S3x7680x8x5x128 : Shape := ⟨5, ![3, 7680, 8, 5, 128]⟩
abbrev S3x8x5x7680x128 : Shape := ⟨5, ![3, 8, 5, 7680, 128]⟩
abbrev S3x60x8x5 : Shape := ⟨4, ![3, 60, 8, 5]⟩
abbrev S3x8x5x60 : Shape := ⟨4, ![3, 8, 5, 60]⟩
abbrev S3x8x5x60x1 : Shape := ⟨5, ![3, 8, 5, 60, 1]⟩
abbrev S3x8x5x60x128 : Shape := ⟨5, ![3, 8, 5, 60, 128]⟩
abbrev S3x8x5x7680 : Shape := ⟨4, ![3, 8, 5, 7680]⟩
abbrev S3x8x120x1 : Shape := ⟨4, ![3, 8, 120, 1]⟩
abbrev S3x8x120x64 : Shape := ⟨4, ![3, 8, 120, 64]⟩
abbrev S3x8x7680 : Shape := ⟨3, ![3, 8, 7680]⟩
abbrev S24x38400x128 : Shape := ⟨3, ![24, 38400, 128]⟩
abbrev S24x7680x128 : Shape := ⟨3, ![24, 7680, 128]⟩
abbrev S24x38400x7680 : Shape := ⟨3, ![24, 38400, 7680]⟩
abbrev S3x8x5x7680x7680 : Shape := ⟨5, ![3, 8, 5, 7680, 7680]⟩
abbrev S3x8x5x7680x1 : Shape := ⟨5, ![3, 8, 5, 7680, 1]⟩
abbrev S3x8x1x1x7680 : Shape := ⟨5, ![3, 8, 1, 1, 7680]⟩
abbrev S7680x7680 : Shape := ⟨2, ![7680, 7680]⟩
abbrev S1x1x1x7680x7680 : Shape := ⟨5, ![1, 1, 1, 7680, 7680]⟩
abbrev S24x128x7680 : Shape := ⟨3, ![24, 128, 7680]⟩
abbrev S3x8x1x1x128 : Shape := ⟨5, ![3, 8, 1, 1, 128]⟩

abbrev nBuf : Space → Nat
  | .hbm => 8
  | .vmem => 8
  | .smem => 0
  | _ => 0

abbrev bufTy : (tb : Table) → Fin (tcTables nBuf tb) → BufTy
  | .hbm, ⟨0, _⟩ => ⟨S3x7680x5120, .bf16⟩
  | .hbm, ⟨1, _⟩ => ⟨S3x8x7680x128, .i8⟩
  | .hbm, ⟨2, _⟩ => ⟨S3x8x120, .f32⟩
  | .hbm, ⟨3, _⟩ => ⟨S3x8x128x7680, .fp8e4m3⟩
  | .hbm, ⟨4, _⟩ => ⟨S3x8x128, .f32⟩
  | .hbm, ⟨5, _⟩ => ⟨S3x7680x5120, .bf16⟩
  | .hbm, ⟨6, _⟩ => ⟨S3x7680x5120, .i8⟩
  | .hbm, ⟨7, _⟩ => ⟨S3x60x40, .f32⟩
  | .local _ .vmem, ⟨0, _⟩ => ⟨S3x7680x5120, .bf16⟩
  | .local _ .vmem, ⟨1, _⟩ => ⟨S3x8x7680x128, .i8⟩
  | .local _ .vmem, ⟨2, _⟩ => ⟨S3x8x120, .f32⟩
  | .local _ .vmem, ⟨3, _⟩ => ⟨S3x8x128x7680, .fp8e4m3⟩
  | .local _ .vmem, ⟨4, _⟩ => ⟨S3x8x128, .f32⟩
  | .local _ .vmem, ⟨5, _⟩ => ⟨S3x7680x5120, .bf16⟩
  | .local _ .vmem, ⟨6, _⟩ => ⟨S3x7680x5120, .i8⟩
  | .local _ .vmem, ⟨7, _⟩ => ⟨S3x60x40, .f32⟩
  | _, _ => ⟨S3x7680x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3x7680x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8x7680x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x8x128x7680 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x7680x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x7680x5120 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x60x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.IdlBody.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.Value
public import Idealize.ShloMosaic.Lib.ValueIdxCore

@[expose] public section

set_option maxRecDepth 16384
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F] [Named F]

local notation "𝕄G" => MT nD τ sig Unit (Elt F) ℕ (UR sig nD τ) ℕ

/-! ## What the second kernel call computes, as functions of the blocks it reads -/

/-- Key rows `256 j … 256 j + 255` of the window of keys. -/
def kBlk (x6 : Vec F S1x1x7680x128 .i8) (j : ℕ) : Vec F S1x1x256x128 .i8 :=
  fun y => x6 (ix4 0 0 ⟨(256 * j + (y 2).val) % 7680, Nat.mod_lt _ (by decide)⟩ ⟨(y 3).val, (y 3).isLt⟩)

/-- The scale of query half `g` and key group `n`. -/
def cAt (x5 : Vec F S1x1x1x2x120 .f32) (g : Fin 2) (n : ℕ) : Elt F .f32 :=
  x5 (ix5 0 0 0 g ⟨n % 120, Nat.mod_lt _ (by decide)⟩)

/-- The raw integer scores of a key chunk. -/
def raw (x4 : Vec F S1x256x128 .i8) (K : Vec F S1x1x256x128 .i8) : FVec F S256x256 .f32 :=
  k1_pay8 (k1_pay38 x4) K

/-- The scaled scores of key group `r` of a chunk below the diagonal, of the chunk's keys and scales. -/
def tileK (x4 : Vec F S1x256x128 .i8) (K : Vec F S1x1x256x128 .i8) (c : Fin 2 → Fin 4 → Elt F .f32) : ℕ → FVec F S64x256 .f32
  | 0 => k1_pay10 (k1_pay38 x4) K (c 0 0) (c 1 0)
  | 1 => k1_pay13 (raw x4 K) (c 0 1) (c 1 1)
  | 2 => k1_pay18 (raw x4 K) (k1_pay15 (raw x4 K)) (k1_pay16 (c 0 2)) (c 1 2)
  | _ => k1_pay41 (k1_pay20 (raw x4 K) (c 0 3)) (k1_pay21 (raw x4 K)) (k1_pay22 (c 1 3))

/-- The running maximum after a key chunk. -/
def mStepK (x4 : Vec F S1x256x128 .i8) (K : Vec F S1x1x256x128 .i8) (c : Fin 2 → Fin 4 → Elt F .f32)
    (m : FVec F S8x256 .f32) : FVec F S8x256 .f32 :=
  k1_pay42 (k1_pay19 (raw x4 K) (k1_pay14 (raw x4 K) m (k1_pay11 (k1_pay38 x4) K (c 0 0) (c 1 0)) (c 0 1) (c 1 1))
      (k1_pay15 (raw x4 K)) (k1_pay16 (c 0 2)) (c 1 2))
    (k1_pay20 (raw x4 K) (c 0 3)) (k1_pay21 (raw x4 K)) (k1_pay22 (c 1 3))

/-- The constant the third group of the diagonal chunk is scaled by. -/
def lgE : F .f32 := Named.named κ "log2_e" 0x3FB8AA3B#32

/-- The masked scores of key group `r` of the diagonal chunk, of the chunk's keys and scales. -/
def dtileK (x4 : Vec F S1x256x128 .i8) (K : Vec F S1x1x256x128 .i8) (c : Fin 2 → Fin 4 → Elt F .f32) : ℕ → FVec F S64x256 .f32
  | 0 => k1_pay50 (k1_pay46 x4 K) (k1_pay47 x4 K) (k1_pay48 (c 0 0)) (c 1 0)
  | 1 => k1_pay54 (k1_pay46 x4 K) (k1_pay52 (k1_pay46 x4 K) (c 0 1)) (c 1 1)
  | 2 => k1_pay58 (k1_pay46 x4 K) (k1_pay56 (k1_pay46 x4 K) (c 0 2)) (c 1 2) lgE
  | _ => k1_pay62 (k1_pay60 (k1_pay46 x4 K) (c 0 3) (c 1 3)) (iota .tc S64x256 32 [0] iota_S64x256_d0_w32)

/-- The maximum after the diagonal chunk. -/
def mDiagK (x4 : Vec F S1x256x128 .i8) (K : Vec F S1x1x256x128 .i8) (c : Fin 2 → Fin 4 → Elt F .f32)
    (m : FVec F S8x256 .f32) : FVec F S8x256 .f32 :=
  k1_pay63 (k1_pay59 (k1_pay46 x4 K) (k1_pay55 (k1_pay46 x4 K) (k1_pay51 (k1_pay46 x4 K) m (k1_pay47 x4 K)
        (k1_pay48 (c 0 0)) (c 1 0)) (k1_pay52 (k1_pay46 x4 K) (c 0 1)) (c 1 1))
      (k1_pay56 (k1_pay46 x4 K) (c 0 2)) (c 1 2) lgE)
    (k1_pay60 (k1_pay46 x4 K) (c 0 3) (c 1 3)) (iota .tc S64x256 32 [0] iota_S64x256_d0_w32)

/-- The scales of key chunk `j`. -/
def cBlk (x5 : Vec F S1x1x1x2x120 .f32) (j : ℕ) : Fin 2 → Fin 4 → Elt F .f32 := fun g r => cAt x5 g (4 * j + r.val)

/-- The scaled scores of key group `r` of chunk `j`, below the diagonal. -/
def tile (x4 : Vec F S1x256x128 .i8) (x5 : Vec F S1x1x1x2x120 .f32) (x6 : Vec F S1x1x7680x128 .i8) (j r : ℕ) : FVec F S64x256 .f32 :=
  tileK x4 (kBlk x6 j) (cBlk x5 j) r

/-- The masked scores of key group `r` of the diagonal chunk `j`. -/
def dtile (x4 : Vec F S1x256x128 .i8) (x5 : Vec F S1x1x1x2x120 .f32) (x6 : Vec F S1x1x7680x128 .i8) (j r : ℕ) : FVec F S64x256 .f32 :=
  dtileK x4 (kBlk x6 j) (cBlk x5 j) r

/-- The running maximum before key chunk `k`. -/
def mAt (x4 : Vec F S1x256x128 .i8) (x5 : Vec F S1x1x1x2x120 .f32) (x6 : Vec F S1x1x7680x128 .i8) : ℕ → FVec F S8x256 .f32
  | 0 => k1_pay39
  | k + 1 => mStepK x4 (kBlk x6 k) (cBlk x5 k) (mAt x4 x5 x6 k)

/-- The shift the exponentials are taken under. -/
def mFin (x4 : Vec F S1x256x128 .i8) (x5 : Vec F S1x1x1x2x120 .f32) (x6 : Vec F S1x1x7680x128 .i8) (i : ℕ) : FVec F S8x256 .f32 :=
  k1_pay64 (mDiagK x4 (kBlk x6 i) (cBlk x5 i) (mAt x4 x5 x6 i))

/-- The scores kept between the two passes: row `y 0` is key `y 0`. -/
def sU (x4 : Vec F S1x256x128 .i8) (x5 : Vec F S1x1x1x2x120 .f32) (x6 : Vec F S1x1x7680x128 .i8) (i : ℕ) : Vec F S7680x256 .f32 :=
  fun y => (if (y 0).val / 256 < i then tile x4 x5 x6 ((y 0).val / 256) ((y 0).val % 256 / 64)
      else dtile x4 x5 x6 i ((y 0).val % 256 / 64))
    (ix2 ⟨(y 0).val % 64, Nat.mod_lt _ (by decide)⟩ ⟨(y 1).val, (y 1).isLt⟩)

/-- The scores of key chunk `j`. -/
def sCh (x4 : Vec F S1x256x128 .i8) (x5 : Vec F S1x1x1x2x120 .f32) (x6 : Vec F S1x1x7680x128 .i8) (i j : ℕ) : Vec F S256x256 .f32 :=
  fun y => sU x4 x5 x6 i (ix2 ⟨(256 * j + (y 0).val) % 7680, Nat.mod_lt _ (by decide)⟩ ⟨(y 1).val, (y 1).isLt⟩)

/-- The values of key chunk `j`. -/
def vBlk (x7 : Vec F S1x1x128x7680 .fp8e4m3) (j : ℕ) : Vec F S1x1x128x256 .fp8e4m3 :=
  fun y => x7 (ix4 0 0 ⟨(y 2).val, (y 2).isLt⟩ ⟨(256 * j + (y 3).val) % 7680, Nat.mod_lt _ (by decide)⟩)

/-- The running sums of the exponentials before key chunk `k` of the second pass. -/
def lAt (x4 : Vec F S1x256x128 .i8) (x5 : Vec F S1x1x1x2x120 .f32) (x6 : Vec F S1x1x7680x128 .i8) (i : ℕ) : ℕ → FVec F S8x256 .f32
  | 0 => k1_pay65
  | k + 1 => k1_pay2 (sCh x4 x5 x6 i k) (mFin x4 x5 x6 i) (lAt x4 x5 x6 i k)

/-- The running weighted sums of the values before key chunk `k` of the second pass. -/
def accAt (x4 : Vec F S1x256x128 .i8) (x5 : Vec F S1x1x1x2x120 .f32) (x6 : Vec F S1x1x7680x128 .i8)
    (x7 : Vec F S1x1x128x7680 .fp8e4m3) (i : ℕ) : ℕ → FVec F S128x256 .f32
  | 0 => k1_pay66
  | k + 1 => k1_pay3 (sCh x4 x5 x6 i k) (mFin x4 x5 x6 i) (vBlk x7 k) (accAt x4 x5 x6 x7 i k)

/-- The block the call writes. -/
def attnOut (i : ℕ) (x4 : Vec F S1x256x128 .i8) (x5 : Vec F S1x1x1x2x120 .f32) (x6 : Vec F S1x1x7680x128 .i8)
    (x7 : Vec F S1x1x128x7680 .fp8e4m3) (x8 : Vec F S1x1x1x128 .f32) : Vec F S1x256x128 .bf16 :=
  k1_pay7 (lAt x4 x5 x6 i (i + 1)) (accAt x4 x5 x6 x7 i (i + 1)) x8

/-! ## The accesses as those functions -/

theorem kBlk_eq {v : View sig .tc .vmem S1x1x7680x128 .i8} (X : v.ty.Contents (Elt F)) (k : ℕ) (hk : k < 30)
    {off : Fin 4 → ℕ} (h : off = ![0, 0, 256 * k, 0]) (inb : ∀ a, off a + S1x1x256x128.size a ≤ S1x1x7680x128.size a) :
    View.readAt (Elt F) v (Rect.unit (s := S1x1x7680x128) off S1x1x256x128.size inb).toLoadRect X = kBlk (v.read (Elt F) X) k := by
  subst h
  funext y
  have h2 : (y 2).val < 256 := (y 2).isLt
  refine congrArg (v.read (Elt F) X) (funext fun a => Fin.ext ?_)
  match a with
  | ⟨0, _⟩ => have : (y 0).val < 1 := (y 0).isLt; show 0 + 1 * (y 0).val = 0; omega
  | ⟨1, _⟩ => have : (y 1).val < 1 := (y 1).isLt; show 0 + 1 * (y 1).val = 0; omega
  | ⟨2, _⟩ => show 256 * k + 1 * (y 2).val = (256 * k + (y 2).val) % 7680; rw [Nat.mod_eq_of_lt (by omega)]; omega
  | ⟨3, _⟩ => show 0 + 1 * (y 3).val = (y 3).val; omega

theorem vBlk_eq {v : View sig .tc .vmem S1x1x128x7680 .fp8e4m3} (X : v.ty.Contents (Elt F)) (k : ℕ) (hk : k < 30)
    {off : Fin 4 → ℕ} (h : off = ![0, 0, 0, 256 * k]) (inb : ∀ a, off a + S1x1x128x256.size a ≤ S1x1x128x7680.size a) :
    View.readAt (Elt F) v (Rect.unit (s := S1x1x128x7680) off S1x1x128x256.size inb).toLoadRect X = vBlk (v.read (Elt F) X) k := by
  subst h
  funext y
  have h2 : (y 3).val < 256 := (y 3).isLt
  refine congrArg (v.read (Elt F) X) (funext fun a => Fin.ext ?_)
  match a with
  | ⟨0, _⟩ => have : (y 0).val < 1 := (y 0).isLt; show 0 + 1 * (y 0).val = 0; omega
  | ⟨1, _⟩ => have : (y 1).val < 1 := (y 1).isLt; show 0 + 1 * (y 1).val = 0; omega
  | ⟨2, _⟩ => show 0 + 1 * (y 2).val = (y 2).val; omega
  | ⟨3, _⟩ => show 256 * k + 1 * (y 3).val = (256 * k + (y 3).val) % 7680; rw [Nat.mod_eq_of_lt (by omega)]; omega

theorem cAt_eq {v : View sig .tc .smem S1x1x1x2x120 .f32} (X : v.ty.Contents (Elt F)) (g : Fin 2) (n : ℕ) (hn : n < 120)
    {off : Fin 5 → ℕ} (h : off = ![0, 0, 0, g.val, n]) (inb : ∀ a, off a + S1x1x1x1x1.size a ≤ S1x1x1x2x120.size a)
    (y : S1x1x1x1x1.Idx) :
    View.readAt (Elt F) v (Rect.unit (s := S1x1x1x2x120) off S1x1x1x1x1.size inb).toLoadRect X y = cAt (v.read (Elt F) X) g n := by
  subst h
  refine congrArg (v.read (Elt F) X) (funext fun a => Fin.ext ?_)
  match a with
  | ⟨0, _⟩ => have : (y 0).val < 1 := (y 0).isLt; show 0 + 1 * (y 0).val = 0; omega
  | ⟨1, _⟩ => have : (y 1).val < 1 := (y 1).isLt; show 0 + 1 * (y 1).val = 0; omega
  | ⟨2, _⟩ => have : (y 2).val < 1 := (y 2).isLt; show 0 + 1 * (y 2).val = 0; omega
  | ⟨3, _⟩ => have : (y 3).val < 1 := (y 3).isLt; show g.val + 1 * (y 3).val = g.val; omega
  | ⟨4, _⟩ => have : (y 4).val < 1 := (y 4).isLt; show n + 1 * (y 4).val = n % 120; rw [Nat.mod_eq_of_lt hn]; omega

theorem numel_one : S1x1x1x1x1.numel = 1 := by decide

/-- The scales of a chunk, as the body's scalar loads give them. -/
def cRd {v : View sig .tc .smem S1x1x1x2x120 .f32} (X : v.ty.Contents (Elt F)) (o0 o1 : Fin 4 → Fin 5 → ℕ)
    (i0 : ∀ r a, o0 r a + S1x1x1x1x1.size a ≤ S1x1x1x2x120.size a) (i1 : ∀ r a, o1 r a + S1x1x1x1x1.size a ≤ S1x1x1x2x120.size a) :
    Fin 2 → Fin 4 → Elt F .f32
  | 0, r => View.readAt (Elt F) v (Rect.unit (s := S1x1x1x2x120) (o0 r) S1x1x1x1x1.size (i0 r)).toLoadRect X (Shape.Idx.first (numel_one.symm ▸ Nat.one_pos))
  | 1, r => View.readAt (Elt F) v (Rect.unit (s := S1x1x1x2x120) (o1 r) S1x1x1x1x1.size (i1 r)).toLoadRect X (Shape.Idx.first (numel_one.symm ▸ Nat.one_pos))

theorem cRd_eq {v : View sig .tc .smem S1x1x1x2x120 .f32} (X : v.ty.Contents (Elt F)) (o0 o1 : Fin 4 → Fin 5 → ℕ) (i0 i1) (k : ℕ)
    (hk : k < 30) (h0 : ∀ r : Fin 4, o0 r = ![0, 0, 0, 0, 4 * k + r.val]) (h1 : ∀ r : Fin 4, o1 r = ![0, 0, 0, 1, 4 * k + r.val]) :
    cRd X o0 o1 i0 i1 = cBlk (v.read (Elt F) X) k := by
  funext g r
  have hr : r.val < 4 := r.isLt
  match g with
  | 0 => exact cAt_eq X 0 (4 * k + r.val) (by omega) (h0 r) (i0 r) _
  | 1 => exact cAt_eq X 1 (4 * k + r.val) (by omega) (h1 r) (i1 r) _

/-- Four stores of 64 rows from row `b` on: the rows below `b + 256` read as `G`, if those below `b` did. -/
theorem put4 {v : View sig .tc .vmem S7680x256 .f32} (f : v.ty.Contents (Elt F)) (G : Vec F S7680x256 .f32) (b : ℕ)
    (o : Fin 4 → Fin 2 → ℕ) (ho : ∀ r : Fin 4, o r = ![b + 64 * r.val, 0]) (i0 i1 i2 i3)
    (w0 w1 w2 w3 : Vec F S64x256 .f32)
    (hw0 : ∀ (x : S64x256.Idx) (y : S7680x256.Idx), (y 0).val = b + 64 * 0 + (x 0).val → (y 1).val = (x 1).val → w0 x = G y)
    (hw1 : ∀ (x : S64x256.Idx) (y : S7680x256.Idx), (y 0).val = b + 64 * 1 + (x 0).val → (y 1).val = (x 1).val → w1 x = G y)
    (hw2 : ∀ (x : S64x256.Idx) (y : S7680x256.Idx), (y 0).val = b + 64 * 2 + (x 0).val → (y 1).val = (x 1).val → w2 x = G y)
    (hw3 : ∀ (x : S64x256.Idx) (y : S7680x256.Idx), (y 0).val = b + 64 * 3 + (x 0).val → (y 1).val = (x 1).val → w3 x = G y)
    (hf : ∀ y, (y 0).val < b → v.read (Elt F) f y = G y) :
    ∀ y, (y 0).val < b + 256 → v.read (Elt F) (v.writes (Elt F) f
      [⟨Rect.unit (s := S7680x256) (o 3) S64x256.size i3, w3⟩, ⟨Rect.unit (s := S7680x256) (o 2) S64x256.size i2, w2⟩,
       ⟨Rect.unit (s := S7680x256) (o 1) S64x256.size i1, w1⟩, ⟨Rect.unit (s := S7680x256) (o 0) S64x256.size i0, w0⟩]) y = G y := by
  intro y hy
  have key : ∀ (r : Fin 4) (inb), y ∈ (Rect.unit (s := S7680x256) (o r) S64x256.size inb).set ↔
      b + 64 * r.val ≤ (y 0).val ∧ (y 0).val < b + 64 * r.val + 64 := by
    intro r inb
    have h1 : (y 1).val < 256 := (y 1).isLt
    rw [Rect.mem_set_unit, ho r]
    constructor
    · intro h; exact h 0
    · intro h a
      match a with
      | ⟨0, _⟩ => exact h
      | ⟨1, _⟩ => exact ⟨Nat.zero_le _, by show (y 1).val < 0 + 256; omega⟩
  have kv : ∀ (r : Fin 4) (inb) (w : Vec F S64x256 .f32), (∀ (x : S64x256.Idx) (y : S7680x256.Idx), (y 0).val = b + 64 * r.val + (x 0).val → (y 1).val = (x 1).val → w x = G y) →
      ∀ (x : S64x256.Idx), w x = G ((Rect.unit (s := S7680x256) (o r) S64x256.size inb).emb x) := by
    intro r inb w hw x
    refine hw x _ ?_ ?_
    · show o r 0 + 1 * (x 0).val = _; rw [ho r]; show b + 64 * r.val + 1 * (x 0).val = _; omega
    · show o r 1 + 1 * (x 1).val = _; rw [ho r]; show 0 + 1 * (x 1).val = _; omega
  by_cases hb : (y 0).val < b
  · rw [View.read_writes_apply_of_forall_not_mem, hf y hb]
    intro p hp
    simp only [List.mem_cons, List.not_mem_nil, or_false] at hp
    rcases hp with rfl | rfl | rfl | rfl
    · rw [key 3]; omega
    · rw [key 2]; omega
    · rw [key 1]; omega
    · rw [key 0]; omega
  · refine View.read_writes_apply_of_pieces v f G _ ?_ y ?_
    · intro p hp
      simp only [List.mem_cons, List.not_mem_nil, or_false] at hp
      rcases hp with rfl | rfl | rfl | rfl
      · exact kv 3 i3 w3 hw3
      · exact kv 2 i2 w2 hw2
      · exact kv 1 i1 w1 hw1
      · exact kv 0 i0 w0 hw0
    · rcases (by omega : (y 0).val < b + 64 ∨ (b + 64 ≤ (y 0).val ∧ (y 0).val < b + 128) ∨ (b + 128 ≤ (y 0).val ∧ (y 0).val < b + 192)
        ∨ b + 192 ≤ (y 0).val) with h | h | h | h
      · exact ⟨_, .tail _ (.tail _ (.tail _ (.head _))), (key 0 i0).2 ⟨by show b + 64 * 0 ≤ _; omega, by show _ < b + 64 * 0 + 64; omega⟩⟩
      · exact ⟨_, .tail _ (.tail _ (.head _)), (key 1 i1).2 ⟨by show b + 64 * 1 ≤ _; omega, by show _ < b + 64 * 1 + 64; omega⟩⟩
      · exact ⟨_, .tail _ (.head _), (key 2 i2).2 ⟨by show b + 64 * 2 ≤ _; omega, by show _ < b + 64 * 2 + 64; omega⟩⟩
      · exact ⟨_, .head _, (key 3 i3).2 ⟨by show b + 64 * 3 ≤ _; omega, by show _ < b + 64 * 3 + 64; omega⟩⟩

theorem sU_tile (x4 : Vec F S1x256x128 .i8) (x5 : Vec F S1x1x1x2x120 .f32) (x6 : Vec F S1x1x7680x128 .i8) (i j : ℕ) (hj : j < i)
    (r : Fin 4) (x : S64x256.Idx) (y : S7680x256.Idx) (h0 : (y 0).val = 256 * j + 64 * r.val + (x 0).val) (h1 : (y 1).val = (x 1).val) :
    tile x4 x5 x6 j r.val x = sU x4 x5 x6 i y := by
  have hx : (x 0).val < 64 := (x 0).isLt
  have hr : r.val < 4 := r.isLt
  unfold sU
  rw [if_pos (by omega), show (y 0).val / 256 = j by omega, show (y 0).val % 256 / 64 = r.val by omega]
  refine congrArg _ (funext fun a => Fin.ext ?_)
  match a with
  | ⟨0, _⟩ => show (x 0).val = (y 0).val % 64; omega
  | ⟨1, _⟩ => exact h1.symm

theorem sU_dtile (x4 : Vec F S1x256x128 .i8) (x5 : Vec F S1x1x1x2x120 .f32) (x6 : Vec F S1x1x7680x128 .i8) (i : ℕ)
    (r : Fin 4) (x : S64x256.Idx) (y : S7680x256.Idx) (h0 : (y 0).val = 256 * i + 64 * r.val + (x 0).val) (h1 : (y 1).val = (x 1).val) :
    dtile x4 x5 x6 i r.val x = sU x4 x5 x6 i y := by
  have hx : (x 0).val < 64 := (x 0).isLt
  have hr : r.val < 4 := r.isLt
  unfold sU
  rw [if_neg (by omega), show (y 0).val % 256 / 64 = r.val by omega]
  refine congrArg _ (funext fun a => Fin.ext ?_)
  match a with
  | ⟨0, _⟩ => show (x 0).val = (y 0).val % 64; omega
  | ⟨1, _⟩ => exact h1.symm

theorem sCh_eq {v : View sig .tc .vmem S7680x256 .f32} (f : v.ty.Contents (Elt F)) (x4 : Vec F S1x256x128 .i8)
    (x5 : Vec F S1x1x1x2x120 .f32) (x6 : Vec F S1x1x7680x128 .i8) (i k : ℕ) (hi : i < 30) (hk : k ≤ i)
    (hf : ∀ y, (y 0).val < 256 * i + 256 → v.read (Elt F) f y = sU x4 x5 x6 i y)
    {off : Fin 2 → ℕ} (h : off = ![256 * k, 0]) (inb : ∀ a, off a + S256x256.size a ≤ S7680x256.size a) :
    View.readAt (Elt F) v (Rect.unit (s := S7680x256) off S256x256.size inb).toLoadRect f = sCh x4 x5 x6 i k := by
  subst h
  funext y
  have h0 : (y 0).val < 256 := (y 0).isLt
  refine (hf _ (by show 256 * k + 1 * (y 0).val < _; omega)).trans (congrArg (sU x4 x5 x6 i) (funext fun a => Fin.ext ?_))
  match a with
  | ⟨0, _⟩ => show 256 * k + 1 * (y 0).val = (256 * k + (y 0).val) % 7680; rw [Nat.mod_eq_of_lt (by omega)]; omega
  | ⟨1, _⟩ => show 0 + 1 * (y 1).val = (y 1).val; omega

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A whole-buffer load reads the buffer. -/
theorem readAt_whole {s : Shape} {κ sp e} {v : View sig κ sp s e} (f : v.ty.Contents (Elt F)) {off : Fin s.rank → ℕ} (h : off = fun _ => 0) (inb) :
    View.readAt (Elt F) v (Rect.unit (s := s) off s.size inb).toLoadRect f = v.read (Elt F) f :=
  (View.readAt_eq_ld v f _).trans (View.ld_unit_zero (S := s) h inb _)

/-- After a store of the whole buffer it reads what was stored. -/
theorem read_writes_whole {s : Shape} {κ sp e} {v : View sig κ sp s e} (f : v.ty.Contents (Elt F)) {off : Fin s.rank → ℕ} (h : off = fun _ => 0) (inb)
    (w : s.Idx → Elt F e) (L : List (View.Piece (Elt F) s e)) :
    v.read (Elt F) (v.writes (Elt F) f (⟨Rect.unit (s := s) off s.size inb, w⟩ :: L)) = w := by
  subst h
  funext y
  have := View.read_writes_cons_emb v f (Rect.unit (s := s) (fun _ => 0) s.size inb) w L y
  refine Eq.trans (congrArg _ (funext fun a => Fin.ext ?_)) this
  show (y a).val = 0 + 1 * (y a).val
  omega

theorem t1_trips (i : grid1.Coords) : Scf.trips (k1_t1_loop i).lb (k1_t1_loop i).ub (k1_t1_loop i).st = (i 2).val :=
  (by decide +kernel : ∀ n : Fin 30, Scf.trips 0#32 (Scalar.addi 0#32 (Scalar.muli (Scalar.divsi (Scalar.subi (BitVec.ofNat 32 n.val) 0#32) 1#32) 1#32)) 1#32 = n.val) (i 2)

theorem t3_trips (i : grid1.Coords) : Scf.trips (k1_t3_loop i).lb (k1_t3_loop i).ub (k1_t3_loop i).st = (i 2).val + 1 :=
  (by decide +kernel : ∀ n : Fin 30, Scf.trips 0#32 (Scalar.addi 0#32 (Scalar.muli (Scalar.divsi (Scalar.subi (Scalar.addi (BitVec.ofNat 32 n.val) 1#32) 0#32) 1#32) 1#32)) 1#32 = n.val + 1) (i 2)

/-- The class of invariants of the first pass's loop. -/
abbrev Inv1 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole) (v0 : Vec F S1x256x128 .i8) (init : BitVec 32) :=
  Idealize.ShloMosaic.LoopInv (M := 𝕄G) Idealize.ShloMosaic.frame (wpE defs₀ 𝒱 (c : Thread nD τ) bd) E
    (k1_t1_loop i).lb (k1_t1_loop i).ub (k1_t1_loop i).st (k1_t1_ok i) init (k1_t1_body (F := F) i arg4 harg4 arg5 harg5 arg6 harg6 arg7 harg7 arg8 harg8 arg9 harg9 arg10 harg10 arg11 harg11 arg12 harg12 arg13 harg13 v0)

set_option warn.classDefReducibility false in
/-- The first pass: before chunk `k` the scores of the chunks before it are kept and the maximum is theirs. -/
def inv1 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole) (v0 : Vec F S1x256x128 .i8)
    (X5 : BufTy.Contents (Elt F) arg5.view.ty) (X6 : BufTy.Contents (Elt F) arg6.view.ty) (init : BitVec 32) :
    Inv1 (F := F) 𝒱 c bd E i arg4 harg4 arg5 harg5 arg6 harg6 arg7 harg7 arg8 harg8 arg9 harg9 arg10 harg10 arg11 harg11 arg12 harg12 arg13 harg13 v0 init where
  inv k acc := iprop((arg5.view.loc (c : Thread nD τ) ↦[arg5.view.set]{fullShare} X5) ∗ (arg6.view.loc (c : Thread nD τ) ↦[arg6.view.set]{fullShare} X6)
    ∗ (∃ f, (arg10.view.loc (c : Thread nD τ) ↦[arg10.view.set]{fullShare} f) ∗ ⌜∀ y, (y 0).val < 256 * k → arg10.view.read (Elt F) f y = sU v0 (arg5.view.read (Elt F) X5) (arg6.view.read (Elt F) X6) (i 2).val y⌝)
    ∗ (∃ f, (arg11.view.loc (c : Thread nD τ) ↦[arg11.view.set]{fullShare} f) ∗ ⌜arg11.view.read (Elt F) f = mAt v0 (arg5.view.read (Elt F) X5) (arg6.view.read (Elt F) X6) k⌝))
  step k acc := by
    iintro ⟨H5, H6, ⟨%f10, H10, %h10⟩, ⟨%f11, H11, %h11⟩⟩
    unfold k1_t1_body
    sl_exec
    sl_step
    have hi : (i 2).val < 30 := (i 2).isLt
    have hk : k.val < (i 2).val := (t1_trips i) ▸ k.isLt
    have hK := kBlk_eq (F := F) (v := arg6.view) X6 k.val (by omega) (k1_off1_eq i k) (k1_off1_inb i k)
    have hc := cRd_eq (F := F) (v := arg5.view) X5 (fun r => k1_off2 i k (BitVec.ofNat 32 r.val)) (fun r => k1_off3 i k (BitVec.ofNat 32 r.val))
      (fun r => k1_off2_inb i k r) (fun r => k1_off3_inb i k r) k.val (by omega) (k1_off2_eq i k) (k1_off3_eq i k)
    isplitl [H5]; · iexact H5
    isplitl [H6]; · iexact H6
    isplitl [H10]
    · iexists _; isplitl [H10]; · iexact H10
      ipureintro
      refine put4 (v := arg10.view) f10 (sU v0 (arg5.view.read (Elt F) X5) (arg6.view.read (Elt F) X6) (i 2).val) (256 * k.val)
        (fun r => k1_off4 i k (BitVec.ofNat 32 (64 * r.val))) (k1_off4_eq i k) _ _ _ _ _ _ _ _ ?_ ?_ ?_ ?_ h10
      · exact fun x y h0 h1 => (congrFun (show _ = tile _ _ _ k.val 0 by rw [tile, ← hK, ← hc]; rfl) x).trans (sU_tile _ _ _ _ _ hk 0 x y h0 h1)
      · exact fun x y h0 h1 => (congrFun (show _ = tile _ _ _ k.val 1 by rw [tile, ← hK, ← hc]; rfl) x).trans (sU_tile _ _ _ _ _ hk 1 x y h0 h1)
      · exact fun x y h0 h1 => (congrFun (show _ = tile _ _ _ k.val 2 by rw [tile, ← hK, ← hc]; rfl) x).trans (sU_tile _ _ _ _ _ hk 2 x y h0 h1)
      · exact fun x y h0 h1 => (congrFun (show _ = tile _ _ _ k.val 3 by rw [tile, ← hK, ← hc]; rfl) x).trans (sU_tile _ _ _ _ _ hk 3 x y h0 h1)
    · iexists _; isplitl [H11]; · iexact H11
      ipureintro
      refine (read_writes_whole (s := S8x256) (v := arg11.view) f11 hz2 _ _ _).trans ?_
      show mStepK v0 (View.readAt (Elt F) arg6.view (Rect.unit (s := S1x1x7680x128) (k1_off1 i k) S1x1x256x128.size (k1_off1_inb i k)).toLoadRect X6)
          (cRd X5 (fun r => k1_off2 i k (BitVec.ofNat 32 r.val)) (fun r => k1_off3 i k (BitVec.ofNat 32 r.val))
      (fun r => k1_off2_inb i k r) (fun r => k1_off3_inb i k r)) (View.readAt (Elt F) arg11.view (Rect.unit (s := S8x256) ![0, 0] S8x256.size inb_S8x256_S8x256_0_0).toLoadRect f11) = _
      rw [hK, hc, readAt_whole (s := S8x256) (v := arg11.view) f11 hz2, h11]
      rfl

/-- The class of invariants of the loop of no trips between the first pass and the diagonal chunk. -/
abbrev Inv2 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole) (v0 : Vec F S1x256x128 .i8) (v12 init : BitVec 32) :=
  Idealize.ShloMosaic.LoopInv (M := 𝕄G) Idealize.ShloMosaic.frame (wpE defs₀ 𝒱 (c : Thread nD τ) bd) E
    (k1_t2_loop i).lb (k1_t2_loop i).ub (k1_t2_loop i).st (k1_t2_ok i) init (k1_t2_body (F := F) i arg4 harg4 arg5 harg5 arg6 harg6 arg7 harg7 arg8 harg8 arg9 harg9 arg10 harg10 arg11 harg11 arg12 harg12 arg13 harg13 v0 v12)

set_option warn.classDefReducibility false in
/-- It runs no trip: what is held stays. -/
@[sl_loop] def inv2 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole) (v0 : Vec F S1x256x128 .i8) (v12 : BitVec 32)
    (X10 : BufTy.Contents (Elt F) arg10.view.ty) (X11 : BufTy.Contents (Elt F) arg11.view.ty) (init : BitVec 32) :
    Inv2 (F := F) 𝒱 c bd E i arg4 harg4 arg5 harg5 arg6 harg6 arg7 harg7 arg8 harg8 arg9 harg9 arg10 harg10 arg11 harg11 arg12 harg12 arg13 harg13 v0 v12 init where
  inv k acc := iprop((arg10.view.loc (c : Thread nD τ) ↦[arg10.view.set]{fullShare} X10) ∗ (arg11.view.loc (c : Thread nD τ) ↦[arg11.view.set]{fullShare} X11))
  step k acc := absurd k.isLt (Nat.not_lt.2 (Nat.le_trans (k1_t2_abs i).2.1 (Nat.zero_le _)))

/-- The class of invariants of the second pass's loop. -/
abbrev Inv3 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole) (init : BitVec 32) :=
  Idealize.ShloMosaic.LoopInv (M := 𝕄G) Idealize.ShloMosaic.frame (wpE defs₀ 𝒱 (c : Thread nD τ) bd) E
    (k1_t3_loop i).lb (k1_t3_loop i).ub (k1_t3_loop i).st (k1_t3_ok i) init (k1_t3_body (F := F) i arg4 harg4 arg5 harg5 arg6 harg6 arg7 harg7 arg8 harg8 arg9 harg9 arg10 harg10 arg11 harg11 arg12 harg12 arg13 harg13)

set_option warn.classDefReducibility false in
/-- The second pass: before chunk `k` the sums are those over the chunks before it. -/
def inv3 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole)
    (x4 : Vec F S1x256x128 .i8) (x5 : Vec F S1x1x1x2x120 .f32) (x6 : Vec F S1x1x7680x128 .i8)
    (X7 : BufTy.Contents (Elt F) arg7.view.ty) (X10 : BufTy.Contents (Elt F) arg10.view.ty) (X11 : BufTy.Contents (Elt F) arg11.view.ty)
    (h10 : ∀ y, (y 0).val < 256 * (i 2).val + 256 → arg10.view.read (Elt F) X10 y = sU x4 x5 x6 (i 2).val y)
    (h11 : arg11.view.read (Elt F) X11 = mFin x4 x5 x6 (i 2).val) (init : BitVec 32) :
    Inv3 (F := F) 𝒱 c bd E i arg4 harg4 arg5 harg5 arg6 harg6 arg7 harg7 arg8 harg8 arg9 harg9 arg10 harg10 arg11 harg11 arg12 harg12 arg13 harg13 init where
  inv k acc := iprop((arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} X11)
    ∗ (∃ f, (arg12.view.loc (c : Thread nD τ) ↦[arg12.view.set]{fullShare} f) ∗ ⌜arg12.view.read (Elt F) f = lAt x4 x5 x6 (i 2).val k⌝)
    ∗ (∃ f, (arg13.view.loc (c : Thread nD τ) ↦[arg13.view.set]{fullShare} f) ∗ ⌜arg13.view.read (Elt F) f = accAt x4 x5 x6 (arg7.view.read (Elt F) X7) (i 2).val k⌝))
  step k acc := by
    iintro ⟨H7, H10, H11, ⟨%f12, H12, %h12⟩, ⟨%f13, H13, %h13⟩⟩
    unfold k1_t3_body
    sl_exec
    sl_step
    have hi : (i 2).val < 30 := (i 2).isLt
    have hk : k.val < (i 2).val + 1 := (t3_trips i) ▸ k.isLt
    have hS := sCh_eq (F := F) (v := arg10.view) X10 x4 x5 x6 (i 2).val k.val hi (by omega) h10 (k1_off13_eq i k) (k1_off13_inb i k)
    have hV := vBlk_eq (F := F) (v := arg7.view) X7 k.val (by omega) (k1_off14_eq i k) (k1_off14_inb i k)
    have hm := (readAt_whole (F := F) (s := S8x256) (v := arg11.view) X11 hz2 inb_S8x256_S8x256_0_0).trans h11
    isplitl [H7]; · iexact H7
    isplitl [H10]; · iexact H10
    isplitl [H11]; · iexact H11
    isplitl [H12]
    · iexists _; isplitl [H12]; · iexact H12
      ipureintro
      refine (read_writes_whole (s := S8x256) (v := arg12.view) f12 hz2 _ _ _).trans ?_
      refine Eq.trans (show _ = k1_pay2 (View.readAt (Elt F) arg10.view (Rect.unit (s := S7680x256) (k1_off13 i k) S256x256.size (k1_off13_inb i k)).toLoadRect X10)
        (View.readAt (Elt F) arg11.view (Rect.unit (s := S8x256) ![0, 0] S8x256.size inb_S8x256_S8x256_0_0).toLoadRect X11)
        (View.readAt (Elt F) arg12.view (Rect.unit (s := S8x256) ![0, 0] S8x256.size inb_S8x256_S8x256_0_0).toLoadRect f12) from rfl) ?_
      rw [hS, hm, readAt_whole (s := S8x256) (v := arg12.view) f12 hz2, h12]
      rfl
    · iexists _; isplitl [H13]; · iexact H13
      ipureintro
      refine (read_writes_whole (s := S128x256) (v := arg13.view) f13 hz2 _ _ _).trans ?_
      refine Eq.trans (show _ = k1_pay3 (View.readAt (Elt F) arg10.view (Rect.unit (s := S7680x256) (k1_off13 i k) S256x256.size (k1_off13_inb i k)).toLoadRect X10)
        (View.readAt (Elt F) arg11.view (Rect.unit (s := S8x256) ![0, 0] S8x256.size inb_S8x256_S8x256_0_0).toLoadRect X11)
        (View.readAt (Elt F) arg7.view (Rect.unit (s := S1x1x128x7680) (k1_off14 i k) S1x1x128x256.size (k1_off14_inb i k)).toLoadRect X7)
        (View.readAt (Elt F) arg13.view (Rect.unit (s := S128x256) ![0, 0] S128x256.size inb_S128x256_S128x256_0_0).toLoadRect f13) from rfl) ?_
      rw [hS, hm, hV, readAt_whole (s := S128x256) (v := arg13.view) f13 hz2, h13]
      rfl

/-- The class of invariants of the loop of no trips after the second pass. -/
abbrev Inv4 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole) (init : BitVec 32) :=
  Idealize.ShloMosaic.LoopInv (M := 𝕄G) Idealize.ShloMosaic.frame (wpE defs₀ 𝒱 (c : Thread nD τ) bd) E
    (k1_t4_loop i).lb (k1_t4_loop i).ub (k1_t4_loop i).st (k1_t4_ok i) init (k1_t4_body (F := F) i arg4 harg4 arg5 harg5 arg6 harg6 arg7 harg7 arg8 harg8 arg9 harg9 arg10 harg10 arg11 harg11 arg12 harg12 arg13 harg13)

set_option warn.classDefReducibility false in
/-- It runs no trip: what is held stays. -/
@[sl_loop] def inv4 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole)
    (X12 : BufTy.Contents (Elt F) arg12.view.ty) (X13 : BufTy.Contents (Elt F) arg13.view.ty) (init : BitVec 32) :
    Inv4 (F := F) 𝒱 c bd E i arg4 harg4 arg5 harg5 arg6 harg6 arg7 harg7 arg8 harg8 arg9 harg9 arg10 harg10 arg11 harg11 arg12 harg12 arg13 harg13 init where
  inv k acc := iprop((arg12.view.loc (c : Thread nD τ) ↦[arg12.view.set]{fullShare} X12) ∗ (arg13.view.loc (c : Thread nD τ) ↦[arg13.view.set]{fullShare} X13))
  step k acc := absurd k.isLt (Nat.not_lt.2 (Nat.le_trans (k1_t4_abs i).2.1 (Nat.zero_le _)))

theorem self (P : sProp 𝕄G) : P ⊢ P := .rfl

theorem sound_kernel1 (c : Dev nD) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole)
    (x4 : Vec F S1x256x128 .i8) (x5 : Vec F S1x1x1x2x120 .f32) (x6 : Vec F S1x1x7680x128 .i8)
    (x7 : Vec F S1x1x128x7680 .fp8e4m3) (x8 : Vec F S1x1x1x128 .f32) (K : PUnit → sProp 𝕄G) :
    iprop(owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare (attnOut (i 2).val x4 x5 x6 x7 x8) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)) -∗ K ⟨⟩))
      ⊢ wp frame (wpE (defs₀ (F := F)) Variants.none c none) E (cc1_attn i arg4 harg4 arg5 harg5 arg6 harg6 arg7 harg7 arg8 harg8 arg9 harg9 arg10 harg10 arg11 harg11 arg12 harg12 arg13 harg13) K := by
  simp only [cc1_attn_eq_skeleton]; unfold cc1_attn_skel
  simp only [k1_part7_eq_skeleton, k1_part8_eq_skeleton, k1_part9_eq_skeleton, k1_part10_eq_skeleton, k1_part11_eq_skeleton]
  unfold owns
  iintro ⟨⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf4 hf5 hf6 hf7 hf8
  sl_exec
  have hv4 := readAt_whole (F := F) (s := S1x256x128) (v := arg4.view) f4 hz3 inb_S1x256x128_S1x256x128_0_0_0
  ihave H11' := (self iprop(∃ f, (arg11.view.loc (c : Thread nD τ) ↦[arg11.view.set]{fullShare} f) ∗ ⌜arg11.view.read (Elt F) f = mAt (View.readAt (Elt F) arg4.view (Rect.unit (s := S1x256x128) ![0, 0, 0] S1x256x128.size inb_S1x256x128_S1x256x128_0_0_0).toLoadRect f4) (arg5.view.read (Elt F) f5) (arg6.view.read (Elt F) f6) 0⌝)) $$ [H11]
  · iexists _; isplitl [H11]; · iexact H11
    ipureintro
    exact read_writes_whole (s := S8x256) (v := arg11.view) _ hz2 _ _ _
  icases H11' with ⟨%g11, H11, %h11⟩
  have h10 : ∀ y : S7680x256.Idx, (y 0).val < 256 * 0 → arg10.view.read (Elt F) f10 y
      = sU (View.readAt (Elt F) arg4.view (Rect.unit (s := S1x256x128) ![0, 0, 0] S1x256x128.size inb_S1x256x128_S1x256x128_0_0_0).toLoadRect f4) (arg5.view.read (Elt F) f5) (arg6.view.read (Elt F) f6) (i 2).val y := fun y h => absurd h (by omega)
  let I1 : Inv1 (F := F) Variants.none c none E i arg4 harg4 arg5 harg5 arg6 harg6 arg7 harg7 arg8 harg8 arg9 harg9 arg10 harg10 arg11 harg11 arg12 harg12 arg13 harg13 (View.readAt (Elt F) arg4.view (Rect.unit (s := S1x256x128) ![0, 0, 0] S1x256x128.size inb_S1x256x128_S1x256x128_0_0_0).toLoadRect f4) 0#32 :=
    inv1 Variants.none c none E i arg4 harg4 arg5 harg5 arg6 harg6 arg7 harg7 arg8 harg8 arg9 harg9 arg10 harg10 arg11 harg11 arg12 harg12 arg13 harg13 _ f5 f6 0#32
  sl_exec
  have hi : (i 2).val < 30 := (i 2).isLt
  have e10 := ‹∀ y : S7680x256.Idx, (y 0).val < 256 * Scf.trips (k1_t1_loop i).lb (k1_t1_loop i).ub (k1_t1_loop i).st → arg10.view.read (Elt F) fL0 y = _›
  have e11 := ‹arg11.view.read (Elt F) fL1 = _›
  rw [t1_trips] at e10 e11
  have hK := kBlk_eq (F := F) (v := arg6.view) f6 (i 2).val (by omega) (k1_off9_eq i) (k1_off9_inb i)
  have hc := cRd_eq (F := F) (v := arg5.view) f5 (fun r => k1_off10 i (BitVec.ofNat 32 r.val)) (fun r => k1_off11 i (BitVec.ofNat 32 r.val))
    (fun r => k1_off10_inb i r) (fun r => k1_off11_inb i r) (i 2).val (by omega) (k1_off10_eq i) (k1_off11_eq i)
  have hm := (readAt_whole (F := F) (s := S8x256) (v := arg11.view) fL1 hz2 inb_S8x256_S8x256_0_0).trans e11
  ihave H10' := (self iprop(∃ f, (arg10.view.loc (c : Thread nD τ) ↦[arg10.view.set]{fullShare} f) ∗ ⌜∀ y, (y 0).val < 256 * (i 2).val + 256 → arg10.view.read (Elt F) f y = sU (View.readAt (Elt F) arg4.view (Rect.unit (s := S1x256x128) ![0, 0, 0] S1x256x128.size inb_S1x256x128_S1x256x128_0_0_0).toLoadRect f4) (arg5.view.read (Elt F) f5) (arg6.view.read (Elt F) f6) (i 2).val y⌝)) $$ [H10]
  · iexists _; isplitl [H10]; · iexact H10
    ipureintro
    refine put4 (v := arg10.view) fL0 (sU (View.readAt (Elt F) arg4.view (Rect.unit (s := S1x256x128) ![0, 0, 0] S1x256x128.size inb_S1x256x128_S1x256x128_0_0_0).toLoadRect f4) (arg5.view.read (Elt F) f5) (arg6.view.read (Elt F) f6) (i 2).val) (256 * (i 2).val)
      (fun r => k1_off12 i (BitVec.ofNat 32 (64 * r.val))) (k1_off12_eq i) _ _ _ _ _ _ _ _ ?_ ?_ ?_ ?_ e10
    · exact fun x y h0 h1 => (congrFun (show _ = dtile _ _ _ (i 2).val 0 by rw [dtile, ← hK, ← hc]; rfl) x).trans (sU_dtile _ _ _ _ 0 x y h0 h1)
    · exact fun x y h0 h1 => (congrFun (show _ = dtile _ _ _ (i 2).val 1 by rw [dtile, ← hK, ← hc]; rfl) x).trans (sU_dtile _ _ _ _ 1 x y h0 h1)
    · exact fun x y h0 h1 => (congrFun (show _ = dtile _ _ _ (i 2).val 2 by rw [dtile, ← hK, ← hc]; rfl) x).trans (sU_dtile _ _ _ _ 2 x y h0 h1)
    · exact fun x y h0 h1 => (congrFun (show _ = dtile _ _ _ (i 2).val 3 by rw [dtile, ← hK, ← hc]; rfl) x).trans (sU_dtile _ _ _ _ 3 x y h0 h1)
  icases H10' with ⟨%g10, H10, %a10⟩
  ihave H11' := (self iprop(∃ f, (arg11.view.loc (c : Thread nD τ) ↦[arg11.view.set]{fullShare} f) ∗ ⌜arg11.view.read (Elt F) f = mFin (View.readAt (Elt F) arg4.view (Rect.unit (s := S1x256x128) ![0, 0, 0] S1x256x128.size inb_S1x256x128_S1x256x128_0_0_0).toLoadRect f4) (arg5.view.read (Elt F) f5) (arg6.view.read (Elt F) f6) (i 2).val⌝)) $$ [H11]
  · iexists _; isplitl [H11]; · iexact H11
    ipureintro
    refine (read_writes_whole (s := S8x256) (v := arg11.view) _ hz2 _ _ _).trans ?_
    unfold mFin
    rw [← hK, ← hc, ← hm]
    refine congrArg k1_pay64 ((readAt_whole (F := F) (s := S8x256) (v := arg11.view) _ hz2 inb_S8x256_S8x256_0_0).trans
      ((read_writes_whole (s := S8x256) (v := arg11.view) _ hz2 _ _ _).trans rfl))
  icases H11' with ⟨%k11, H11, %a11⟩
  ihave H12' := (self iprop(∃ f, (arg12.view.loc (c : Thread nD τ) ↦[arg12.view.set]{fullShare} f) ∗ ⌜arg12.view.read (Elt F) f = lAt (View.readAt (Elt F) arg4.view (Rect.unit (s := S1x256x128) ![0, 0, 0] S1x256x128.size inb_S1x256x128_S1x256x128_0_0_0).toLoadRect f4) (arg5.view.read (Elt F) f5) (arg6.view.read (Elt F) f6) (i 2).val 0⌝)) $$ [H12]
  · iexists _; isplitl [H12]; · iexact H12
    ipureintro
    exact read_writes_whole (s := S8x256) (v := arg12.view) _ hz2 _ _ _
  icases H12' with ⟨%g12, H12, %a12⟩
  ihave H13' := (self iprop(∃ f, (arg13.view.loc (c : Thread nD τ) ↦[arg13.view.set]{fullShare} f) ∗ ⌜arg13.view.read (Elt F) f = accAt (View.readAt (Elt F) arg4.view (Rect.unit (s := S1x256x128) ![0, 0, 0] S1x256x128.size inb_S1x256x128_S1x256x128_0_0_0).toLoadRect f4) (arg5.view.read (Elt F) f5) (arg6.view.read (Elt F) f6) (arg7.view.read (Elt F) f7) (i 2).val 0⌝)) $$ [H13]
  · iexists _; isplitl [H13]; · iexact H13
    ipureintro
    exact read_writes_whole (s := S128x256) (v := arg13.view) _ hz2 _ _ _
  icases H13' with ⟨%g13, H13, %a13⟩
  let I3 : Inv3 (F := F) Variants.none c none E i arg4 harg4 arg5 harg5 arg6 harg6 arg7 harg7 arg8 harg8 arg9 harg9 arg10 harg10 arg11 harg11 arg12 harg12 arg13 harg13 0#32 :=
    inv3 Variants.none c none E i arg4 harg4 arg5 harg5 arg6 harg6 arg7 harg7 arg8 harg8 arg9 harg9 arg10 harg10 arg11 harg11 arg12 harg12 arg13 harg13 (View.readAt (Elt F) arg4.view (Rect.unit (s := S1x256x128) ![0, 0, 0] S1x256x128.size inb_S1x256x128_S1x256x128_0_0_0).toLoadRect f4) (arg5.view.read (Elt F) f5) (arg6.view.read (Elt F) f6) f7 g10 k11 a10 a11 0#32
  sl_exec
  sl_step
  rw [t3_trips] at hL4 hL6
  rw [hv4] at hL4 hL6
  iapply Hk
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole (s := S1x256x128) (v := arg9.view) _ hz3 _ _ _).trans ?_
    have r12 := (readAt_whole (F := F) (s := S8x256) (v := arg12.view) fL0 hz2 inb_S8x256_S8x256_0_0).trans hL4
    have r13 := (readAt_whole (F := F) (s := S128x256) (v := arg13.view) fL1 hz2 inb_S128x256_S128x256_0_0).trans hL6
    have r8 := readAt_whole (F := F) (s := S1x1x1x128) (v := arg8.view) f8 hz4 inb_S1x1x1x128_S1x1x1x128_0_0_0_0
    unfold attnOut
    rw [← r12, ← r13, ← r8]
    rfl
  isplitl [H10]
  · iexists _, g10; isplitr; · ipureintro; rfl
    iexact H10
  isplitl [H11]
  · iexists _, k11; isplitr; · ipureintro; rfl
    iexact H11
  isplitl [H12]
  · iexists _, fL0; isplitr; · ipureintro; rfl
    iexact H12
  iexists _, fL1; isplitr; · ipureintro; rfl
  iexact H13

end Cert.KernelIdeal.Body
-- ==== Proof.IdlQuant.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Quant

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body's accesses -/

abbrev r0_0 : Rect S1x256x5120 := Rect.unit (s := S1x256x5120) ![0, 0, 0] S1x128x128.size inb_S1x256x5120_S1x128x128_0_0_0
abbrev r0_1 : Rect S1x256x5120 := Rect.unit (s := S1x256x5120) ![0, 0, 128] S1x128x128.size inb_S1x256x5120_S1x128x128_0_0_128
abbrev r0_2 : Rect S1x256x5120 := Rect.unit (s := S1x256x5120) ![0, 0, 256] S1x128x128.size inb_S1x256x5120_S1x128x128_0_0_256
abbrev r0_3 : Rect S1x256x5120 := Rect.unit (s := S1x256x5120) ![0, 0, 384] S1x128x128.size inb_S1x256x5120_S1x128x128_0_0_384
abbrev r0_4 : Rect S1x256x5120 := Rect.unit (s := S1x256x5120) ![0, 0, 512] S1x128x128.size inb_S1x256x5120_S1x128x128_0_0_512
abbrev r0_5 : Rect S1x256x5120 := Rect.unit (s := S1x256x5120) ![0, 0, 640] S1x128x128.size inb_S1x256x5120_S1x128x128_0_0_640
abbrev r0_6 : Rect S1x256x5120 := Rect.unit (s := S1x256x5120) ![0, 0, 768] S1x128x128.size inb_S1x256x5120_S1x128x128_0_0_768
abbrev r0_7 : Rect S1x256x5120 := Rect.unit (s := S1x256x5120) ![0, 0, 896] S1x128x128.size inb_S1x256x5120_S1x128x128_0_0_896
abbrev r0_8 : Rect S1x256x5120 := Rect.unit (s := S1x256x5120) ![0, 0, 1024] S1x128x128.size inb_S1x256x5120_S1x128x128_0_0_1024
abbrev r0_9 : Rect S1x256x5120 := Rect.unit (s := S1x256x5120) ![0, 0, 1152] S1x128x128.size inb_S1x256x5120_S1x128x128_0_0_1152
abbrev r0_10 : Rect S1x256x5120 := Rect.unit (s := S1x256x5120) ![0, 0, 1280] S1x128x128.size inb_S1x256x5120_S1x128x128_0_0_1280
abbrev r0_11 : Rect S1x256x5120 := Rect.unit (s := S1x256x5120) ![0, 0, 1408] S1x128x128.size inb_S1x256x5120_S1x128x128_0_0_1408
abbrev r0_12 : Rect S1x256x5120 := Rect.unit (s := S1x256x5120) ![0, 0, 1536] S1x128x128.size inb_S1x256x5120_S1x128x128_0_0_1536
abbrev r0_13 : Rect S1x256x5120 := Rect.unit (s := S1x256x5120) ![0, 0, 1664] S1x128x128.size inb_S1x256x5120_S1x128x128_0_0_1664
abbrev r0_14 : Rect S1x256x5120 := Rect.unit (s := S1x256x5120) ![0, 0, 1792] S1x128x128.size inb_S1x256x5120_S1x128x128_0_0_1792
abbrev r0_15 : Rect S1x256x5120 := Rect.unit (s := S1x256x5120) ![0, 0, 1920] S1x128x128.size inb_S1x256x5120_S1x128x128_0_0_1920
abbrev r0_16 : Rect S1x256x5120 := Rect.unit (s := S1x256x5120) ![0, 0, 2048] S1x128x128.size inb_S1x256x5120_S1x128x128_0_0_2048
abbrev r0_17 : Rect S1x256x5120 := Rect.unit (s := S1x256x5120) ![0, 0, 2176] S1x128x128.size inb_S1x256x5120_S1x128x128_0_0_2176
abbrev r0_18 : Rect S1x256x5120 := Rect.unit (s := S1x256x5120) ![0, 0, 2304] S1x128x128.size inb_S1x256x5120_S1x128x128_0_0_2304
abbrev r0_19 : Rect S1x256x5120 := Rect.unit (s := S1x256x5120) ![0, 0, 2432] S1x128x128.size inb_S1x256x5120_S1x128x128_0_0_2432
abbrev r0_20 : Rect S1x256x5120 := Rect.unit (s := S1x256x5120) ![0, 0, 2560] S1x128x128.size inb_S1x256x5120_S1x128x128_0_0_2560
abbrev r0_21 : Rect S1x256x5120 := Rect.unit (s := S1x256x5120) ![0, 0, 2688] S1x128x128.size inb_S1x256x5120_S1x128x128_0_0_2688
abbrev r0_22 : Rect S1x256x5120 := Rect.unit (s := S1x256x5120) ![0, 0, 2816] S1x128x128.size inb_S1x256x5120_S1x128x128_0_0_2816
abbrev r0_23 : Rect S1x256x5120 := Rect.unit (s := S1x256x5120) ![0, 0, 2944] S1x128x128.size inb_S1x256x5120_S1x128x128_0_0_2944
abbrev r0_24 : Rect S1x256x5120 := Rect.unit (s := S1x256x5120) ![0, 0, 3072] S1x128x128.size inb_S1x256x5120_S1x128x128_0_0_3072
abbrev r0_25 : Rect S1x256x5120 := Rect.unit (s := S1x256x5120) ![0, 0, 3200] S1x128x128.size inb_S1x256x5120_S1x128x128_0_0_3200
abbrev r0_26 : Rect S1x256x5120 := Rect.unit (s := S1x256x5120) ![0, 0, 3328] S1x128x128.size inb_S1x256x5120_S1x128x128_0_0_3328
abbrev r0_27 : Rect S1x256x5120 := Rect.unit (s := S1x256x5120) ![0, 0, 3456] S1x128x128.size inb_S1x256x5120_S1x128x128_0_0_3456
abbrev r0_28 : Rect S1x256x5120 := Rect.unit (s := S1x256x5120) ![0, 0, 3584] S1x128x128.size inb_S1x256x5120_S1x128x128_0_0_3584
abbrev r0_29 : Rect S1x256x5120 := Rect.unit (s := S1x256x5120) ![0, 0, 3712] S1x128x128.size inb_S1x256x5120_S1x128x128_0_0_3712
abbrev r0_30 : Rect S1x256x5120 := Rect.unit (s := S1x256x5120) ![0, 0, 3840] S1x128x128.size inb_S1x256x5120_S1x128x128_0_0_3840
abbrev r0_31 : Rect S1x256x5120 := Rect.unit (s := S1x256x5120) ![0, 0, 3968] S1x128x128.size inb_S1x256x5120_S1x128x128_0_0_3968
abbrev r0_32 : Rect S1x256x5120 := Rect.unit (s := S1x256x5120) ![0, 0, 4096] S1x128x128.size inb_S1x256x5120_S1x128x128_0_0_4096
abbrev r0_33 : Rect S1x256x5120 := Rect.unit (s := S1x256x5120) ![0, 0, 4224] S1x128x128.size inb_S1x256x5120_S1x128x128_0_0_4224
abbrev r0_34 : Rect S1x256x5120 := Rect.unit (s := S1x256x5120) ![0, 0, 4352] S1x128x128.size inb_S1x256x5120_S1x128x128_0_0_4352
abbrev r0_35 : Rect S1x256x5120 := Rect.unit (s := S1x256x5120) ![0, 0, 4480] S1x128x128.size inb_S1x256x5120_S1x128x128_0_0_4480
abbrev r0_36 : Rect S1x256x5120 := Rect.unit (s := S1x256x5120) ![0, 0, 4608] S1x128x128.size inb_S1x256x5120_S1x128x128_0_0_4608
abbrev r0_37 : Rect S1x256x5120 := Rect.unit (s := S1x256x5120) ![0, 0, 4736] S1x128x128.size inb_S1x256x5120_S1x128x128_0_0_4736
abbrev r0_38 : Rect S1x256x5120 := Rect.unit (s := S1x256x5120) ![0, 0, 4864] S1x128x128.size inb_S1x256x5120_S1x128x128_0_0_4864
abbrev r0_39 : Rect S1x256x5120 := Rect.unit (s := S1x256x5120) ![0, 0, 4992] S1x128x128.size inb_S1x256x5120_S1x128x128_0_0_4992
abbrev r0_40 : Rect S1x256x5120 := Rect.unit (s := S1x256x5120) ![0, 128, 0] S1x128x128.size inb_S1x256x5120_S1x128x128_0_128_0
abbrev r0_41 : Rect S1x256x5120 := Rect.unit (s := S1x256x5120) ![0, 128, 128] S1x128x128.size inb_S1x256x5120_S1x128x128_0_128_128
abbrev r0_42 : Rect S1x256x5120 := Rect.unit (s := S1x256x5120) ![0, 128, 256] S1x128x128.size inb_S1x256x5120_S1x128x128_0_128_256
abbrev r0_43 : Rect S1x256x5120 := Rect.unit (s := S1x256x5120) ![0, 128, 384] S1x128x128.size inb_S1x256x5120_S1x128x128_0_128_384
abbrev r0_44 : Rect S1x256x5120 := Rect.unit (s := S1x256x5120) ![0, 128, 512] S1x128x128.size inb_S1x256x5120_S1x128x128_0_128_512
abbrev r0_45 : Rect S1x256x5120 := Rect.unit (s := S1x256x5120) ![0, 128, 640] S1x128x128.size inb_S1x256x5120_S1x128x128_0_128_640
abbrev r0_46 : Rect S1x256x5120 := Rect.unit (s := S1x256x5120) ![0, 128, 768] S1x128x128.size inb_S1x256x5120_S1x128x128_0_128_768
abbrev r0_47 : Rect S1x256x5120 := Rect.unit (s := S1x256x5120) ![0, 128, 896] S1x128x128.size inb_S1x256x5120_S1x128x128_0_128_896
abbrev r0_48 : Rect S1x256x5120 := Rect.unit (s := S1x256x5120) ![0, 128, 1024] S1x128x128.size inb_S1x256x5120_S1x128x128_0_128_1024
abbrev r0_49 : Rect S1x256x5120 := Rect.unit (s := S1x256x5120) ![0, 128, 1152] S1x128x128.size inb_S1x256x5120_S1x128x128_0_128_1152
abbrev r0_50 : Rect S1x256x5120 := Rect.unit (s := S1x256x5120) ![0, 128, 1280] S1x128x128.size inb_S1x256x5120_S1x128x128_0_128_1280
abbrev r0_51 : Rect S1x256x5120 := Rect.unit (s := S1x256x5120) ![0, 128, 1408] S1x128x128.size inb_S1x256x5120_S1x128x128_0_128_1408
abbrev r0_52 : Rect S1x256x5120 := Rect.unit (s := S1x256x5120) ![0, 128, 1536] S1x128x128.size inb_S1x256x5120_S1x128x128_0_128_1536
abbrev r0_53 : Rect S1x256x5120 := Rect.unit (s := S1x256x5120) ![0, 128, 1664] S1x128x128.size inb_S1x256x5120_S1x128x128_0_128_1664
abbrev r0_54 : Rect S1x256x5120 := Rect.unit (s := S1x256x5120) ![0, 128, 1792] S1x128x128.size inb_S1x256x5120_S1x128x128_0_128_1792
abbrev r0_55 : Rect S1x256x5120 := Rect.unit (s := S1x256x5120) ![0, 128, 1920] S1x128x128.size inb_S1x256x5120_S1x128x128_0_128_1920
abbrev r0_56 : Rect S1x256x5120 := Rect.unit (s := S1x256x5120) ![0, 128, 2048] S1x128x128.size inb_S1x256x5120_S1x128x128_0_128_2048
abbrev r0_57 : Rect S1x256x5120 := Rect.unit (s := S1x256x5120) ![0, 128, 2176] S1x128x128.size inb_S1x256x5120_S1x128x128_0_128_2176
abbrev r0_58 : Rect S1x256x5120 := Rect.unit (s := S1x256x5120) ![0, 128, 2304] S1x128x128.size inb_S1x256x5120_S1x128x128_0_128_2304
abbrev r0_59 : Rect S1x256x5120 := Rect.unit (s := S1x256x5120) ![0, 128, 2432] S1x128x128.size inb_S1x256x5120_S1x128x128_0_128_2432
abbrev r0_60 : Rect S1x256x5120 := Rect.unit (s := S1x256x5120) ![0, 128, 2560] S1x128x128.size inb_S1x256x5120_S1x128x128_0_128_2560
abbrev r0_61 : Rect S1x256x5120 := Rect.unit (s := S1x256x5120) ![0, 128, 2688] S1x128x128.size inb_S1x256x5120_S1x128x128_0_128_2688
abbrev r0_62 : Rect S1x256x5120 := Rect.unit (s := S1x256x5120) ![0, 128, 2816] S1x128x128.size inb_S1x256x5120_S1x128x128_0_128_2816
abbrev r0_63 : Rect S1x256x5120 := Rect.unit (s := S1x256x5120) ![0, 128, 2944] S1x128x128.size inb_S1x256x5120_S1x128x128_0_128_2944
abbrev r0_64 : Rect S1x256x5120 := Rect.unit (s := S1x256x5120) ![0, 128, 3072] S1x128x128.size inb_S1x256x5120_S1x128x128_0_128_3072
abbrev r0_65 : Rect S1x256x5120 := Rect.unit (s := S1x256x5120) ![0, 128, 3200] S1x128x128.size inb_S1x256x5120_S1x128x128_0_128_3200
abbrev r0_66 : Rect S1x256x5120 := Rect.unit (s := S1x256x5120) ![0, 128, 3328] S1x128x128.size inb_S1x256x5120_S1x128x128_0_128_3328
abbrev r0_67 : Rect S1x256x5120 := Rect.unit (s := S1x256x5120) ![0, 128, 3456] S1x128x128.size inb_S1x256x5120_S1x128x128_0_128_3456
abbrev r0_68 : Rect S1x256x5120 := Rect.unit (s := S1x256x5120) ![0, 128, 3584] S1x128x128.size inb_S1x256x5120_S1x128x128_0_128_3584
abbrev r0_69 : Rect S1x256x5120 := Rect.unit (s := S1x256x5120) ![0, 128, 3712] S1x128x128.size inb_S1x256x5120_S1x128x128_0_128_3712
abbrev r0_70 : Rect S1x256x5120 := Rect.unit (s := S1x256x5120) ![0, 128, 3840] S1x128x128.size inb_S1x256x5120_S1x128x128_0_128_3840
abbrev r0_71 : Rect S1x256x5120 := Rect.unit (s := S1x256x5120) ![0, 128, 3968] S1x128x128.size inb_S1x256x5120_S1x128x128_0_128_3968
abbrev r0_72 : Rect S1x256x5120 := Rect.unit (s := S1x256x5120) ![0, 128, 4096] S1x128x128.size inb_S1x256x5120_S1x128x128_0_128_4096
abbrev r0_73 : Rect S1x256x5120 := Rect.unit (s := S1x256x5120) ![0, 128, 4224] S1x128x128.size inb_S1x256x5120_S1x128x128_0_128_4224
abbrev r0_74 : Rect S1x256x5120 := Rect.unit (s := S1x256x5120) ![0, 128, 4352] S1x128x128.size inb_S1x256x5120_S1x128x128_0_128_4352
abbrev r0_75 : Rect S1x256x5120 := Rect.unit (s := S1x256x5120) ![0, 128, 4480] S1x128x128.size inb_S1x256x5120_S1x128x128_0_128_4480
abbrev r0_76 : Rect S1x256x5120 := Rect.unit (s := S1x256x5120) ![0, 128, 4608] S1x128x128.size inb_S1x256x5120_S1x128x128_0_128_4608
abbrev r0_77 : Rect S1x256x5120 := Rect.unit (s := S1x256x5120) ![0, 128, 4736] S1x128x128.size inb_S1x256x5120_S1x128x128_0_128_4736
abbrev r0_78 : Rect S1x256x5120 := Rect.unit (s := S1x256x5120) ![0, 128, 4864] S1x128x128.size inb_S1x256x5120_S1x128x128_0_128_4864
abbrev r0_79 : Rect S1x256x5120 := Rect.unit (s := S1x256x5120) ![0, 128, 4992] S1x128x128.size inb_S1x256x5120_S1x128x128_0_128_4992
abbrev r0_80 : Rect S1x1x2x40 := Rect.unit (s := S1x1x2x40) ![0, 0, 0, 0] S1x1x2x40.size inb_S1x1x2x40_S1x1x2x40_0_0_0_0

/-! ## What the body leaves in each output window's buffer -/

/-! ### Values of the body that the stores' payloads, spelt out, would write more than once

    Each is a vector the body binds (often a part call's result), stated over the input windows' blocks and
    numbered on from the skeleton's payload functions (`qv308` …, after `k0_pay307`), so that
    `out0_W` and the values after it name it instead of spelling it out (`unfold_out out0_W` opens a canon
    with them, `unfold_payloads` opens them with the payloads); the comment after each is the printed function's
    name for the value (a count appended where that name is bound again). -/

def qv308 (x0 : Vec F S1x256x5120 .bf16) : FVec F S1x1 .f32 :=
  k0_pay6 (View.ld x0 r0_1) -- `v36`
def qv309 (x0 : Vec F S1x256x5120 .bf16) : FVec F S128x128 .f32 :=
  k0_pay17 (View.ld x0 r0_4) -- `v113`
def qv310 (x0 : Vec F S1x256x5120 .bf16) : IVec S1x1 1 :=
  k0_pay32 (View.ld x0 r0_8) -- `v227`
def qv311 (x0 : Vec F S1x256x5120 .bf16) : FVec F S1x1 .f32 :=
  k0_pay33 (View.ld x0 r0_8) -- `v229`
def qv312 (x0 : Vec F S1x256x5120 .bf16) : FVec F S1x1 .f32 :=
  k0_pay44 (View.ld x0 r0_11) -- `v306`
def qv313 (x0 : Vec F S1x256x5120 .bf16) : FVec F S128x128 .f32 :=
  k0_pay55 (View.ld x0 r0_14) -- `v383`
def qv314 (x0 : Vec F S1x256x5120 .bf16) : IVec S1x1 1 :=
  k0_pay70 (View.ld x0 r0_18) -- `v497`
def qv315 (x0 : Vec F S1x256x5120 .bf16) : FVec F S1x1 .f32 :=
  k0_pay71 (View.ld x0 r0_18) -- `v499`
def qv316 (x0 : Vec F S1x256x5120 .bf16) : FVec F S1x1 .f32 :=
  k0_pay82 (View.ld x0 r0_21) -- `v576`
def qv317 (x0 : Vec F S1x256x5120 .bf16) : FVec F S128x128 .f32 :=
  k0_pay93 (View.ld x0 r0_24) -- `v653`
def qv318 (x0 : Vec F S1x256x5120 .bf16) : IVec S1x1 1 :=
  k0_pay108 (View.ld x0 r0_28) -- `v767`
def qv319 (x0 : Vec F S1x256x5120 .bf16) : FVec F S1x1 .f32 :=
  k0_pay109 (View.ld x0 r0_28) -- `v769`
def qv320 (x0 : Vec F S1x256x5120 .bf16) : FVec F S1x1 .f32 :=
  k0_pay120 (View.ld x0 r0_31) -- `v846`
def qv321 (x0 : Vec F S1x256x5120 .bf16) : FVec F S128x128 .f32 :=
  k0_pay131 (View.ld x0 r0_34) -- `v923`
def qv322 (x0 : Vec F S1x256x5120 .bf16) : IVec S1x1 1 :=
  k0_pay146 (View.ld x0 r0_38) -- `v1037`
def qv323 (x0 : Vec F S1x256x5120 .bf16) : FVec F S1x1 .f32 :=
  k0_pay147 (View.ld x0 r0_38) -- `v1039`
def qv324 (x0 : Vec F S1x256x5120 .bf16) : FVec F S1 .f32 :=
  k0_pay159 (View.ld x0 r0_41) -- `v1116`
def qv325 (x0 : Vec F S1x256x5120 .bf16) : FVec F S128x128 .f32 :=
  k0_pay170 (View.ld x0 r0_44) -- `v1193`
def qv326 (x0 : Vec F S1x256x5120 .bf16) : FVec F S1x1 .f32 :=
  k0_pay184 (View.ld x0 r0_48) -- `v1306`
def qv327 (x0 : Vec F S1x256x5120 .bf16) : IVec S1x1 1 :=
  k0_pay185 (View.ld x0 r0_48) -- `v1308`
def qv328 (x0 : Vec F S1x256x5120 .bf16) : FVec F S1x1 .f32 :=
  k0_pay186 (F := F) -- `v1309`
def qv329 (x0 : Vec F S1x256x5120 .bf16) : FVec F S1 .f32 :=
  k0_pay197 (View.ld x0 r0_51) -- `v1386`
def qv330 (x0 : Vec F S1x256x5120 .bf16) : FVec F S128x128 .f32 :=
  k0_pay208 (View.ld x0 r0_54) -- `v1463`
def qv331 (x0 : Vec F S1x256x5120 .bf16) : FVec F S1x1 .f32 :=
  k0_pay222 (View.ld x0 r0_58) -- `v1576`
def qv332 (x0 : Vec F S1x256x5120 .bf16) : IVec S1x1 1 :=
  k0_pay223 (View.ld x0 r0_58) -- `v1578`
def qv333 (x0 : Vec F S1x256x5120 .bf16) : FVec F S1x1 .f32 :=
  k0_pay224 (F := F) -- `v1579`
def qv334 (x0 : Vec F S1x256x5120 .bf16) : FVec F S1 .f32 :=
  k0_pay235 (View.ld x0 r0_61) -- `v1656`
def qv335 (x0 : Vec F S1x256x5120 .bf16) : FVec F S128x128 .f32 :=
  k0_pay246 (View.ld x0 r0_64) -- `v1733`
def qv336 (x0 : Vec F S1x256x5120 .bf16) : FVec F S1x1 .f32 :=
  k0_pay260 (View.ld x0 r0_68) -- `v1846`
def qv337 (x0 : Vec F S1x256x5120 .bf16) : IVec S1x1 1 :=
  k0_pay261 (View.ld x0 r0_68) -- `v1848`
def qv338 (x0 : Vec F S1x256x5120 .bf16) : FVec F S1x1 .f32 :=
  k0_pay262 (F := F) -- `v1849`
def qv339 (x0 : Vec F S1x256x5120 .bf16) : FVec F S1 .f32 :=
  k0_pay273 (View.ld x0 r0_71) -- `v1926`
def qv340 (x0 : Vec F S1x256x5120 .bf16) : FVec F S128x128 .f32 :=
  k0_pay284 (View.ld x0 r0_74) -- `v2003`
def qv341 (x0 : Vec F S1x256x5120 .bf16) : FVec F S1x1 .f32 :=
  k0_pay298 (View.ld x0 r0_78) -- `v2116`
def qv342 (x0 : Vec F S1x256x5120 .bf16) : IVec S1x1 1 :=
  k0_pay299 (View.ld x0 r0_78) -- `v2118`
def qv343 (x0 : Vec F S1x256x5120 .bf16) : FVec F S1x1 .f32 :=
  k0_pay300 (F := F) -- `v2119`

/-- Window 1's staging buffer after the body, from the input windows' blocks: its 80 stores as pieces, LAST
    FIRST (Lib/Pipeline/FrameBody.lean `View.canon`; the payloads are the skeleton's and the values stated above). -/
def out0_1 (x0 : Vec F S1x256x5120 .bf16) : Vec F S1x256x5120 .i8 :=
  View.canon [⟨r0_79, k0_pay306 (k0_pay305 (View.ld x0 r0_79))⟩,
    ⟨r0_78, k0_pay302 (k0_pay297 (View.ld x0 r0_78)) (qv341 x0) (qv342 x0) (qv343 x0)⟩,
    ⟨r0_77, k0_pay296 (View.ld x0 r0_77)⟩,
    ⟨r0_76, k0_pay293 (View.ld x0 r0_76)⟩,
    ⟨r0_75, k0_pay290 (k0_pay289 (View.ld x0 r0_75))⟩,
    ⟨r0_74, k0_pay286 (qv340 x0)⟩,
    ⟨r0_73, k0_pay283 (View.ld x0 r0_73)⟩,
    ⟨r0_72, k0_pay280 (k0_pay278 (View.ld x0 r0_72)) (k0_pay279 (F := F))⟩,
    ⟨r0_71, k0_pay275 (k0_pay272 (View.ld x0 r0_71)) (qv339 x0)⟩,
    ⟨r0_70, k0_pay271 (View.ld x0 r0_70)⟩,
    ⟨r0_69, k0_pay268 (k0_pay267 (View.ld x0 r0_69))⟩,
    ⟨r0_68, k0_pay264 (k0_pay259 (View.ld x0 r0_68)) (qv336 x0) (qv337 x0) (qv338 x0)⟩,
    ⟨r0_67, k0_pay258 (View.ld x0 r0_67)⟩,
    ⟨r0_66, k0_pay255 (View.ld x0 r0_66)⟩,
    ⟨r0_65, k0_pay252 (k0_pay251 (View.ld x0 r0_65))⟩,
    ⟨r0_64, k0_pay248 (qv335 x0)⟩,
    ⟨r0_63, k0_pay245 (View.ld x0 r0_63)⟩,
    ⟨r0_62, k0_pay242 (k0_pay240 (View.ld x0 r0_62)) (k0_pay241 (F := F))⟩,
    ⟨r0_61, k0_pay237 (k0_pay234 (View.ld x0 r0_61)) (qv334 x0)⟩,
    ⟨r0_60, k0_pay233 (View.ld x0 r0_60)⟩,
    ⟨r0_59, k0_pay230 (k0_pay229 (View.ld x0 r0_59))⟩,
    ⟨r0_58, k0_pay226 (k0_pay221 (View.ld x0 r0_58)) (qv331 x0) (qv332 x0) (qv333 x0)⟩,
    ⟨r0_57, k0_pay220 (View.ld x0 r0_57)⟩,
    ⟨r0_56, k0_pay217 (View.ld x0 r0_56)⟩,
    ⟨r0_55, k0_pay214 (k0_pay213 (View.ld x0 r0_55))⟩,
    ⟨r0_54, k0_pay210 (qv330 x0)⟩,
    ⟨r0_53, k0_pay207 (View.ld x0 r0_53)⟩,
    ⟨r0_52, k0_pay204 (k0_pay202 (View.ld x0 r0_52)) (k0_pay203 (F := F))⟩,
    ⟨r0_51, k0_pay199 (k0_pay196 (View.ld x0 r0_51)) (qv329 x0)⟩,
    ⟨r0_50, k0_pay195 (View.ld x0 r0_50)⟩,
    ⟨r0_49, k0_pay192 (k0_pay191 (View.ld x0 r0_49))⟩,
    ⟨r0_48, k0_pay188 (k0_pay183 (View.ld x0 r0_48)) (qv326 x0) (qv327 x0) (qv328 x0)⟩,
    ⟨r0_47, k0_pay182 (View.ld x0 r0_47)⟩,
    ⟨r0_46, k0_pay179 (View.ld x0 r0_46)⟩,
    ⟨r0_45, k0_pay176 (k0_pay175 (View.ld x0 r0_45))⟩,
    ⟨r0_44, k0_pay172 (qv325 x0)⟩,
    ⟨r0_43, k0_pay169 (View.ld x0 r0_43)⟩,
    ⟨r0_42, k0_pay166 (k0_pay164 (View.ld x0 r0_42)) (k0_pay165 (F := F))⟩,
    ⟨r0_41, k0_pay161 (k0_pay158 (View.ld x0 r0_41)) (qv324 x0)⟩,
    ⟨r0_40, k0_pay157 (View.ld x0 r0_40)⟩,
    ⟨r0_39, k0_pay153 (k0_pay152 (View.ld x0 r0_39))⟩,
    ⟨r0_38, k0_pay149 (k0_pay144 (View.ld x0 r0_38)) (qv322 x0) (qv323 x0)⟩,
    ⟨r0_37, k0_pay143 (View.ld x0 r0_37)⟩,
    ⟨r0_36, k0_pay140 (View.ld x0 r0_36)⟩,
    ⟨r0_35, k0_pay137 (k0_pay136 (View.ld x0 r0_35))⟩,
    ⟨r0_34, k0_pay133 (k0_pay130 (View.ld x0 r0_34)) (qv321 x0)⟩,
    ⟨r0_33, k0_pay129 (View.ld x0 r0_33)⟩,
    ⟨r0_32, k0_pay126 (k0_pay125 (View.ld x0 r0_32))⟩,
    ⟨r0_31, k0_pay122 (k0_pay119 (View.ld x0 r0_31)) (qv320 x0)⟩,
    ⟨r0_30, k0_pay118 (View.ld x0 r0_30)⟩,
    ⟨r0_29, k0_pay115 (k0_pay114 (View.ld x0 r0_29))⟩,
    ⟨r0_28, k0_pay111 (k0_pay106 (View.ld x0 r0_28)) (qv318 x0) (qv319 x0)⟩,
    ⟨r0_27, k0_pay105 (View.ld x0 r0_27)⟩,
    ⟨r0_26, k0_pay102 (View.ld x0 r0_26)⟩,
    ⟨r0_25, k0_pay99 (k0_pay98 (View.ld x0 r0_25))⟩,
    ⟨r0_24, k0_pay95 (k0_pay92 (View.ld x0 r0_24)) (qv317 x0)⟩,
    ⟨r0_23, k0_pay91 (View.ld x0 r0_23)⟩,
    ⟨r0_22, k0_pay88 (k0_pay87 (View.ld x0 r0_22))⟩,
    ⟨r0_21, k0_pay84 (k0_pay81 (View.ld x0 r0_21)) (qv316 x0)⟩,
    ⟨r0_20, k0_pay80 (View.ld x0 r0_20)⟩,
    ⟨r0_19, k0_pay77 (k0_pay76 (View.ld x0 r0_19))⟩,
    ⟨r0_18, k0_pay73 (k0_pay68 (View.ld x0 r0_18)) (qv314 x0) (qv315 x0)⟩,
    ⟨r0_17, k0_pay67 (View.ld x0 r0_17)⟩,
    ⟨r0_16, k0_pay64 (View.ld x0 r0_16)⟩,
    ⟨r0_15, k0_pay61 (k0_pay60 (View.ld x0 r0_15))⟩,
    ⟨r0_14, k0_pay57 (k0_pay54 (View.ld x0 r0_14)) (qv313 x0)⟩,
    ⟨r0_13, k0_pay53 (View.ld x0 r0_13)⟩,
    ⟨r0_12, k0_pay50 (k0_pay49 (View.ld x0 r0_12))⟩,
    ⟨r0_11, k0_pay46 (k0_pay43 (View.ld x0 r0_11)) (qv312 x0)⟩,
    ⟨r0_10, k0_pay42 (View.ld x0 r0_10)⟩,
    ⟨r0_9, k0_pay39 (k0_pay38 (View.ld x0 r0_9))⟩,
    ⟨r0_8, k0_pay35 (k0_pay30 (View.ld x0 r0_8)) (qv310 x0) (qv311 x0)⟩,
    ⟨r0_7, k0_pay29 (View.ld x0 r0_7)⟩,
    ⟨r0_6, k0_pay26 (View.ld x0 r0_6)⟩,
    ⟨r0_5, k0_pay23 (k0_pay22 (View.ld x0 r0_5))⟩,
    ⟨r0_4, k0_pay19 (k0_pay16 (View.ld x0 r0_4)) (qv309 x0)⟩,
    ⟨r0_3, k0_pay15 (View.ld x0 r0_3)⟩,
    ⟨r0_2, k0_pay12 (k0_pay11 (View.ld x0 r0_2))⟩,
    ⟨r0_1, k0_pay8 (k0_pay5 (View.ld x0 r0_1)) (qv308 x0)⟩,
    ⟨r0_0, k0_pay4 (View.ld x0 r0_0)⟩]

/-- Its stores tile the buffer (checked by evaluation), so they cover it. -/
theorem cover0_1 (p0 : Vec F S1x128x128 .i8) (p1 : Vec F S1x128x128 .i8) (p2 : Vec F S1x128x128 .i8) (p3 : Vec F S1x128x128 .i8) (p4 : Vec F S1x128x128 .i8) (p5 : Vec F S1x128x128 .i8) (p6 : Vec F S1x128x128 .i8) (p7 : Vec F S1x128x128 .i8) (p8 : Vec F S1x128x128 .i8) (p9 : Vec F S1x128x128 .i8) (p10 : Vec F S1x128x128 .i8) (p11 : Vec F S1x128x128 .i8) (p12 : Vec F S1x128x128 .i8) (p13 : Vec F S1x128x128 .i8) (p14 : Vec F S1x128x128 .i8) (p15 : Vec F S1x128x128 .i8) (p16 : Vec F S1x128x128 .i8) (p17 : Vec F S1x128x128 .i8) (p18 : Vec F S1x128x128 .i8) (p19 : Vec F S1x128x128 .i8) (p20 : Vec F S1x128x128 .i8) (p21 : Vec F S1x128x128 .i8) (p22 : Vec F S1x128x128 .i8) (p23 : Vec F S1x128x128 .i8) (p24 : Vec F S1x128x128 .i8) (p25 : Vec F S1x128x128 .i8) (p26 : Vec F S1x128x128 .i8) (p27 : Vec F S1x128x128 .i8) (p28 : Vec F S1x128x128 .i8) (p29 : Vec F S1x128x128 .i8) (p30 : Vec F S1x128x128 .i8) (p31 : Vec F S1x128x128 .i8) (p32 : Vec F S1x128x128 .i8) (p33 : Vec F S1x128x128 .i8) (p34 : Vec F S1x128x128 .i8) (p35 : Vec F S1x128x128 .i8) (p36 : Vec F S1x128x128 .i8) (p37 : Vec F S1x128x128 .i8) (p38 : Vec F S1x128x128 .i8) (p39 : Vec F S1x128x128 .i8) (p40 : Vec F S1x128x128 .i8) (p41 : Vec F S1x128x128 .i8) (p42 : Vec F S1x128x128 .i8) (p43 : Vec F S1x128x128 .i8) (p44 : Vec F S1x128x128 .i8) (p45 : Vec F S1x128x128 .i8) (p46 : Vec F S1x128x128 .i8) (p47 : Vec F S1x128x128 .i8) (p48 : Vec F S1x128x128 .i8) (p49 : Vec F S1x128x128 .i8) (p50 : Vec F S1x128x128 .i8) (p51 : Vec F S1x128x128 .i8) (p52 : Vec F S1x128x128 .i8) (p53 : Vec F S1x128x128 .i8) (p54 : Vec F S1x128x128 .i8) (p55 : Vec F S1x128x128 .i8) (p56 : Vec F S1x128x128 .i8) (p57 : Vec F S1x128x128 .i8) (p58 : Vec F S1x128x128 .i8) (p59 : Vec F S1x128x128 .i8) (p60 : Vec F S1x128x128 .i8) (p61 : Vec F S1x128x128 .i8) (p62 : Vec F S1x128x128 .i8) (p63 : Vec F S1x128x128 .i8) (p64 : Vec F S1x128x128 .i8) (p65 : Vec F S1x128x128 .i8) (p66 : Vec F S1x128x128 .i8) (p67 : Vec F S1x128x128 .i8) (p68 : Vec F S1x128x128 .i8) (p69 : Vec F S1x128x128 .i8) (p70 : Vec F S1x128x128 .i8) (p71 : Vec F S1x128x128 .i8) (p72 : Vec F S1x128x128 .i8) (p73 : Vec F S1x128x128 .i8) (p74 : Vec F S1x128x128 .i8) (p75 : Vec F S1x128x128 .i8) (p76 : Vec F S1x128x128 .i8) (p77 : Vec F S1x128x128 .i8) (p78 : Vec F S1x128x128 .i8) (p79 : Vec F S1x128x128 .i8) (y : S1x256x5120.Idx) :
    ∃ pc ∈ ([⟨r0_79, p0⟩, ⟨r0_78, p1⟩, ⟨r0_77, p2⟩, ⟨r0_76, p3⟩, ⟨r0_75, p4⟩, ⟨r0_74, p5⟩, ⟨r0_73, p6⟩, ⟨r0_72, p7⟩, ⟨r0_71, p8⟩, ⟨r0_70, p9⟩, ⟨r0_69, p10⟩, ⟨r0_68, p11⟩, ⟨r0_67, p12⟩, ⟨r0_66, p13⟩, ⟨r0_65, p14⟩, ⟨r0_64, p15⟩, ⟨r0_63, p16⟩, ⟨r0_62, p17⟩, ⟨r0_61, p18⟩, ⟨r0_60, p19⟩, ⟨r0_59, p20⟩, ⟨r0_58, p21⟩, ⟨r0_57, p22⟩, ⟨r0_56, p23⟩, ⟨r0_55, p24⟩, ⟨r0_54, p25⟩, ⟨r0_53, p26⟩, ⟨r0_52, p27⟩, ⟨r0_51, p28⟩, ⟨r0_50, p29⟩, ⟨r0_49, p30⟩, ⟨r0_48, p31⟩, ⟨r0_47, p32⟩, ⟨r0_46, p33⟩, ⟨r0_45, p34⟩, ⟨r0_44, p35⟩, ⟨r0_43, p36⟩, ⟨r0_42, p37⟩, ⟨r0_41, p38⟩, ⟨r0_40, p39⟩, ⟨r0_39, p40⟩, ⟨r0_38, p41⟩, ⟨r0_37, p42⟩, ⟨r0_36, p43⟩, ⟨r0_35, p44⟩, ⟨r0_34, p45⟩, ⟨r0_33, p46⟩, ⟨r0_32, p47⟩, ⟨r0_31, p48⟩, ⟨r0_30, p49⟩, ⟨r0_29, p50⟩, ⟨r0_28, p51⟩, ⟨r0_27, p52⟩, ⟨r0_26, p53⟩, ⟨r0_25, p54⟩, ⟨r0_24, p55⟩, ⟨r0_23, p56⟩, ⟨r0_22, p57⟩, ⟨r0_21, p58⟩, ⟨r0_20, p59⟩, ⟨r0_19, p60⟩, ⟨r0_18, p61⟩, ⟨r0_17, p62⟩, ⟨r0_16, p63⟩, ⟨r0_15, p64⟩, ⟨r0_14, p65⟩, ⟨r0_13, p66⟩, ⟨r0_12, p67⟩, ⟨r0_11, p68⟩, ⟨r0_10, p69⟩, ⟨r0_9, p70⟩, ⟨r0_8, p71⟩, ⟨r0_7, p72⟩, ⟨r0_6, p73⟩, ⟨r0_5, p74⟩, ⟨r0_4, p75⟩, ⟨r0_3, p76⟩, ⟨r0_2, p77⟩, ⟨r0_1, p78⟩, ⟨r0_0, p79⟩] : List (View.Piece (Elt F) S1x256x5120 .i8)), y ∈ pc.1.set :=
  View.cover_of_tiled [⟨r0_79, p0⟩, ⟨r0_78, p1⟩, ⟨r0_77, p2⟩, ⟨r0_76, p3⟩, ⟨r0_75, p4⟩, ⟨r0_74, p5⟩, ⟨r0_73, p6⟩, ⟨r0_72, p7⟩, ⟨r0_71, p8⟩, ⟨r0_70, p9⟩, ⟨r0_69, p10⟩, ⟨r0_68, p11⟩, ⟨r0_67, p12⟩, ⟨r0_66, p13⟩, ⟨r0_65, p14⟩, ⟨r0_64, p15⟩, ⟨r0_63, p16⟩, ⟨r0_62, p17⟩, ⟨r0_61, p18⟩, ⟨r0_60, p19⟩, ⟨r0_59, p20⟩, ⟨r0_58, p21⟩, ⟨r0_57, p22⟩, ⟨r0_56, p23⟩, ⟨r0_55, p24⟩, ⟨r0_54, p25⟩, ⟨r0_53, p26⟩, ⟨r0_52, p27⟩, ⟨r0_51, p28⟩, ⟨r0_50, p29⟩, ⟨r0_49, p30⟩, ⟨r0_48, p31⟩, ⟨r0_47, p32⟩, ⟨r0_46, p33⟩, ⟨r0_45, p34⟩, ⟨r0_44, p35⟩, ⟨r0_43, p36⟩, ⟨r0_42, p37⟩, ⟨r0_41, p38⟩, ⟨r0_40, p39⟩, ⟨r0_39, p40⟩, ⟨r0_38, p41⟩, ⟨r0_37, p42⟩, ⟨r0_36, p43⟩, ⟨r0_35, p44⟩, ⟨r0_34, p45⟩, ⟨r0_33, p46⟩, ⟨r0_32, p47⟩, ⟨r0_31, p48⟩, ⟨r0_30, p49⟩, ⟨r0_29, p50⟩, ⟨r0_28, p51⟩, ⟨r0_27, p52⟩, ⟨r0_26, p53⟩, ⟨r0_25, p54⟩, ⟨r0_24, p55⟩, ⟨r0_23, p56⟩, ⟨r0_22, p57⟩, ⟨r0_21, p58⟩, ⟨r0_20, p59⟩, ⟨r0_19, p60⟩, ⟨r0_18, p61⟩, ⟨r0_17, p62⟩, ⟨r0_16, p63⟩, ⟨r0_15, p64⟩, ⟨r0_14, p65⟩, ⟨r0_13, p66⟩, ⟨r0_12, p67⟩, ⟨r0_11, p68⟩, ⟨r0_10, p69⟩, ⟨r0_9, p70⟩, ⟨r0_8, p71⟩, ⟨r0_7, p72⟩, ⟨r0_6, p73⟩, ⟨r0_5, p74⟩, ⟨r0_4, p75⟩, ⟨r0_3, p76⟩, ⟨r0_2, p77⟩, ⟨r0_1, p78⟩, ⟨r0_0, p79⟩] S1x128x128.size (by rfl) y

/-- Window 2's staging buffer after the body, from the input windows' blocks: its 1 store as pieces, LAST
    FIRST (Lib/Pipeline/FrameBody.lean `View.canon`; the payloads are the skeleton's and the values stated above). -/
def out0_2 (x0 : Vec F S1x256x5120 .bf16) : Vec F S1x1x2x40 .f32 :=
  View.canon [⟨r0_80, k0_pay1 (k0_pay154 (k0_pay3 (View.ld x0 r0_0)) (k0_pay7 (qv308 x0)) (k0_pay10 (View.ld x0 r0_2)) (k0_pay14 (View.ld x0 r0_3)) (k0_pay18 (qv309 x0)) (k0_pay21 (View.ld x0 r0_5)) (k0_pay25 (View.ld x0 r0_6)) (k0_pay28 (View.ld x0 r0_7)) (k0_pay34 (qv310 x0) (qv311 x0)) (k0_pay37 (View.ld x0 r0_9)) (k0_pay41 (View.ld x0 r0_10)) (k0_pay45 (qv312 x0)) (k0_pay48 (View.ld x0 r0_12)) (k0_pay52 (View.ld x0 r0_13)) (k0_pay56 (qv313 x0)) (k0_pay59 (View.ld x0 r0_15)) (k0_pay63 (View.ld x0 r0_16)) (k0_pay66 (View.ld x0 r0_17)) (k0_pay72 (qv314 x0) (qv315 x0)) (k0_pay75 (View.ld x0 r0_19)) (k0_pay79 (View.ld x0 r0_20)) (k0_pay83 (qv316 x0)) (k0_pay86 (View.ld x0 r0_22)) (k0_pay90 (View.ld x0 r0_23)) (k0_pay94 (qv317 x0)) (k0_pay97 (View.ld x0 r0_25)) (k0_pay101 (View.ld x0 r0_26)) (k0_pay104 (View.ld x0 r0_27)) (k0_pay110 (qv318 x0) (qv319 x0)) (k0_pay113 (View.ld x0 r0_29)) (k0_pay117 (View.ld x0 r0_30)) (k0_pay121 (qv320 x0)) (k0_pay124 (View.ld x0 r0_32)) (k0_pay128 (View.ld x0 r0_33)) (k0_pay132 (qv321 x0)) (k0_pay135 (View.ld x0 r0_35)) (k0_pay139 (View.ld x0 r0_36)) (k0_pay142 (View.ld x0 r0_37)) (k0_pay148 (qv322 x0) (qv323 x0)) (k0_pay151 (View.ld x0 r0_39))) (k0_pay307 (k0_pay156 (View.ld x0 r0_40)) (k0_pay160 (qv324 x0)) (k0_pay163 (View.ld x0 r0_42)) (k0_pay168 (View.ld x0 r0_43)) (k0_pay171 (qv325 x0)) (k0_pay174 (View.ld x0 r0_45)) (k0_pay178 (View.ld x0 r0_46)) (k0_pay181 (View.ld x0 r0_47)) (k0_pay187 (qv326 x0) (qv327 x0) (qv328 x0)) (k0_pay190 (View.ld x0 r0_49)) (k0_pay194 (View.ld x0 r0_50)) (k0_pay198 (qv329 x0)) (k0_pay201 (View.ld x0 r0_52)) (k0_pay206 (View.ld x0 r0_53)) (k0_pay209 (qv330 x0)) (k0_pay212 (View.ld x0 r0_55)) (k0_pay216 (View.ld x0 r0_56)) (k0_pay219 (View.ld x0 r0_57)) (k0_pay225 (qv331 x0) (qv332 x0) (qv333 x0)) (k0_pay228 (View.ld x0 r0_59)) (k0_pay232 (View.ld x0 r0_60)) (k0_pay236 (qv334 x0)) (k0_pay239 (View.ld x0 r0_62)) (k0_pay244 (View.ld x0 r0_63)) (k0_pay247 (qv335 x0)) (k0_pay250 (View.ld x0 r0_65)) (k0_pay254 (View.ld x0 r0_66)) (k0_pay257 (View.ld x0 r0_67)) (k0_pay263 (qv336 x0) (qv337 x0) (qv338 x0)) (k0_pay266 (View.ld x0 r0_69)) (k0_pay270 (View.ld x0 r0_70)) (k0_pay274 (qv339 x0)) (k0_pay277 (View.ld x0 r0_72)) (k0_pay282 (View.ld x0 r0_73)) (k0_pay285 (qv340 x0)) (k0_pay288 (View.ld x0 r0_75)) (k0_pay292 (View.ld x0 r0_76)) (k0_pay295 (View.ld x0 r0_77)) (k0_pay301 (qv341 x0) (qv342 x0) (qv343 x0)) (k0_pay304 (View.ld x0 r0_79)))⟩]

/-- Its stores tile the buffer (checked by evaluation), so they cover it. -/
theorem cover0_2 (p0 : Vec F S1x1x2x40 .f32) (y : S1x1x2x40.Idx) :
    ∃ pc ∈ ([⟨r0_80, p0⟩] : List (View.Piece (Elt F) S1x1x2x40 .f32)), y ∈ pc.1.set :=
  View.cover_of_tiled [⟨r0_80, p0⟩] S1x1x2x40.size (by rfl) y

/-! ## The body's triple -/

set_option maxHeartbeats 2400000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x256x5120 .bf16) (harg2 : arg2.IsWhole) (arg3 : Memref sig .tc .vmem S1x256x5120 .i8) (harg3 : arg3.IsWhole) (arg4 : Memref sig .tc .vmem S1x1x2x40 .f32) (harg4 : arg4.IsWhole)
    (x0 : Vec F S1x256x5120 .bf16) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (out0_1 x0) ∗ owns (c : Thread nD τ) arg4 fullShare (out0_2 x0)) -∗ K ⟨⟩))
      ⊢ wp frame (wpE (defs₀ (F := F)) Variants.none c none) E (cc0_quant_q i arg2 harg2 arg3 harg3 arg4 harg4) K := by
  simp only [cc0_quant_q_eq_skeleton]; unfold cc0_quant_q_skel
  simp only [k0_part57_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans ?_
    rfl
  iexists _; isplitr
  swap; · iexact H2
  ipureintro
  refine (View.read_writes_eq_canon _ _ _ (cover0_2 _)).trans ?_
  rfl

end Cert.KernelIdeal.Quant
-- ==== Proof.IdlDats.lean ====
module

public import proofs.«01_k».proof.Proof.IdlBody
public import proofs.«01_k».proof.Proof.IdlQuant
public import proofs.«01_k».proof.Proof.Gen.KernelIdeal.Regions
public import Idealize.ShloMosaic.Lib.Pipeline.RegionArraysS

@[expose] public section

set_option maxRecDepth 16384
set_option maxHeartbeats 4000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

/-! ## The two calls' proof data, at any contents `V` of the buffers on entry -/

section Dats

variable (V : Dev nD → Valuation τ sig (Elt F))

/-- The first call's block of window `w` at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The second call's block of window `w` at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The first call: the codes' and the scales' blocks are what the body makes of the queries' block. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => Quant.out0_1 (iblk0 V c 0 t)
    | ⟨2, _⟩ => Quant.out0_2 (iblk0 V c 0 t)
  Φ _ := Pipeline.ΦA spec0 c
  q _ := fullShare
  owed _ := 0

/-- The second call: the result's block is the attention of the blocks it reads. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => Body.attnOut ((grid1.coords t) 2).val (iblk1 V c 0 t) (iblk1 V c 1 t) (iblk1 V c 2 t) (iblk1 V c 3 t) (iblk1 V c 4 t)
  Φ _ := Pipeline.ΦA spec1 c
  q _ := fullShare
  owed _ := 0

theorem A0 (c : Dev nD) (w : Fin cfg0.W) : (dat0 V c).A w = V c (Proc.devRef .tc (Pipeline.arrRef spec0 w)) := by dsimp only [dat0]
theorem A1 (c : Dev nD) (w : Fin cfg1.W) : (dat1 V c).A w = V c (Proc.devRef .tc (Pipeline.arrRef spec1 w)) := by dsimp only [dat1]

theorem after0_0 (c : Dev nD) (t : Fin cfg0.N) : (dat0 V c).after 0 t = iblk0 V c 0 t := by dsimp only [dat0]
theorem after0_1 (c : Dev nD) (t : Fin cfg0.N) : (dat0 V c).after 1 t = Quant.out0_1 (iblk0 V c 0 t) := by dsimp only [dat0]
theorem after0_2 (c : Dev nD) (t : Fin cfg0.N) : (dat0 V c).after 2 t = Quant.out0_2 (iblk0 V c 0 t) := by dsimp only [dat0]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = Body.attnOut ((grid1.coords t) 2).val (iblk1 V c 0 t) (iblk1 V c 1 t) (iblk1 V c 2 t) (iblk1 V c 3 t) (iblk1 V c 4 t) := by dsimp only [dat1]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0]; try rfl) t d).trans
    (by unfold Dat.fetched Dat.blockOf iblk0; rw [A0]; try rfl)
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1]; try rfl) t d).trans
    (by unfold Dat.fetched Dat.blockOf iblk1; rw [A1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1]; try rfl) t d).trans
    (by unfold Dat.fetched Dat.blockOf iblk1; rw [A1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1]; try rfl) t d).trans
    (by unfold Dat.fetched Dat.blockOf iblk1; rw [A1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1]; try rfl) t d).trans
    (by unfold Dat.fetched Dat.blockOf iblk1; rw [A1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A1]; try rfl) t d).trans
    (by unfold Dat.fetched Dat.blockOf iblk1; rw [A1]; try rfl)

/-! ## The body obligations -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (Quant.sound_kernel c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5,
    show (dat1 V c).Φ t.castSucc = Pipeline.ΦA spec1 c from rfl]
  unfold Pipeline.ΦA
  rw [scopedRest1_eq]
  iintro ⟨⟨⟨Ha, Hb, Hc, Hd, He, Hf, ⟨%s0, S0⟩, ⟨%s1, S1⟩, ⟨%s2, S2⟩, ⟨%s3, S3⟩⟩, Hp⟩, Ho, ⟨%d0, H0⟩, ⟨%d1, H1⟩, ⟨%d2, H2⟩, ⟨%d3, H3⟩, ⟨%d4, H4⟩, ⟨%d5, H5⟩⟩
  iapply (Body.sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  iintro ⟨H0, H1, H2, H3, H4, H5, ⟨%u0, S0⟩, ⟨%u1, S1⟩, ⟨%u2, S2⟩, ⟨%u3, S3⟩⟩
  isplitl [Ha Hb Hc Hd He Hf S0 S1 S2 S3 Hp]
  · isplitl [Ha Hb Hc Hd He Hf S0 S1 S2 S3]
    · isplitl [Ha]; · iexact Ha
      isplitl [Hb]; · iexact Hb
      isplitl [Hc]; · iexact Hc
      isplitl [Hd]; · iexact Hd
      isplitl [He]; · iexact He
      isplitl [Hf]; · iexact Hf
      isplitl [S0]; · iexists u0; rw [← owns_whole]; iexact S0
      isplitl [S1]; · iexists u1; rw [← owns_whole]; iexact S1
      isplitl [S2]; · iexists u2; rw [← owns_whole]; iexact S2
      iexists u3; rw [← owns_whole]; iexact S3
    iexact Hp
  isplitl [Ho]; · iexact Ho
  isplitl [H0]; · iexact H0
  isplitl [H1]; · iexact H1
  isplitl [H2]; · iexact H2
  isplitl [H3]; · iexact H3
  isplitl [H4]; · iexact H4
  iexact H5

theorem defs₀_row1 (t : Fin cfg1.N) :
    defs₀ (F := F) .tc cfg1.body (cfg1.bodyArgs t (cfg1.slots t)) = bodyAt1 t := by
  unfold defs₀; rw [Defs.onTc_tc]

theorem obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Dats
end Cert.KernelIdeal.Run

end
-- ==== Proof.IdlRegs.lean ====
module

public import proofs.«01_k».proof.Proof.IdlDats
public import proofs.«01_k».proof.Proof.Gen.KernelIdeal.Regions
public import Idealize.ShloMosaic.Lib.Pipeline.RegionArraysS

@[expose] public section

set_option maxRecDepth 16384
set_option maxHeartbeats 4000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

/-! ## The run -/

section Run

variable (m : (ℓ : Loc nD τ sig) → Buf (Elt F) ℓ) (ρ : Dev nD → PrngReg)

/-- Core `c`'s buffers at launch. -/
def W0 (c : Dev nD) : Valuation τ sig (Elt F) := fun b => m (c, b)
/-- After the first call. -/
def W1 (c : Dev nD) : Valuation τ sig (Elt F) := Pipeline.afterRegion (dat0 (W0 m) c) (W0 m c)
/-- After the operations between the calls. -/
def W2 (c : Dev nD) : Valuation τ sig (Elt F) := StableHlo.after hostOps1 (W1 m c)
/-- After the second call. -/
def W3 (c : Dev nD) : Valuation τ sig (Elt F) := Pipeline.afterRegion (dat1 (W2 m) c) (W2 m c)

/-- Both calls' proof data, each at the contents it is entered with. -/
def pdats : (p : Fin 2) → (c : Dev nD) → Dat τ (Elt F) Unit ℕ (UR sig nD τ) ℕ (cfgs p) c
  | ⟨0, _⟩ => dat0 (W0 m)
  | ⟨1, _⟩ => dat1 (W2 m)

abbrev L (g : GSem nD τ sig) : Finset Unit := if g.1.2 = .tc then {()} else ∅
abbrev lv (_ : GSem nD τ sig) (_ : Unit) : ℕ := 0

/-- The core's random number register, at something. -/
def reg (c : Dev nD) : sProp 𝕄 := iprop(∃ r, prngReg c r)

/-- What a core holds beside its buffers between the calls. -/
def rest (c : Dev nD) : sProp 𝕄 :=
  iprop((∃ Wd, owes (c : Thread nD τ) (0 : CellTallies nD τ sig Unit) Wd) ∗ reg c ∗ BI.emp)

theorem cut (p : Fin 2) : Pipeline.LevelCut (pcfgs (F := F)) adm () L lv p (fun _ => (0 : CellTallies nD τ sig Unit)) (fun _ => 0) where
  hι := fun c w r => by simp [L, Pipeline.cellOf]
  hιb := fun c w r => le_refl 0
  hD := fun c g i h => absurd h (lt_irrefl 0)

theorem body0 : ∀ c, Pipeline.BodyObligationLoose (pdats m 0 c) (defs₀ (F := F)) Variants.none () Set.univ :=
  fun c => (obligation0 (W0 m) c).loose
theorem owed0 : ∀ c t, (pdats m 0 c).owed t = (fun _ : Dev nD => (0 : CellTallies nD τ sig Unit)) c := fun _ _ => rfl
theorem rec0 : ∀ c, (pdats m 0 c).recorded 0 = Set.univ := fun _ => rfl
theorem share0 : ∀ c w, (pdats m 0 c).share w = fullShare := fun c => (dat0 (W0 m) c).share_full fun _ => rfl
theorem in0 : ∀ c, iprop(Pipeline.scopedRest (Pipeline.pin (pcfgs (F := F)) adm 0).spec c ∗ reg c) ⊢ (pdats m 0 c).Φ 0 := fun _ => .rfl
theorem out0 : ∀ c, (pdats m 0 c).Φ (Fin.last (Pipeline.pin (pcfgs (F := F)) adm 0).N) ⊢ iprop(Pipeline.scopedRest (Pipeline.pin (pcfgs (F := F)) adm 0).spec c ∗ reg c) := fun _ => .rfl
theorem entry0 : ∀ c w, (pdats m 0 c).arrAt w 0 = W0 m c (Proc.devRef .tc (Pipeline.arrRef (Pipeline.pin (pcfgs (F := F)) adm 0).spec w)) :=
  fun c w => A0 (W0 m) c w
theorem noTable0 : (pcfgs (F := F) 0).pre.K = 0 := rfl
theorem arrs0 : Pipeline.arrRefs (τ := τ) (pcfgs (F := F) 0).spec ⊆ Pipeline.ucRefs τ sig := Pipeline.arrRefs_sub_ucRefs _ winFacts0.arr_unscoped
theorem facts0 : Pipeline.PLaunchFacts (nD := nD) (τ := τ) (pcfgs (F := F)) 0 := launch0.toP

def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    reg reg facts0 noTable0 (body0 m) (owed0 m) (rec0 m) (share0 m) (in0 m) (out0 m) (fun _ => 0) (cut 0) (fun _ => BI.emp) (W0 m) (entry0 m)

theorem pre0 (c : Dev nD) : iprop(StableHlo.held (c : Thread nD τ) (Pipeline.ucRefs τ sig) (W0 m c) ∗ rest c) ⊢ (R0 m).pre c := by
  unfold R0 rest
  exact RegionSeg.ofHeldIn_pre (pcs := pcfgs (F := F)) (a := adm) (pdats := pdats m) (ι := ()) (defs₀ := defs₀) (𝒱₀ := Variants.none) (L := L) (lv := lv) (D := fun _ => 0) (p := 0) (S := Pipeline.ucRefs τ sig) (X := reg) (Y := reg) (R := fun _ => BI.emp) arrs0 c
theorem post0 (c : Dev nD) : (R0 m).post c ⊢ iprop(StableHlo.held (c : Thread nD τ) (Pipeline.ucRefs τ sig) (W1 m c) ∗ rest c) := by
  unfold R0 rest W1
  exact RegionSeg.ofHeldIn_post (pcs := pcfgs (F := F)) (a := adm) (pdats := pdats m) (ι := ()) (defs₀ := defs₀) (𝒱₀ := Variants.none) (L := L) (lv := lv) (D := fun _ => 0) (p := 0) (S := Pipeline.ucRefs τ sig) (X := reg) (Y := reg) (R := fun _ => BI.emp) arrs0 c

theorem body1 : ∀ c, Pipeline.BodyObligationLoose (pdats m 1 c) (defs₀ (F := F)) Variants.none () Set.univ :=
  fun c => (obligation1 (W2 m) c).loose
theorem owed1 : ∀ c t, (pdats m 1 c).owed t = (fun _ : Dev nD => (0 : CellTallies nD τ sig Unit)) c := fun _ _ => rfl
theorem rec1 : ∀ c, (pdats m 1 c).recorded 0 = Set.univ := fun _ => rfl
theorem share1 : ∀ c w, (pdats m 1 c).share w = fullShare := fun c => (dat1 (W2 m) c).share_full fun _ => rfl
theorem in1 : ∀ c, iprop(Pipeline.scopedRest (Pipeline.pin (pcfgs (F := F)) adm 1).spec c ∗ reg c) ⊢ (pdats m 1 c).Φ 0 := fun _ => .rfl
theorem out1 : ∀ c, (pdats m 1 c).Φ (Fin.last (Pipeline.pin (pcfgs (F := F)) adm 1).N) ⊢ iprop(Pipeline.scopedRest (Pipeline.pin (pcfgs (F := F)) adm 1).spec c ∗ reg c) := fun _ => .rfl
theorem entry1 : ∀ c w, (pdats m 1 c).arrAt w 0 = W2 m c (Proc.devRef .tc (Pipeline.arrRef (Pipeline.pin (pcfgs (F := F)) adm 1).spec w)) :=
  fun c w => A1 (W2 m) c w
theorem noTable1 : (pcfgs (F := F) 1).pre.K = 0 := rfl
theorem arrs1 : Pipeline.arrRefs (τ := τ) (pcfgs (F := F) 1).spec ⊆ Pipeline.ucRefs τ sig := Pipeline.arrRefs_sub_ucRefs _ winFacts1.arr_unscoped
theorem facts1 : Pipeline.PLaunchFacts (nD := nD) (τ := τ) (pcfgs (F := F)) 1 := launch1.toP

def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    reg reg facts1 noTable1 (body1 m) (owed1 m) (rec1 m) (share1 m) (in1 m) (out1 m) (fun _ => 0) (cut 1) (fun _ => BI.emp) (W2 m) (entry1 m)

theorem pre1 (c : Dev nD) : iprop(StableHlo.held (c : Thread nD τ) (Pipeline.ucRefs τ sig) (W2 m c) ∗ rest c) ⊢ (R1 m).pre c := by
  unfold R1 rest
  exact RegionSeg.ofHeldIn_pre (pcs := pcfgs (F := F)) (a := adm) (pdats := pdats m) (ι := ()) (defs₀ := defs₀) (𝒱₀ := Variants.none) (L := L) (lv := lv) (D := fun _ => 0) (p := 1) (S := Pipeline.ucRefs τ sig) (X := reg) (Y := reg) (R := fun _ => BI.emp) arrs1 c
theorem post1 (c : Dev nD) : (R1 m).post c ⊢ iprop(StableHlo.held (c : Thread nD τ) (Pipeline.ucRefs τ sig) (W3 m c) ∗ rest c) := by
  unfold R1 rest W3
  exact RegionSeg.ofHeldIn_post (pcs := pcfgs (F := F)) (a := adm) (pdats := pdats m) (ι := ()) (defs₀ := defs₀) (𝒱₀ := Variants.none) (L := L) (lv := lv) (D := fun _ => 0) (p := 1) (S := Pipeline.ucRefs τ sig) (X := reg) (Y := reg) (R := fun _ => BI.emp) arrs1 c
end Run

end Cert.KernelIdeal.Run
-- ==== Proof.IdlRun.lean ====
module

public import proofs.«01_k».proof.Proof.IdlRegs
public import Idealize.ShloMosaic.Adequacy
public import Idealize.ShloMosaic.Init

@[expose] public section

set_option maxRecDepth 16384
set_option maxHeartbeats 4000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each item leaves as it was -/

/-- The first call changes only the codes and the scales. -/
theorem W1_of (c : Dev nD) (r : Ref sig .tc) (h : ∀ w, Pipeline.arrRef spec0 w = r → (cfg0.win w).isOut = false) : W1 m c r = W0 m c r :=
  Pipeline.afterRegion_keeps (dat0 (W0 m) c) (W0 m c) winFacts0.arr_inj (fun w => A0 (W0 m) c w) r h
/-- The host operations change only what they write. -/
theorem W2_of (c : Dev nD) (r : Ref sig .tc) (h : r ∉ hostOps1_W) : W2 m c r = W1 m c r :=
  StableHlo.after_of_writes_sub hostOps1 _ hostOps1_writes h
/-- The second call changes only the result. -/
theorem W3_of (c : Dev nD) (r : Ref sig .tc) (h : ∀ w, Pipeline.arrRef spec1 w = r → (cfg1.win w).isOut = false) : W3 m c r = W2 m c r :=
  Pipeline.afterRegion_keeps (dat1 (W2 m) c) (W2 m c) winFacts1.arr_inj (fun w => A1 (W2 m) c w) r h

theorem W3_arg0 (c : Dev nD) : W3 m c main_arg0 = m ((c : Thread nD τ).loc main_arg0) :=
  (W3_of m c main_arg0 (by decide)).trans <| (W2_of m c main_arg0 (by decide)).trans <| (W1_of m c main_arg0 (by decide)).trans rfl
theorem W3_arg1 (c : Dev nD) : W3 m c main_arg1 = m ((c : Thread nD τ).loc main_arg1) :=
  (W3_of m c main_arg1 (by decide)).trans <| (W2_of m c main_arg1 (by decide)).trans <| (W1_of m c main_arg1 (by decide)).trans rfl
theorem W3_arg2 (c : Dev nD) : W3 m c main_arg2 = m ((c : Thread nD τ).loc main_arg2) :=
  (W3_of m c main_arg2 (by decide)).trans <| (W2_of m c main_arg2 (by decide)).trans <| (W1_of m c main_arg2 (by decide)).trans rfl
theorem W3_arg3 (c : Dev nD) : W3 m c main_arg3 = m ((c : Thread nD τ).loc main_arg3) :=
  (W3_of m c main_arg3 (by decide)).trans <| (W2_of m c main_arg3 (by decide)).trans <| (W1_of m c main_arg3 (by decide)).trans rfl
theorem W3_arg4 (c : Dev nD) : W3 m c main_arg4 = m ((c : Thread nD τ).loc main_arg4) :=
  (W3_of m c main_arg4 (by decide)).trans <| (W2_of m c main_arg4 (by decide)).trans <| (W1_of m c main_arg4 (by decide)).trans rfl

/-! ## The whole run -/

/-- The host operations between the calls, over the unscoped buffers. -/
def hostSeg : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) rest

/-- @main as its three items. -/
abbrev segs (c : Dev nD) : List (Seg (pcfgs (F := F)) adm (pdats m) () defs₀ Variants.none L lv) :=
  [.region (R0 m), .host (hostSeg m), .region (R1 m)]

/-- The launch element of the pipelines' algebra. -/
abbrev u₀ : UR sig nD τ := initOf (Pipeline.cells cfgs cellOf_inj) (Pipeline.launchToks cfgs cellOf_inj)

-- the rule's implicit arguments are found by unifying its conclusion with this one, which takes unfolding plain
-- definitions in a metavariable's type
set_option backward.isDefEq.respectTransparency.types false in
/-- From any memory with zero counters, every weakly fair execution of @main terminates, and every final state has each
    unscoped buffer at `W3` and every semaphore counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W3 m c b) ∧ r.2.sem = fun _ => 0) := by
  refine Pipeline.θ_run_regions_kit_dev_sems (pcfgs (F := F)) adm (pdats m) () cellOf_inj
    (uEmb (nD := nD) (sig := sig) (Ix := Unit) (Val := Elt F) (Name := ℕ) (U := UR sig nD τ) (Lvl := ℕ)).toEmb defs₀ Variants.none L lv m ρ main (segs m)
    (fun c Q => by
      rewrite [main_chain c, Seg.run_eq_chain,
        show (segs m c).map Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) 0
    (fun g hg => by simp [L, hg]) (fun _ => iprop(emp)) u₀
    (by
      iintro Hu
      imodintro
      isplitl [Hu]
      · iapply (show (ownU u₀ : sProp 𝕄) ⊢ BI.own ((uEmb (nD := nD) (sig := sig) (Ix := Unit) (Val := Elt F) (Name := ℕ) (U := UR sig nD τ) (Lvl := ℕ)).toEmb (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c))
    (Tₙ := fun c => StableHlo.held (c : Thread nD τ) (Pipeline.ucRefs τ sig) (W3 m c))
    (hch := fun c => ⟨pre0 m c, post0 m c, pre1 m c, (post1 m c).trans (sep_mono .rfl (by
      unfold rest
      iintro ⟨H, -, -⟩
      iexact H))⟩)
    (hinit := ?_) (QY := fun c s => ∀ b ∈ Pipeline.ucRefs τ sig, s.mem ((c : Thread nD τ).1, b) = W3 m c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (W0 m c) from Pipeline.unscopedBufs_held c (W0 m c)]
    unfold rest reg
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro; exact h
    · iexact HSI

/-- A TensorCore buffer outside every scope is among those the run names. -/
theorem mem_uc (r : Ref sig .tc) (h : (r : Ref sig .tc).isScoped = false) : Proc.devRef .tc r ∈ Pipeline.ucRefs τ sig :=
  Finset.mem_filter.mpr ⟨StableHlo.devRef_mem_tcRefs r, by simpa using h⟩

/-- The run, at the arguments: each ends as it was launched. -/
theorem args {r : MemSt nD τ sig (Elt F)} (c : Dev nD) (h : ∀ b ∈ Pipeline.ucRefs τ sig, r.mem ((c : Thread nD τ).1, b) = W3 m c b) :
    r.mem ((c : Thread nD τ).loc main_arg0) = m ((c : Thread nD τ).loc main_arg0)
    ∧ r.mem ((c : Thread nD τ).loc main_arg1) = m ((c : Thread nD τ).loc main_arg1)
    ∧ r.mem ((c : Thread nD τ).loc main_arg2) = m ((c : Thread nD τ).loc main_arg2)
    ∧ r.mem ((c : Thread nD τ).loc main_arg3) = m ((c : Thread nD τ).loc main_arg3)
    ∧ r.mem ((c : Thread nD τ).loc main_arg4) = m ((c : Thread nD τ).loc main_arg4) :=
  ⟨(h _ (mem_uc main_arg0 (by decide))).trans (W3_arg0 m c), (h _ (mem_uc main_arg1 (by decide))).trans (W3_arg1 m c),
    (h _ (mem_uc main_arg2 (by decide))).trans (W3_arg2 m c), (h _ (mem_uc main_arg3 (by decide))).trans (W3_arg3 m c),
    (h _ (mem_uc main_arg4 (by decide))).trans (W3_arg4 m c)⟩

end Cert.KernelIdeal.Run

end
-- ==== Proof.KrnBody.lean ====
module

public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.Pipeline.Value
public import Idealize.ShloMosaic.Lib.ValueIdxCore

@[expose] public section

set_option maxRecDepth 16384
set_option maxHeartbeats 4000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.ValueIdx

variable {F : FTy → Type} [FloatOps F]

local notation "𝕄G" => MT nD τ sig Unit (Elt F) ℕ (UR sig nD τ) ℕ

/-! ## What the second kernel call computes, as functions of the blocks it reads -/

/-- Key rows `256 j … 256 j + 255` of the window of keys. -/
def kBlk (x6 : Vec F S1x1x7680x128 .i8) (j : ℕ) : Vec F S1x1x256x128 .i8 :=
  fun y => x6 (ix4 0 0 ⟨(256 * j + (y 2).val) % 7680, Nat.mod_lt _ (by decide)⟩ ⟨(y 3).val, (y 3).isLt⟩)

/-- The scale of query half `g` and key group `n`. -/
def cAt (x5 : Vec F S1x1x1x2x120 .f32) (g : Fin 2) (n : ℕ) : Elt F .f32 :=
  x5 (ix5 0 0 0 g ⟨n % 120, Nat.mod_lt _ (by decide)⟩)

/-- The raw integer scores of a key chunk. -/
def raw (x4 : Vec F S1x256x128 .i8) (K : Vec F S1x1x256x128 .i8) : FVec F S256x256 .f32 :=
  k1_pay8 (k1_pay38 x4) K

/-- The scaled scores of key group `r` of a chunk below the diagonal, of the chunk's keys and scales. -/
def tileK (x4 : Vec F S1x256x128 .i8) (K : Vec F S1x1x256x128 .i8) (c : Fin 2 → Fin 4 → Elt F .f32) : ℕ → FVec F S64x256 .f32
  | 0 => k1_pay10 (k1_pay38 x4) K (c 0 0) (c 1 0)
  | 1 => k1_pay13 (raw x4 K) (c 0 1) (c 1 1)
  | 2 => k1_pay18 (raw x4 K) (k1_pay15 (raw x4 K)) (k1_pay16 (c 0 2)) (c 1 2)
  | _ => k1_pay41 (k1_pay20 (raw x4 K) (c 0 3)) (k1_pay21 (raw x4 K)) (k1_pay22 (c 1 3))

/-- The running maximum after a key chunk. -/
def mStepK (x4 : Vec F S1x256x128 .i8) (K : Vec F S1x1x256x128 .i8) (c : Fin 2 → Fin 4 → Elt F .f32)
    (m : FVec F S8x256 .f32) : FVec F S8x256 .f32 :=
  k1_pay42 (k1_pay19 (raw x4 K) (k1_pay14 (raw x4 K) m (k1_pay11 (k1_pay38 x4) K (c 0 0) (c 1 0)) (c 0 1) (c 1 1))
      (k1_pay15 (raw x4 K)) (k1_pay16 (c 0 2)) (c 1 2))
    (k1_pay20 (raw x4 K) (c 0 3)) (k1_pay21 (raw x4 K)) (k1_pay22 (c 1 3))

/-- The constant the third group of the diagonal chunk is scaled by. -/
def lgE : F .f32 := Scalar.ofBits .f32 0x3FB8AA3B#32

/-- The masked scores of key group `r` of the diagonal chunk, of the chunk's keys and scales. -/
def dtileK (x4 : Vec F S1x256x128 .i8) (K : Vec F S1x1x256x128 .i8) (c : Fin 2 → Fin 4 → Elt F .f32) : ℕ → FVec F S64x256 .f32
  | 0 => k1_pay50 (k1_pay46 x4 K) (k1_pay47 x4 K) (k1_pay48 (c 0 0)) (c 1 0)
  | 1 => k1_pay54 (k1_pay46 x4 K) (k1_pay52 (k1_pay46 x4 K) (c 0 1)) (c 1 1)
  | 2 => k1_pay58 (k1_pay46 x4 K) (k1_pay56 (k1_pay46 x4 K) (c 0 2)) (c 1 2) lgE
  | _ => k1_pay62 (k1_pay60 (k1_pay46 x4 K) (c 0 3) (c 1 3)) (iota .tc S64x256 32 [0] iota_S64x256_d0_w32)

/-- The maximum after the diagonal chunk. -/
def mDiagK (x4 : Vec F S1x256x128 .i8) (K : Vec F S1x1x256x128 .i8) (c : Fin 2 → Fin 4 → Elt F .f32)
    (m : FVec F S8x256 .f32) : FVec F S8x256 .f32 :=
  k1_pay63 (k1_pay59 (k1_pay46 x4 K) (k1_pay55 (k1_pay46 x4 K) (k1_pay51 (k1_pay46 x4 K) m (k1_pay47 x4 K)
        (k1_pay48 (c 0 0)) (c 1 0)) (k1_pay52 (k1_pay46 x4 K) (c 0 1)) (c 1 1))
      (k1_pay56 (k1_pay46 x4 K) (c 0 2)) (c 1 2) lgE)
    (k1_pay60 (k1_pay46 x4 K) (c 0 3) (c 1 3)) (iota .tc S64x256 32 [0] iota_S64x256_d0_w32)

/-- The scales of key chunk `j`. -/
def cBlk (x5 : Vec F S1x1x1x2x120 .f32) (j : ℕ) : Fin 2 → Fin 4 → Elt F .f32 := fun g r => cAt x5 g (4 * j + r.val)

/-- The scaled scores of key group `r` of chunk `j`, below the diagonal. -/
def tile (x4 : Vec F S1x256x128 .i8) (x5 : Vec F S1x1x1x2x120 .f32) (x6 : Vec F S1x1x7680x128 .i8) (j r : ℕ) : FVec F S64x256 .f32 :=
  tileK x4 (kBlk x6 j) (cBlk x5 j) r

/-- The masked scores of key group `r` of the diagonal chunk `j`. -/
def dtile (x4 : Vec F S1x256x128 .i8) (x5 : Vec F S1x1x1x2x120 .f32) (x6 : Vec F S1x1x7680x128 .i8) (j r : ℕ) : FVec F S64x256 .f32 :=
  dtileK x4 (kBlk x6 j) (cBlk x5 j) r

/-- The running maximum before key chunk `k`. -/
def mAt (x4 : Vec F S1x256x128 .i8) (x5 : Vec F S1x1x1x2x120 .f32) (x6 : Vec F S1x1x7680x128 .i8) : ℕ → FVec F S8x256 .f32
  | 0 => k1_pay39
  | k + 1 => mStepK x4 (kBlk x6 k) (cBlk x5 k) (mAt x4 x5 x6 k)

/-- The shift the exponentials are taken under. -/
def mFin (x4 : Vec F S1x256x128 .i8) (x5 : Vec F S1x1x1x2x120 .f32) (x6 : Vec F S1x1x7680x128 .i8) (i : ℕ) : FVec F S8x256 .f32 :=
  k1_pay64 (mDiagK x4 (kBlk x6 i) (cBlk x5 i) (mAt x4 x5 x6 i))

/-- The scores kept between the two passes: row `y 0` is key `y 0`. -/
def sU (x4 : Vec F S1x256x128 .i8) (x5 : Vec F S1x1x1x2x120 .f32) (x6 : Vec F S1x1x7680x128 .i8) (i : ℕ) : Vec F S7680x256 .f32 :=
  fun y => (if (y 0).val / 256 < i then tile x4 x5 x6 ((y 0).val / 256) ((y 0).val % 256 / 64)
      else dtile x4 x5 x6 i ((y 0).val % 256 / 64))
    (ix2 ⟨(y 0).val % 64, Nat.mod_lt _ (by decide)⟩ ⟨(y 1).val, (y 1).isLt⟩)

/-- The scores of key chunk `j`. -/
def sCh (x4 : Vec F S1x256x128 .i8) (x5 : Vec F S1x1x1x2x120 .f32) (x6 : Vec F S1x1x7680x128 .i8) (i j : ℕ) : Vec F S256x256 .f32 :=
  fun y => sU x4 x5 x6 i (ix2 ⟨(256 * j + (y 0).val) % 7680, Nat.mod_lt _ (by decide)⟩ ⟨(y 1).val, (y 1).isLt⟩)

/-- The values of key chunk `j`. -/
def vBlk (x7 : Vec F S1x1x128x7680 .fp8e4m3) (j : ℕ) : Vec F S1x1x128x256 .fp8e4m3 :=
  fun y => x7 (ix4 0 0 ⟨(y 2).val, (y 2).isLt⟩ ⟨(256 * j + (y 3).val) % 7680, Nat.mod_lt _ (by decide)⟩)

/-- The running sums of the exponentials before key chunk `k` of the second pass. -/
def lAt (x4 : Vec F S1x256x128 .i8) (x5 : Vec F S1x1x1x2x120 .f32) (x6 : Vec F S1x1x7680x128 .i8) (i : ℕ) : ℕ → FVec F S8x256 .f32
  | 0 => k1_pay65
  | k + 1 => k1_pay2 (sCh x4 x5 x6 i k) (mFin x4 x5 x6 i) (lAt x4 x5 x6 i k)

/-- The running weighted sums of the values before key chunk `k` of the second pass. -/
def accAt (x4 : Vec F S1x256x128 .i8) (x5 : Vec F S1x1x1x2x120 .f32) (x6 : Vec F S1x1x7680x128 .i8)
    (x7 : Vec F S1x1x128x7680 .fp8e4m3) (i : ℕ) : ℕ → FVec F S128x256 .f32
  | 0 => k1_pay66
  | k + 1 => k1_pay3 (sCh x4 x5 x6 i k) (mFin x4 x5 x6 i) (vBlk x7 k) (accAt x4 x5 x6 x7 i k)

/-- The block the call writes. -/
def attnOut (i : ℕ) (x4 : Vec F S1x256x128 .i8) (x5 : Vec F S1x1x1x2x120 .f32) (x6 : Vec F S1x1x7680x128 .i8)
    (x7 : Vec F S1x1x128x7680 .fp8e4m3) (x8 : Vec F S1x1x1x128 .f32) : Vec F S1x256x128 .bf16 :=
  k1_pay7 (lAt x4 x5 x6 i (i + 1)) (accAt x4 x5 x6 x7 i (i + 1)) x8

/-! ## The accesses as those functions -/

theorem kBlk_eq {v : View sig .tc .vmem S1x1x7680x128 .i8} (X : v.ty.Contents (Elt F)) (k : ℕ) (hk : k < 30)
    {off : Fin 4 → ℕ} (h : off = ![0, 0, 256 * k, 0]) (inb : ∀ a, off a + S1x1x256x128.size a ≤ S1x1x7680x128.size a) :
    View.readAt (Elt F) v (Rect.unit (s := S1x1x7680x128) off S1x1x256x128.size inb).toLoadRect X = kBlk (v.read (Elt F) X) k := by
  subst h
  funext y
  have h2 : (y 2).val < 256 := (y 2).isLt
  refine congrArg (v.read (Elt F) X) (funext fun a => Fin.ext ?_)
  match a with
  | ⟨0, _⟩ => have : (y 0).val < 1 := (y 0).isLt; show 0 + 1 * (y 0).val = 0; omega
  | ⟨1, _⟩ => have : (y 1).val < 1 := (y 1).isLt; show 0 + 1 * (y 1).val = 0; omega
  | ⟨2, _⟩ => show 256 * k + 1 * (y 2).val = (256 * k + (y 2).val) % 7680; rw [Nat.mod_eq_of_lt (by omega)]; omega
  | ⟨3, _⟩ => show 0 + 1 * (y 3).val = (y 3).val; omega

theorem vBlk_eq {v : View sig .tc .vmem S1x1x128x7680 .fp8e4m3} (X : v.ty.Contents (Elt F)) (k : ℕ) (hk : k < 30)
    {off : Fin 4 → ℕ} (h : off = ![0, 0, 0, 256 * k]) (inb : ∀ a, off a + S1x1x128x256.size a ≤ S1x1x128x7680.size a) :
    View.readAt (Elt F) v (Rect.unit (s := S1x1x128x7680) off S1x1x128x256.size inb).toLoadRect X = vBlk (v.read (Elt F) X) k := by
  subst h
  funext y
  have h2 : (y 3).val < 256 := (y 3).isLt
  refine congrArg (v.read (Elt F) X) (funext fun a => Fin.ext ?_)
  match a with
  | ⟨0, _⟩ => have : (y 0).val < 1 := (y 0).isLt; show 0 + 1 * (y 0).val = 0; omega
  | ⟨1, _⟩ => have : (y 1).val < 1 := (y 1).isLt; show 0 + 1 * (y 1).val = 0; omega
  | ⟨2, _⟩ => show 0 + 1 * (y 2).val = (y 2).val; omega
  | ⟨3, _⟩ => show 256 * k + 1 * (y 3).val = (256 * k + (y 3).val) % 7680; rw [Nat.mod_eq_of_lt (by omega)]; omega

theorem cAt_eq {v : View sig .tc .smem S1x1x1x2x120 .f32} (X : v.ty.Contents (Elt F)) (g : Fin 2) (n : ℕ) (hn : n < 120)
    {off : Fin 5 → ℕ} (h : off = ![0, 0, 0, g.val, n]) (inb : ∀ a, off a + S1x1x1x1x1.size a ≤ S1x1x1x2x120.size a)
    (y : S1x1x1x1x1.Idx) :
    View.readAt (Elt F) v (Rect.unit (s := S1x1x1x2x120) off S1x1x1x1x1.size inb).toLoadRect X y = cAt (v.read (Elt F) X) g n := by
  subst h
  refine congrArg (v.read (Elt F) X) (funext fun a => Fin.ext ?_)
  match a with
  | ⟨0, _⟩ => have : (y 0).val < 1 := (y 0).isLt; show 0 + 1 * (y 0).val = 0; omega
  | ⟨1, _⟩ => have : (y 1).val < 1 := (y 1).isLt; show 0 + 1 * (y 1).val = 0; omega
  | ⟨2, _⟩ => have : (y 2).val < 1 := (y 2).isLt; show 0 + 1 * (y 2).val = 0; omega
  | ⟨3, _⟩ => have : (y 3).val < 1 := (y 3).isLt; show g.val + 1 * (y 3).val = g.val; omega
  | ⟨4, _⟩ => have : (y 4).val < 1 := (y 4).isLt; show n + 1 * (y 4).val = n % 120; rw [Nat.mod_eq_of_lt hn]; omega

theorem numel_one : S1x1x1x1x1.numel = 1 := by decide

/-- The scales of a chunk, as the body's scalar loads give them. -/
def cRd {v : View sig .tc .smem S1x1x1x2x120 .f32} (X : v.ty.Contents (Elt F)) (o0 o1 : Fin 4 → Fin 5 → ℕ)
    (i0 : ∀ r a, o0 r a + S1x1x1x1x1.size a ≤ S1x1x1x2x120.size a) (i1 : ∀ r a, o1 r a + S1x1x1x1x1.size a ≤ S1x1x1x2x120.size a) :
    Fin 2 → Fin 4 → Elt F .f32
  | 0, r => View.readAt (Elt F) v (Rect.unit (s := S1x1x1x2x120) (o0 r) S1x1x1x1x1.size (i0 r)).toLoadRect X (Shape.Idx.first (numel_one.symm ▸ Nat.one_pos))
  | 1, r => View.readAt (Elt F) v (Rect.unit (s := S1x1x1x2x120) (o1 r) S1x1x1x1x1.size (i1 r)).toLoadRect X (Shape.Idx.first (numel_one.symm ▸ Nat.one_pos))

theorem cRd_eq {v : View sig .tc .smem S1x1x1x2x120 .f32} (X : v.ty.Contents (Elt F)) (o0 o1 : Fin 4 → Fin 5 → ℕ) (i0 i1) (k : ℕ)
    (hk : k < 30) (h0 : ∀ r : Fin 4, o0 r = ![0, 0, 0, 0, 4 * k + r.val]) (h1 : ∀ r : Fin 4, o1 r = ![0, 0, 0, 1, 4 * k + r.val]) :
    cRd X o0 o1 i0 i1 = cBlk (v.read (Elt F) X) k := by
  funext g r
  have hr : r.val < 4 := r.isLt
  match g with
  | 0 => exact cAt_eq X 0 (4 * k + r.val) (by omega) (h0 r) (i0 r) _
  | 1 => exact cAt_eq X 1 (4 * k + r.val) (by omega) (h1 r) (i1 r) _

/-- Four stores of 64 rows from row `b` on: the rows below `b + 256` read as `G`, if those below `b` did. -/
theorem put4 {v : View sig .tc .vmem S7680x256 .f32} (f : v.ty.Contents (Elt F)) (G : Vec F S7680x256 .f32) (b : ℕ)
    (o : Fin 4 → Fin 2 → ℕ) (ho : ∀ r : Fin 4, o r = ![b + 64 * r.val, 0]) (i0 i1 i2 i3)
    (w0 w1 w2 w3 : Vec F S64x256 .f32)
    (hw0 : ∀ (x : S64x256.Idx) (y : S7680x256.Idx), (y 0).val = b + 64 * 0 + (x 0).val → (y 1).val = (x 1).val → w0 x = G y)
    (hw1 : ∀ (x : S64x256.Idx) (y : S7680x256.Idx), (y 0).val = b + 64 * 1 + (x 0).val → (y 1).val = (x 1).val → w1 x = G y)
    (hw2 : ∀ (x : S64x256.Idx) (y : S7680x256.Idx), (y 0).val = b + 64 * 2 + (x 0).val → (y 1).val = (x 1).val → w2 x = G y)
    (hw3 : ∀ (x : S64x256.Idx) (y : S7680x256.Idx), (y 0).val = b + 64 * 3 + (x 0).val → (y 1).val = (x 1).val → w3 x = G y)
    (hf : ∀ y, (y 0).val < b → v.read (Elt F) f y = G y) :
    ∀ y, (y 0).val < b + 256 → v.read (Elt F) (v.writes (Elt F) f
      [⟨Rect.unit (s := S7680x256) (o 3) S64x256.size i3, w3⟩, ⟨Rect.unit (s := S7680x256) (o 2) S64x256.size i2, w2⟩,
       ⟨Rect.unit (s := S7680x256) (o 1) S64x256.size i1, w1⟩, ⟨Rect.unit (s := S7680x256) (o 0) S64x256.size i0, w0⟩]) y = G y := by
  intro y hy
  have key : ∀ (r : Fin 4) (inb), y ∈ (Rect.unit (s := S7680x256) (o r) S64x256.size inb).set ↔
      b + 64 * r.val ≤ (y 0).val ∧ (y 0).val < b + 64 * r.val + 64 := by
    intro r inb
    have h1 : (y 1).val < 256 := (y 1).isLt
    rw [Rect.mem_set_unit, ho r]
    constructor
    · intro h; exact h 0
    · intro h a
      match a with
      | ⟨0, _⟩ => exact h
      | ⟨1, _⟩ => exact ⟨Nat.zero_le _, by show (y 1).val < 0 + 256; omega⟩
  have kv : ∀ (r : Fin 4) (inb) (w : Vec F S64x256 .f32), (∀ (x : S64x256.Idx) (y : S7680x256.Idx), (y 0).val = b + 64 * r.val + (x 0).val → (y 1).val = (x 1).val → w x = G y) →
      ∀ (x : S64x256.Idx), w x = G ((Rect.unit (s := S7680x256) (o r) S64x256.size inb).emb x) := by
    intro r inb w hw x
    refine hw x _ ?_ ?_
    · show o r 0 + 1 * (x 0).val = _; rw [ho r]; show b + 64 * r.val + 1 * (x 0).val = _; omega
    · show o r 1 + 1 * (x 1).val = _; rw [ho r]; show 0 + 1 * (x 1).val = _; omega
  by_cases hb : (y 0).val < b
  · rw [View.read_writes_apply_of_forall_not_mem, hf y hb]
    intro p hp
    simp only [List.mem_cons, List.not_mem_nil, or_false] at hp
    rcases hp with rfl | rfl | rfl | rfl
    · rw [key 3]; omega
    · rw [key 2]; omega
    · rw [key 1]; omega
    · rw [key 0]; omega
  · refine View.read_writes_apply_of_pieces v f G _ ?_ y ?_
    · intro p hp
      simp only [List.mem_cons, List.not_mem_nil, or_false] at hp
      rcases hp with rfl | rfl | rfl | rfl
      · exact kv 3 i3 w3 hw3
      · exact kv 2 i2 w2 hw2
      · exact kv 1 i1 w1 hw1
      · exact kv 0 i0 w0 hw0
    · rcases (by omega : (y 0).val < b + 64 ∨ (b + 64 ≤ (y 0).val ∧ (y 0).val < b + 128) ∨ (b + 128 ≤ (y 0).val ∧ (y 0).val < b + 192)
        ∨ b + 192 ≤ (y 0).val) with h | h | h | h
      · exact ⟨_, .tail _ (.tail _ (.tail _ (.head _))), (key 0 i0).2 ⟨by show b + 64 * 0 ≤ _; omega, by show _ < b + 64 * 0 + 64; omega⟩⟩
      · exact ⟨_, .tail _ (.tail _ (.head _)), (key 1 i1).2 ⟨by show b + 64 * 1 ≤ _; omega, by show _ < b + 64 * 1 + 64; omega⟩⟩
      · exact ⟨_, .tail _ (.head _), (key 2 i2).2 ⟨by show b + 64 * 2 ≤ _; omega, by show _ < b + 64 * 2 + 64; omega⟩⟩
      · exact ⟨_, .head _, (key 3 i3).2 ⟨by show b + 64 * 3 ≤ _; omega, by show _ < b + 64 * 3 + 64; omega⟩⟩

theorem sU_tile (x4 : Vec F S1x256x128 .i8) (x5 : Vec F S1x1x1x2x120 .f32) (x6 : Vec F S1x1x7680x128 .i8) (i j : ℕ) (hj : j < i)
    (r : Fin 4) (x : S64x256.Idx) (y : S7680x256.Idx) (h0 : (y 0).val = 256 * j + 64 * r.val + (x 0).val) (h1 : (y 1).val = (x 1).val) :
    tile x4 x5 x6 j r.val x = sU x4 x5 x6 i y := by
  have hx : (x 0).val < 64 := (x 0).isLt
  have hr : r.val < 4 := r.isLt
  unfold sU
  rw [if_pos (by omega), show (y 0).val / 256 = j by omega, show (y 0).val % 256 / 64 = r.val by omega]
  refine congrArg _ (funext fun a => Fin.ext ?_)
  match a with
  | ⟨0, _⟩ => show (x 0).val = (y 0).val % 64; omega
  | ⟨1, _⟩ => exact h1.symm

theorem sU_dtile (x4 : Vec F S1x256x128 .i8) (x5 : Vec F S1x1x1x2x120 .f32) (x6 : Vec F S1x1x7680x128 .i8) (i : ℕ)
    (r : Fin 4) (x : S64x256.Idx) (y : S7680x256.Idx) (h0 : (y 0).val = 256 * i + 64 * r.val + (x 0).val) (h1 : (y 1).val = (x 1).val) :
    dtile x4 x5 x6 i r.val x = sU x4 x5 x6 i y := by
  have hx : (x 0).val < 64 := (x 0).isLt
  have hr : r.val < 4 := r.isLt
  unfold sU
  rw [if_neg (by omega), show (y 0).val % 256 / 64 = r.val by omega]
  refine congrArg _ (funext fun a => Fin.ext ?_)
  match a with
  | ⟨0, _⟩ => show (x 0).val = (y 0).val % 64; omega
  | ⟨1, _⟩ => exact h1.symm

theorem sCh_eq {v : View sig .tc .vmem S7680x256 .f32} (f : v.ty.Contents (Elt F)) (x4 : Vec F S1x256x128 .i8)
    (x5 : Vec F S1x1x1x2x120 .f32) (x6 : Vec F S1x1x7680x128 .i8) (i k : ℕ) (hi : i < 30) (hk : k ≤ i)
    (hf : ∀ y, (y 0).val < 256 * i + 256 → v.read (Elt F) f y = sU x4 x5 x6 i y)
    {off : Fin 2 → ℕ} (h : off = ![256 * k, 0]) (inb : ∀ a, off a + S256x256.size a ≤ S7680x256.size a) :
    View.readAt (Elt F) v (Rect.unit (s := S7680x256) off S256x256.size inb).toLoadRect f = sCh x4 x5 x6 i k := by
  subst h
  funext y
  have h0 : (y 0).val < 256 := (y 0).isLt
  refine (hf _ (by show 256 * k + 1 * (y 0).val < _; omega)).trans (congrArg (sU x4 x5 x6 i) (funext fun a => Fin.ext ?_))
  match a with
  | ⟨0, _⟩ => show 256 * k + 1 * (y 0).val = (256 * k + (y 0).val) % 7680; rw [Nat.mod_eq_of_lt (by omega)]; omega
  | ⟨1, _⟩ => show 0 + 1 * (y 1).val = (y 1).val; omega

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A whole-buffer load reads the buffer. -/
theorem readAt_whole {s : Shape} {κ sp e} {v : View sig κ sp s e} (f : v.ty.Contents (Elt F)) {off : Fin s.rank → ℕ} (h : off = fun _ => 0) (inb) :
    View.readAt (Elt F) v (Rect.unit (s := s) off s.size inb).toLoadRect f = v.read (Elt F) f :=
  (View.readAt_eq_ld v f _).trans (View.ld_unit_zero (S := s) h inb _)

/-- After a store of the whole buffer it reads what was stored. -/
theorem read_writes_whole {s : Shape} {κ sp e} {v : View sig κ sp s e} (f : v.ty.Contents (Elt F)) {off : Fin s.rank → ℕ} (h : off = fun _ => 0) (inb)
    (w : s.Idx → Elt F e) (L : List (View.Piece (Elt F) s e)) :
    v.read (Elt F) (v.writes (Elt F) f (⟨Rect.unit (s := s) off s.size inb, w⟩ :: L)) = w := by
  subst h
  funext y
  have := View.read_writes_cons_emb v f (Rect.unit (s := s) (fun _ => 0) s.size inb) w L y
  refine Eq.trans (congrArg _ (funext fun a => Fin.ext ?_)) this
  show (y a).val = 0 + 1 * (y a).val
  omega

theorem t1_trips (i : grid1.Coords) : Scf.trips (k1_t1_loop i).lb (k1_t1_loop i).ub (k1_t1_loop i).st = (i 2).val :=
  (by decide +kernel : ∀ n : Fin 30, Scf.trips 0#32 (Scalar.addi 0#32 (Scalar.muli (Scalar.divsi (Scalar.subi (BitVec.ofNat 32 n.val) 0#32) 1#32) 1#32)) 1#32 = n.val) (i 2)

theorem t3_trips (i : grid1.Coords) : Scf.trips (k1_t3_loop i).lb (k1_t3_loop i).ub (k1_t3_loop i).st = (i 2).val + 1 :=
  (by decide +kernel : ∀ n : Fin 30, Scf.trips 0#32 (Scalar.addi 0#32 (Scalar.muli (Scalar.divsi (Scalar.subi (Scalar.addi (BitVec.ofNat 32 n.val) 1#32) 0#32) 1#32) 1#32)) 1#32 = n.val + 1) (i 2)

/-- The class of invariants of the first pass's loop. -/
abbrev Inv1 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole) (v0 : Vec F S1x256x128 .i8) (init : BitVec 32) :=
  Idealize.ShloMosaic.LoopInv (M := 𝕄G) Idealize.ShloMosaic.frame (wpE defs₀ 𝒱 (c : Thread nD τ) bd) E
    (k1_t1_loop i).lb (k1_t1_loop i).ub (k1_t1_loop i).st (k1_t1_ok i) init (k1_t1_body (F := F) i arg4 harg4 arg5 harg5 arg6 harg6 arg7 harg7 arg8 harg8 arg9 harg9 arg10 harg10 arg11 harg11 arg12 harg12 arg13 harg13 v0)

set_option warn.classDefReducibility false in
/-- The first pass: before chunk `k` the scores of the chunks before it are kept and the maximum is theirs. -/
def inv1 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole) (v0 : Vec F S1x256x128 .i8)
    (X5 : BufTy.Contents (Elt F) arg5.view.ty) (X6 : BufTy.Contents (Elt F) arg6.view.ty) (init : BitVec 32) :
    Inv1 (F := F) 𝒱 c bd E i arg4 harg4 arg5 harg5 arg6 harg6 arg7 harg7 arg8 harg8 arg9 harg9 arg10 harg10 arg11 harg11 arg12 harg12 arg13 harg13 v0 init where
  inv k acc := iprop((arg5.view.loc (c : Thread nD τ) ↦[arg5.view.set]{fullShare} X5) ∗ (arg6.view.loc (c : Thread nD τ) ↦[arg6.view.set]{fullShare} X6)
    ∗ (∃ f, (arg10.view.loc (c : Thread nD τ) ↦[arg10.view.set]{fullShare} f) ∗ ⌜∀ y, (y 0).val < 256 * k → arg10.view.read (Elt F) f y = sU v0 (arg5.view.read (Elt F) X5) (arg6.view.read (Elt F) X6) (i 2).val y⌝)
    ∗ (∃ f, (arg11.view.loc (c : Thread nD τ) ↦[arg11.view.set]{fullShare} f) ∗ ⌜arg11.view.read (Elt F) f = mAt v0 (arg5.view.read (Elt F) X5) (arg6.view.read (Elt F) X6) k⌝))
  step k acc := by
    iintro ⟨H5, H6, ⟨%f10, H10, %h10⟩, ⟨%f11, H11, %h11⟩⟩
    unfold k1_t1_body
    sl_exec
    sl_step
    have hi : (i 2).val < 30 := (i 2).isLt
    have hk : k.val < (i 2).val := (t1_trips i) ▸ k.isLt
    have hK := kBlk_eq (F := F) (v := arg6.view) X6 k.val (by omega) (k1_off1_eq i k) (k1_off1_inb i k)
    have hc := cRd_eq (F := F) (v := arg5.view) X5 (fun r => k1_off2 i k (BitVec.ofNat 32 r.val)) (fun r => k1_off3 i k (BitVec.ofNat 32 r.val))
      (fun r => k1_off2_inb i k r) (fun r => k1_off3_inb i k r) k.val (by omega) (k1_off2_eq i k) (k1_off3_eq i k)
    isplitl [H5]; · iexact H5
    isplitl [H6]; · iexact H6
    isplitl [H10]
    · iexists _; isplitl [H10]; · iexact H10
      ipureintro
      refine put4 (v := arg10.view) f10 (sU v0 (arg5.view.read (Elt F) X5) (arg6.view.read (Elt F) X6) (i 2).val) (256 * k.val)
        (fun r => k1_off4 i k (BitVec.ofNat 32 (64 * r.val))) (k1_off4_eq i k) _ _ _ _ _ _ _ _ ?_ ?_ ?_ ?_ h10
      · exact fun x y h0 h1 => (congrFun (show _ = tile _ _ _ k.val 0 by rw [tile, ← hK, ← hc]; rfl) x).trans (sU_tile _ _ _ _ _ hk 0 x y h0 h1)
      · exact fun x y h0 h1 => (congrFun (show _ = tile _ _ _ k.val 1 by rw [tile, ← hK, ← hc]; rfl) x).trans (sU_tile _ _ _ _ _ hk 1 x y h0 h1)
      · exact fun x y h0 h1 => (congrFun (show _ = tile _ _ _ k.val 2 by rw [tile, ← hK, ← hc]; rfl) x).trans (sU_tile _ _ _ _ _ hk 2 x y h0 h1)
      · exact fun x y h0 h1 => (congrFun (show _ = tile _ _ _ k.val 3 by rw [tile, ← hK, ← hc]; rfl) x).trans (sU_tile _ _ _ _ _ hk 3 x y h0 h1)
    · iexists _; isplitl [H11]; · iexact H11
      ipureintro
      refine (read_writes_whole (s := S8x256) (v := arg11.view) f11 hz2 _ _ _).trans ?_
      show mStepK v0 (View.readAt (Elt F) arg6.view (Rect.unit (s := S1x1x7680x128) (k1_off1 i k) S1x1x256x128.size (k1_off1_inb i k)).toLoadRect X6)
          (cRd X5 (fun r => k1_off2 i k (BitVec.ofNat 32 r.val)) (fun r => k1_off3 i k (BitVec.ofNat 32 r.val))
      (fun r => k1_off2_inb i k r) (fun r => k1_off3_inb i k r)) (View.readAt (Elt F) arg11.view (Rect.unit (s := S8x256) ![0, 0] S8x256.size inb_S8x256_S8x256_0_0).toLoadRect f11) = _
      rw [hK, hc, readAt_whole (s := S8x256) (v := arg11.view) f11 hz2, h11]
      rfl

/-- The class of invariants of the loop of no trips between the first pass and the diagonal chunk. -/
abbrev Inv2 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole) (v0 : Vec F S1x256x128 .i8) (v12 init : BitVec 32) :=
  Idealize.ShloMosaic.LoopInv (M := 𝕄G) Idealize.ShloMosaic.frame (wpE defs₀ 𝒱 (c : Thread nD τ) bd) E
    (k1_t2_loop i).lb (k1_t2_loop i).ub (k1_t2_loop i).st (k1_t2_ok i) init (k1_t2_body (F := F) i arg4 harg4 arg5 harg5 arg6 harg6 arg7 harg7 arg8 harg8 arg9 harg9 arg10 harg10 arg11 harg11 arg12 harg12 arg13 harg13 v0 v12)

set_option warn.classDefReducibility false in
/-- It runs no trip: what is held stays. -/
@[sl_loop] def inv2 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole) (v0 : Vec F S1x256x128 .i8) (v12 : BitVec 32)
    (X10 : BufTy.Contents (Elt F) arg10.view.ty) (X11 : BufTy.Contents (Elt F) arg11.view.ty) (init : BitVec 32) :
    Inv2 (F := F) 𝒱 c bd E i arg4 harg4 arg5 harg5 arg6 harg6 arg7 harg7 arg8 harg8 arg9 harg9 arg10 harg10 arg11 harg11 arg12 harg12 arg13 harg13 v0 v12 init where
  inv k acc := iprop((arg10.view.loc (c : Thread nD τ) ↦[arg10.view.set]{fullShare} X10) ∗ (arg11.view.loc (c : Thread nD τ) ↦[arg11.view.set]{fullShare} X11))
  step k acc := absurd k.isLt (Nat.not_lt.2 (Nat.le_trans (k1_t2_abs i).2.1 (Nat.zero_le _)))

/-- The class of invariants of the second pass's loop. -/
abbrev Inv3 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole) (init : BitVec 32) :=
  Idealize.ShloMosaic.LoopInv (M := 𝕄G) Idealize.ShloMosaic.frame (wpE defs₀ 𝒱 (c : Thread nD τ) bd) E
    (k1_t3_loop i).lb (k1_t3_loop i).ub (k1_t3_loop i).st (k1_t3_ok i) init (k1_t3_body (F := F) i arg4 harg4 arg5 harg5 arg6 harg6 arg7 harg7 arg8 harg8 arg9 harg9 arg10 harg10 arg11 harg11 arg12 harg12 arg13 harg13)

set_option warn.classDefReducibility false in
/-- The second pass: before chunk `k` the sums are those over the chunks before it. -/
def inv3 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole)
    (x4 : Vec F S1x256x128 .i8) (x5 : Vec F S1x1x1x2x120 .f32) (x6 : Vec F S1x1x7680x128 .i8)
    (X7 : BufTy.Contents (Elt F) arg7.view.ty) (X10 : BufTy.Contents (Elt F) arg10.view.ty) (X11 : BufTy.Contents (Elt F) arg11.view.ty)
    (h10 : ∀ y, (y 0).val < 256 * (i 2).val + 256 → arg10.view.read (Elt F) X10 y = sU x4 x5 x6 (i 2).val y)
    (h11 : arg11.view.read (Elt F) X11 = mFin x4 x5 x6 (i 2).val) (init : BitVec 32) :
    Inv3 (F := F) 𝒱 c bd E i arg4 harg4 arg5 harg5 arg6 harg6 arg7 harg7 arg8 harg8 arg9 harg9 arg10 harg10 arg11 harg11 arg12 harg12 arg13 harg13 init where
  inv k acc := iprop((arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} X11)
    ∗ (∃ f, (arg12.view.loc (c : Thread nD τ) ↦[arg12.view.set]{fullShare} f) ∗ ⌜arg12.view.read (Elt F) f = lAt x4 x5 x6 (i 2).val k⌝)
    ∗ (∃ f, (arg13.view.loc (c : Thread nD τ) ↦[arg13.view.set]{fullShare} f) ∗ ⌜arg13.view.read (Elt F) f = accAt x4 x5 x6 (arg7.view.read (Elt F) X7) (i 2).val k⌝))
  step k acc := by
    iintro ⟨H7, H10, H11, ⟨%f12, H12, %h12⟩, ⟨%f13, H13, %h13⟩⟩
    unfold k1_t3_body
    sl_exec
    sl_step
    have hi : (i 2).val < 30 := (i 2).isLt
    have hk : k.val < (i 2).val + 1 := (t3_trips i) ▸ k.isLt
    have hS := sCh_eq (F := F) (v := arg10.view) X10 x4 x5 x6 (i 2).val k.val hi (by omega) h10 (k1_off13_eq i k) (k1_off13_inb i k)
    have hV := vBlk_eq (F := F) (v := arg7.view) X7 k.val (by omega) (k1_off14_eq i k) (k1_off14_inb i k)
    have hm := (readAt_whole (F := F) (s := S8x256) (v := arg11.view) X11 hz2 inb_S8x256_S8x256_0_0).trans h11
    isplitl [H7]; · iexact H7
    isplitl [H10]; · iexact H10
    isplitl [H11]; · iexact H11
    isplitl [H12]
    · iexists _; isplitl [H12]; · iexact H12
      ipureintro
      refine (read_writes_whole (s := S8x256) (v := arg12.view) f12 hz2 _ _ _).trans ?_
      refine Eq.trans (show _ = k1_pay2 (View.readAt (Elt F) arg10.view (Rect.unit (s := S7680x256) (k1_off13 i k) S256x256.size (k1_off13_inb i k)).toLoadRect X10)
        (View.readAt (Elt F) arg11.view (Rect.unit (s := S8x256) ![0, 0] S8x256.size inb_S8x256_S8x256_0_0).toLoadRect X11)
        (View.readAt (Elt F) arg12.view (Rect.unit (s := S8x256) ![0, 0] S8x256.size inb_S8x256_S8x256_0_0).toLoadRect f12) from rfl) ?_
      rw [hS, hm, readAt_whole (s := S8x256) (v := arg12.view) f12 hz2, h12]
      rfl
    · iexists _; isplitl [H13]; · iexact H13
      ipureintro
      refine (read_writes_whole (s := S128x256) (v := arg13.view) f13 hz2 _ _ _).trans ?_
      refine Eq.trans (show _ = k1_pay3 (View.readAt (Elt F) arg10.view (Rect.unit (s := S7680x256) (k1_off13 i k) S256x256.size (k1_off13_inb i k)).toLoadRect X10)
        (View.readAt (Elt F) arg11.view (Rect.unit (s := S8x256) ![0, 0] S8x256.size inb_S8x256_S8x256_0_0).toLoadRect X11)
        (View.readAt (Elt F) arg7.view (Rect.unit (s := S1x1x128x7680) (k1_off14 i k) S1x1x128x256.size (k1_off14_inb i k)).toLoadRect X7)
        (View.readAt (Elt F) arg13.view (Rect.unit (s := S128x256) ![0, 0] S128x256.size inb_S128x256_S128x256_0_0).toLoadRect f13) from rfl) ?_
      rw [hS, hm, hV, readAt_whole (s := S128x256) (v := arg13.view) f13 hz2, h13]
      rfl

/-- The class of invariants of the loop of no trips after the second pass. -/
abbrev Inv4 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole) (init : BitVec 32) :=
  Idealize.ShloMosaic.LoopInv (M := 𝕄G) Idealize.ShloMosaic.frame (wpE defs₀ 𝒱 (c : Thread nD τ) bd) E
    (k1_t4_loop i).lb (k1_t4_loop i).ub (k1_t4_loop i).st (k1_t4_ok i) init (k1_t4_body (F := F) i arg4 harg4 arg5 harg5 arg6 harg6 arg7 harg7 arg8 harg8 arg9 harg9 arg10 harg10 arg11 harg11 arg12 harg12 arg13 harg13)

set_option warn.classDefReducibility false in
/-- It runs no trip: what is held stays. -/
@[sl_loop] def inv4 (𝒱 : Variants) (c : Dev nD) (bd : Option 𝒱.V) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole)
    (X12 : BufTy.Contents (Elt F) arg12.view.ty) (X13 : BufTy.Contents (Elt F) arg13.view.ty) (init : BitVec 32) :
    Inv4 (F := F) 𝒱 c bd E i arg4 harg4 arg5 harg5 arg6 harg6 arg7 harg7 arg8 harg8 arg9 harg9 arg10 harg10 arg11 harg11 arg12 harg12 arg13 harg13 init where
  inv k acc := iprop((arg12.view.loc (c : Thread nD τ) ↦[arg12.view.set]{fullShare} X12) ∗ (arg13.view.loc (c : Thread nD τ) ↦[arg13.view.set]{fullShare} X13))
  step k acc := absurd k.isLt (Nat.not_lt.2 (Nat.le_trans (k1_t4_abs i).2.1 (Nat.zero_le _)))

theorem self (P : sProp 𝕄G) : P ⊢ P := .rfl

theorem sound_kernel1 (c : Dev nD) (E : Set ℕ) (i : grid1.Coords) (arg4 : Memref sig .tc .vmem S1x256x128 .i8) (harg4 : arg4.IsWhole) (arg5 : Memref sig .tc .smem S1x1x1x2x120 .f32) (harg5 : arg5.IsWhole) (arg6 : Memref sig .tc .vmem S1x1x7680x128 .i8) (harg6 : arg6.IsWhole) (arg7 : Memref sig .tc .vmem S1x1x128x7680 .fp8e4m3) (harg7 : arg7.IsWhole) (arg8 : Memref sig .tc .vmem S1x1x1x128 .f32) (harg8 : arg8.IsWhole) (arg9 : Memref sig .tc .vmem S1x256x128 .bf16) (harg9 : arg9.IsWhole) (arg10 : Memref sig .tc .vmem S7680x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S128x256 .f32) (harg13 : arg13.IsWhole)
    (x4 : Vec F S1x256x128 .i8) (x5 : Vec F S1x1x1x2x120 .f32) (x6 : Vec F S1x1x7680x128 .i8)
    (x7 : Vec F S1x1x128x7680 .fp8e4m3) (x8 : Vec F S1x1x1x128 .f32) (K : PUnit → sProp 𝕄G) :
    iprop(owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare (attnOut (i 2).val x4 x5 x6 x7 x8) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)) -∗ K ⟨⟩))
      ⊢ wp frame (wpE (defs₀ (F := F)) Variants.none c none) E (cc1_attn i arg4 harg4 arg5 harg5 arg6 harg6 arg7 harg7 arg8 harg8 arg9 harg9 arg10 harg10 arg11 harg11 arg12 harg12 arg13 harg13) K := by
  simp only [cc1_attn_eq_skeleton]; unfold cc1_attn_skel
  simp only [k1_part7_eq_skeleton, k1_part8_eq_skeleton, k1_part9_eq_skeleton, k1_part10_eq_skeleton, k1_part11_eq_skeleton]
  unfold owns
  iintro ⟨⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf4 hf5 hf6 hf7 hf8
  sl_exec
  have hv4 := readAt_whole (F := F) (s := S1x256x128) (v := arg4.view) f4 hz3 inb_S1x256x128_S1x256x128_0_0_0
  ihave H11' := (self iprop(∃ f, (arg11.view.loc (c : Thread nD τ) ↦[arg11.view.set]{fullShare} f) ∗ ⌜arg11.view.read (Elt F) f = mAt (View.readAt (Elt F) arg4.view (Rect.unit (s := S1x256x128) ![0, 0, 0] S1x256x128.size inb_S1x256x128_S1x256x128_0_0_0).toLoadRect f4) (arg5.view.read (Elt F) f5) (arg6.view.read (Elt F) f6) 0⌝)) $$ [H11]
  · iexists _; isplitl [H11]; · iexact H11
    ipureintro
    exact read_writes_whole (s := S8x256) (v := arg11.view) _ hz2 _ _ _
  icases H11' with ⟨%g11, H11, %h11⟩
  have h10 : ∀ y : S7680x256.Idx, (y 0).val < 256 * 0 → arg10.view.read (Elt F) f10 y
      = sU (View.readAt (Elt F) arg4.view (Rect.unit (s := S1x256x128) ![0, 0, 0] S1x256x128.size inb_S1x256x128_S1x256x128_0_0_0).toLoadRect f4) (arg5.view.read (Elt F) f5) (arg6.view.read (Elt F) f6) (i 2).val y := fun y h => absurd h (by omega)
  let I1 : Inv1 (F := F) Variants.none c none E i arg4 harg4 arg5 harg5 arg6 harg6 arg7 harg7 arg8 harg8 arg9 harg9 arg10 harg10 arg11 harg11 arg12 harg12 arg13 harg13 (View.readAt (Elt F) arg4.view (Rect.unit (s := S1x256x128) ![0, 0, 0] S1x256x128.size inb_S1x256x128_S1x256x128_0_0_0).toLoadRect f4) 0#32 :=
    inv1 Variants.none c none E i arg4 harg4 arg5 harg5 arg6 harg6 arg7 harg7 arg8 harg8 arg9 harg9 arg10 harg10 arg11 harg11 arg12 harg12 arg13 harg13 _ f5 f6 0#32
  sl_exec
  have hi : (i 2).val < 30 := (i 2).isLt
  have e10 := ‹∀ y : S7680x256.Idx, (y 0).val < 256 * Scf.trips (k1_t1_loop i).lb (k1_t1_loop i).ub (k1_t1_loop i).st → arg10.view.read (Elt F) fL0 y = _›
  have e11 := ‹arg11.view.read (Elt F) fL1 = _›
  rw [t1_trips] at e10 e11
  have hK := kBlk_eq (F := F) (v := arg6.view) f6 (i 2).val (by omega) (k1_off9_eq i) (k1_off9_inb i)
  have hc := cRd_eq (F := F) (v := arg5.view) f5 (fun r => k1_off10 i (BitVec.ofNat 32 r.val)) (fun r => k1_off11 i (BitVec.ofNat 32 r.val))
    (fun r => k1_off10_inb i r) (fun r => k1_off11_inb i r) (i 2).val (by omega) (k1_off10_eq i) (k1_off11_eq i)
  have hm := (readAt_whole (F := F) (s := S8x256) (v := arg11.view) fL1 hz2 inb_S8x256_S8x256_0_0).trans e11
  ihave H10' := (self iprop(∃ f, (arg10.view.loc (c : Thread nD τ) ↦[arg10.view.set]{fullShare} f) ∗ ⌜∀ y, (y 0).val < 256 * (i 2).val + 256 → arg10.view.read (Elt F) f y = sU (View.readAt (Elt F) arg4.view (Rect.unit (s := S1x256x128) ![0, 0, 0] S1x256x128.size inb_S1x256x128_S1x256x128_0_0_0).toLoadRect f4) (arg5.view.read (Elt F) f5) (arg6.view.read (Elt F) f6) (i 2).val y⌝)) $$ [H10]
  · iexists _; isplitl [H10]; · iexact H10
    ipureintro
    refine put4 (v := arg10.view) fL0 (sU (View.readAt (Elt F) arg4.view (Rect.unit (s := S1x256x128) ![0, 0, 0] S1x256x128.size inb_S1x256x128_S1x256x128_0_0_0).toLoadRect f4) (arg5.view.read (Elt F) f5) (arg6.view.read (Elt F) f6) (i 2).val) (256 * (i 2).val)
      (fun r => k1_off12 i (BitVec.ofNat 32 (64 * r.val))) (k1_off12_eq i) _ _ _ _ _ _ _ _ ?_ ?_ ?_ ?_ e10
    · exact fun x y h0 h1 => (congrFun (show _ = dtile _ _ _ (i 2).val 0 by rw [dtile, ← hK, ← hc]; rfl) x).trans (sU_dtile _ _ _ _ 0 x y h0 h1)
    · exact fun x y h0 h1 => (congrFun (show _ = dtile _ _ _ (i 2).val 1 by rw [dtile, ← hK, ← hc]; rfl) x).trans (sU_dtile _ _ _ _ 1 x y h0 h1)
    · exact fun x y h0 h1 => (congrFun (show _ = dtile _ _ _ (i 2).val 2 by rw [dtile, ← hK, ← hc]; rfl) x).trans (sU_dtile _ _ _ _ 2 x y h0 h1)
    · exact fun x y h0 h1 => (congrFun (show _ = dtile _ _ _ (i 2).val 3 by rw [dtile, ← hK, ← hc]; rfl) x).trans (sU_dtile _ _ _ _ 3 x y h0 h1)
  icases H10' with ⟨%g10, H10, %a10⟩
  ihave H11' := (self iprop(∃ f, (arg11.view.loc (c : Thread nD τ) ↦[arg11.view.set]{fullShare} f) ∗ ⌜arg11.view.read (Elt F) f = mFin (View.readAt (Elt F) arg4.view (Rect.unit (s := S1x256x128) ![0, 0, 0] S1x256x128.size inb_S1x256x128_S1x256x128_0_0_0).toLoadRect f4) (arg5.view.read (Elt F) f5) (arg6.view.read (Elt F) f6) (i 2).val⌝)) $$ [H11]
  · iexists _; isplitl [H11]; · iexact H11
    ipureintro
    refine (read_writes_whole (s := S8x256) (v := arg11.view) _ hz2 _ _ _).trans ?_
    unfold mFin
    rw [← hK, ← hc, ← hm]
    refine congrArg k1_pay64 ((readAt_whole (F := F) (s := S8x256) (v := arg11.view) _ hz2 inb_S8x256_S8x256_0_0).trans
      ((read_writes_whole (s := S8x256) (v := arg11.view) _ hz2 _ _ _).trans rfl))
  icases H11' with ⟨%k11, H11, %a11⟩
  ihave H12' := (self iprop(∃ f, (arg12.view.loc (c : Thread nD τ) ↦[arg12.view.set]{fullShare} f) ∗ ⌜arg12.view.read (Elt F) f = lAt (View.readAt (Elt F) arg4.view (Rect.unit (s := S1x256x128) ![0, 0, 0] S1x256x128.size inb_S1x256x128_S1x256x128_0_0_0).toLoadRect f4) (arg5.view.read (Elt F) f5) (arg6.view.read (Elt F) f6) (i 2).val 0⌝)) $$ [H12]
  · iexists _; isplitl [H12]; · iexact H12
    ipureintro
    exact read_writes_whole (s := S8x256) (v := arg12.view) _ hz2 _ _ _
  icases H12' with ⟨%g12, H12, %a12⟩
  ihave H13' := (self iprop(∃ f, (arg13.view.loc (c : Thread nD τ) ↦[arg13.view.set]{fullShare} f) ∗ ⌜arg13.view.read (Elt F) f = accAt (View.readAt (Elt F) arg4.view (Rect.unit (s := S1x256x128) ![0, 0, 0] S1x256x128.size inb_S1x256x128_S1x256x128_0_0_0).toLoadRect f4) (arg5.view.read (Elt F) f5) (arg6.view.read (Elt F) f6) (arg7.view.read (Elt F) f7) (i 2).val 0⌝)) $$ [H13]
  · iexists _; isplitl [H13]; · iexact H13
    ipureintro
    exact read_writes_whole (s := S128x256) (v := arg13.view) _ hz2 _ _ _
  icases H13' with ⟨%g13, H13, %a13⟩
  let I3 : Inv3 (F := F) Variants.none c none E i arg4 harg4 arg5 harg5 arg6 harg6 arg7 harg7 arg8 harg8 arg9 harg9 arg10 harg10 arg11 harg11 arg12 harg12 arg13 harg13 0#32 :=
    inv3 Variants.none c none E i arg4 harg4 arg5 harg5 arg6 harg6 arg7 harg7 arg8 harg8 arg9 harg9 arg10 harg10 arg11 harg11 arg12 harg12 arg13 harg13 (View.readAt (Elt F) arg4.view (Rect.unit (s := S1x256x128) ![0, 0, 0] S1x256x128.size inb_S1x256x128_S1x256x128_0_0_0).toLoadRect f4) (arg5.view.read (Elt F) f5) (arg6.view.read (Elt F) f6) f7 g10 k11 a10 a11 0#32
  sl_exec
  sl_step
  rw [t3_trips] at hL4 hL6
  rw [hv4] at hL4 hL6
  iapply Hk
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole (s := S1x256x128) (v := arg9.view) _ hz3 _ _ _).trans ?_
    have r12 := (readAt_whole (F := F) (s := S8x256) (v := arg12.view) fL0 hz2 inb_S8x256_S8x256_0_0).trans hL4
    have r13 := (readAt_whole (F := F) (s := S128x256) (v := arg13.view) fL1 hz2 inb_S128x256_S128x256_0_0).trans hL6
    have r8 := readAt_whole (F := F) (s := S1x1x1x128) (v := arg8.view) f8 hz4 inb_S1x1x1x128_S1x1x1x128_0_0_0_0
    unfold attnOut
    rw [← r12, ← r13, ← r8]
    rfl
  isplitl [H10]
  · iexists _, g10; isplitr; · ipureintro; rfl
    iexact H10
  isplitl [H11]
  · iexists _, k11; isplitr; · ipureintro; rfl
    iexact H11
  isplitl [H12]
  · iexists _, fL0; isplitr; · ipureintro; rfl
    iexact H12
  iexists _, fL1; isplitr; · ipureintro; rfl
  iexact H13

end Cert.Kernel.Body
-- ==== Proof.KrnQuant.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Quant

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses -/

abbrev r0_0 : Rect S1x256x5120 := Rect.unit (s := S1x256x5120) ![0, 0, 0] S1x128x128.size inb_S1x256x5120_S1x128x128_0_0_0
abbrev r0_1 : Rect S1x256x5120 := Rect.unit (s := S1x256x5120) ![0, 0, 128] S1x128x128.size inb_S1x256x5120_S1x128x128_0_0_128
abbrev r0_2 : Rect S1x256x5120 := Rect.unit (s := S1x256x5120) ![0, 0, 256] S1x128x128.size inb_S1x256x5120_S1x128x128_0_0_256
abbrev r0_3 : Rect S1x256x5120 := Rect.unit (s := S1x256x5120) ![0, 0, 384] S1x128x128.size inb_S1x256x5120_S1x128x128_0_0_384
abbrev r0_4 : Rect S1x256x5120 := Rect.unit (s := S1x256x5120) ![0, 0, 512] S1x128x128.size inb_S1x256x5120_S1x128x128_0_0_512
abbrev r0_5 : Rect S1x256x5120 := Rect.unit (s := S1x256x5120) ![0, 0, 640] S1x128x128.size inb_S1x256x5120_S1x128x128_0_0_640
abbrev r0_6 : Rect S1x256x5120 := Rect.unit (s := S1x256x5120) ![0, 0, 768] S1x128x128.size inb_S1x256x5120_S1x128x128_0_0_768
abbrev r0_7 : Rect S1x256x5120 := Rect.unit (s := S1x256x5120) ![0, 0, 896] S1x128x128.size inb_S1x256x5120_S1x128x128_0_0_896
abbrev r0_8 : Rect S1x256x5120 := Rect.unit (s := S1x256x5120) ![0, 0, 1024] S1x128x128.size inb_S1x256x5120_S1x128x128_0_0_1024
abbrev r0_9 : Rect S1x256x5120 := Rect.unit (s := S1x256x5120) ![0, 0, 1152] S1x128x128.size inb_S1x256x5120_S1x128x128_0_0_1152
abbrev r0_10 : Rect S1x256x5120 := Rect.unit (s := S1x256x5120) ![0, 0, 1280] S1x128x128.size inb_S1x256x5120_S1x128x128_0_0_1280
abbrev r0_11 : Rect S1x256x5120 := Rect.unit (s := S1x256x5120) ![0, 0, 1408] S1x128x128.size inb_S1x256x5120_S1x128x128_0_0_1408
abbrev r0_12 : Rect S1x256x5120 := Rect.unit (s := S1x256x5120) ![0, 0, 1536] S1x128x128.size inb_S1x256x5120_S1x128x128_0_0_1536
abbrev r0_13 : Rect S1x256x5120 := Rect.unit (s := S1x256x5120) ![0, 0, 1664] S1x128x128.size inb_S1x256x5120_S1x128x128_0_0_1664
abbrev r0_14 : Rect S1x256x5120 := Rect.unit (s := S1x256x5120) ![0, 0, 1792] S1x128x128.size inb_S1x256x5120_S1x128x128_0_0_1792
abbrev r0_15 : Rect S1x256x5120 := Rect.unit (s := S1x256x5120) ![0, 0, 1920] S1x128x128.size inb_S1x256x5120_S1x128x128_0_0_1920
abbrev r0_16 : Rect S1x256x5120 := Rect.unit (s := S1x256x5120) ![0, 0, 2048] S1x128x128.size inb_S1x256x5120_S1x128x128_0_0_2048
abbrev r0_17 : Rect S1x256x5120 := Rect.unit (s := S1x256x5120) ![0, 0, 2176] S1x128x128.size inb_S1x256x5120_S1x128x128_0_0_2176
abbrev r0_18 : Rect S1x256x5120 := Rect.unit (s := S1x256x5120) ![0, 0, 2304] S1x128x128.size inb_S1x256x5120_S1x128x128_0_0_2304
abbrev r0_19 : Rect S1x256x5120 := Rect.unit (s := S1x256x5120) ![0, 0, 2432] S1x128x128.size inb_S1x256x5120_S1x128x128_0_0_2432
abbrev r0_20 : Rect S1x256x5120 := Rect.unit (s := S1x256x5120) ![0, 0, 2560] S1x128x128.size inb_S1x256x5120_S1x128x128_0_0_2560
abbrev r0_21 : Rect S1x256x5120 := Rect.unit (s := S1x256x5120) ![0, 0, 2688] S1x128x128.size inb_S1x256x5120_S1x128x128_0_0_2688
abbrev r0_22 : Rect S1x256x5120 := Rect.unit (s := S1x256x5120) ![0, 0, 2816] S1x128x128.size inb_S1x256x5120_S1x128x128_0_0_2816
abbrev r0_23 : Rect S1x256x5120 := Rect.unit (s := S1x256x5120) ![0, 0, 2944] S1x128x128.size inb_S1x256x5120_S1x128x128_0_0_2944
abbrev r0_24 : Rect S1x256x5120 := Rect.unit (s := S1x256x5120) ![0, 0, 3072] S1x128x128.size inb_S1x256x5120_S1x128x128_0_0_3072
abbrev r0_25 : Rect S1x256x5120 := Rect.unit (s := S1x256x5120) ![0, 0, 3200] S1x128x128.size inb_S1x256x5120_S1x128x128_0_0_3200
abbrev r0_26 : Rect S1x256x5120 := Rect.unit (s := S1x256x5120) ![0, 0, 3328] S1x128x128.size inb_S1x256x5120_S1x128x128_0_0_3328
abbrev r0_27 : Rect S1x256x5120 := Rect.unit (s := S1x256x5120) ![0, 0, 3456] S1x128x128.size inb_S1x256x5120_S1x128x128_0_0_3456
abbrev r0_28 : Rect S1x256x5120 := Rect.unit (s := S1x256x5120) ![0, 0, 3584] S1x128x128.size inb_S1x256x5120_S1x128x128_0_0_3584
abbrev r0_29 : Rect S1x256x5120 := Rect.unit (s := S1x256x5120) ![0, 0, 3712] S1x128x128.size inb_S1x256x5120_S1x128x128_0_0_3712
abbrev r0_30 : Rect S1x256x5120 := Rect.unit (s := S1x256x5120) ![0, 0, 3840] S1x128x128.size inb_S1x256x5120_S1x128x128_0_0_3840
abbrev r0_31 : Rect S1x256x5120 := Rect.unit (s := S1x256x5120) ![0, 0, 3968] S1x128x128.size inb_S1x256x5120_S1x128x128_0_0_3968
abbrev r0_32 : Rect S1x256x5120 := Rect.unit (s := S1x256x5120) ![0, 0, 4096] S1x128x128.size inb_S1x256x5120_S1x128x128_0_0_4096
abbrev r0_33 : Rect S1x256x5120 := Rect.unit (s := S1x256x5120) ![0, 0, 4224] S1x128x128.size inb_S1x256x5120_S1x128x128_0_0_4224
abbrev r0_34 : Rect S1x256x5120 := Rect.unit (s := S1x256x5120) ![0, 0, 4352] S1x128x128.size inb_S1x256x5120_S1x128x128_0_0_4352
abbrev r0_35 : Rect S1x256x5120 := Rect.unit (s := S1x256x5120) ![0, 0, 4480] S1x128x128.size inb_S1x256x5120_S1x128x128_0_0_4480
abbrev r0_36 : Rect S1x256x5120 := Rect.unit (s := S1x256x5120) ![0, 0, 4608] S1x128x128.size inb_S1x256x5120_S1x128x128_0_0_4608
abbrev r0_37 : Rect S1x256x5120 := Rect.unit (s := S1x256x5120) ![0, 0, 4736] S1x128x128.size inb_S1x256x5120_S1x128x128_0_0_4736
abbrev r0_38 : Rect S1x256x5120 := Rect.unit (s := S1x256x5120) ![0, 0, 4864] S1x128x128.size inb_S1x256x5120_S1x128x128_0_0_4864
abbrev r0_39 : Rect S1x256x5120 := Rect.unit (s := S1x256x5120) ![0, 0, 4992] S1x128x128.size inb_S1x256x5120_S1x128x128_0_0_4992
abbrev r0_40 : Rect S1x256x5120 := Rect.unit (s := S1x256x5120) ![0, 128, 0] S1x128x128.size inb_S1x256x5120_S1x128x128_0_128_0
abbrev r0_41 : Rect S1x256x5120 := Rect.unit (s := S1x256x5120) ![0, 128, 128] S1x128x128.size inb_S1x256x5120_S1x128x128_0_128_128
abbrev r0_42 : Rect S1x256x5120 := Rect.unit (s := S1x256x5120) ![0, 128, 256] S1x128x128.size inb_S1x256x5120_S1x128x128_0_128_256
abbrev r0_43 : Rect S1x256x5120 := Rect.unit (s := S1x256x5120) ![0, 128, 384] S1x128x128.size inb_S1x256x5120_S1x128x128_0_128_384
abbrev r0_44 : Rect S1x256x5120 := Rect.unit (s := S1x256x5120) ![0, 128, 512] S1x128x128.size inb_S1x256x5120_S1x128x128_0_128_512
abbrev r0_45 : Rect S1x256x5120 := Rect.unit (s := S1x256x5120) ![0, 128, 640] S1x128x128.size inb_S1x256x5120_S1x128x128_0_128_640
abbrev r0_46 : Rect S1x256x5120 := Rect.unit (s := S1x256x5120) ![0, 128, 768] S1x128x128.size inb_S1x256x5120_S1x128x128_0_128_768
abbrev r0_47 : Rect S1x256x5120 := Rect.unit (s := S1x256x5120) ![0, 128, 896] S1x128x128.size inb_S1x256x5120_S1x128x128_0_128_896
abbrev r0_48 : Rect S1x256x5120 := Rect.unit (s := S1x256x5120) ![0, 128, 1024] S1x128x128.size inb_S1x256x5120_S1x128x128_0_128_1024
abbrev r0_49 : Rect S1x256x5120 := Rect.unit (s := S1x256x5120) ![0, 128, 1152] S1x128x128.size inb_S1x256x5120_S1x128x128_0_128_1152
abbrev r0_50 : Rect S1x256x5120 := Rect.unit (s := S1x256x5120) ![0, 128, 1280] S1x128x128.size inb_S1x256x5120_S1x128x128_0_128_1280
abbrev r0_51 : Rect S1x256x5120 := Rect.unit (s := S1x256x5120) ![0, 128, 1408] S1x128x128.size inb_S1x256x5120_S1x128x128_0_128_1408
abbrev r0_52 : Rect S1x256x5120 := Rect.unit (s := S1x256x5120) ![0, 128, 1536] S1x128x128.size inb_S1x256x5120_S1x128x128_0_128_1536
abbrev r0_53 : Rect S1x256x5120 := Rect.unit (s := S1x256x5120) ![0, 128, 1664] S1x128x128.size inb_S1x256x5120_S1x128x128_0_128_1664
abbrev r0_54 : Rect S1x256x5120 := Rect.unit (s := S1x256x5120) ![0, 128, 1792] S1x128x128.size inb_S1x256x5120_S1x128x128_0_128_1792
abbrev r0_55 : Rect S1x256x5120 := Rect.unit (s := S1x256x5120) ![0, 128, 1920] S1x128x128.size inb_S1x256x5120_S1x128x128_0_128_1920
abbrev r0_56 : Rect S1x256x5120 := Rect.unit (s := S1x256x5120) ![0, 128, 2048] S1x128x128.size inb_S1x256x5120_S1x128x128_0_128_2048
abbrev r0_57 : Rect S1x256x5120 := Rect.unit (s := S1x256x5120) ![0, 128, 2176] S1x128x128.size inb_S1x256x5120_S1x128x128_0_128_2176
abbrev r0_58 : Rect S1x256x5120 := Rect.unit (s := S1x256x5120) ![0, 128, 2304] S1x128x128.size inb_S1x256x5120_S1x128x128_0_128_2304
abbrev r0_59 : Rect S1x256x5120 := Rect.unit (s := S1x256x5120) ![0, 128, 2432] S1x128x128.size inb_S1x256x5120_S1x128x128_0_128_2432
abbrev r0_60 : Rect S1x256x5120 := Rect.unit (s := S1x256x5120) ![0, 128, 2560] S1x128x128.size inb_S1x256x5120_S1x128x128_0_128_2560
abbrev r0_61 : Rect S1x256x5120 := Rect.unit (s := S1x256x5120) ![0, 128, 2688] S1x128x128.size inb_S1x256x5120_S1x128x128_0_128_2688
abbrev r0_62 : Rect S1x256x5120 := Rect.unit (s := S1x256x5120) ![0, 128, 2816] S1x128x128.size inb_S1x256x5120_S1x128x128_0_128_2816
abbrev r0_63 : Rect S1x256x5120 := Rect.unit (s := S1x256x5120) ![0, 128, 2944] S1x128x128.size inb_S1x256x5120_S1x128x128_0_128_2944
abbrev r0_64 : Rect S1x256x5120 := Rect.unit (s := S1x256x5120) ![0, 128, 3072] S1x128x128.size inb_S1x256x5120_S1x128x128_0_128_3072
abbrev r0_65 : Rect S1x256x5120 := Rect.unit (s := S1x256x5120) ![0, 128, 3200] S1x128x128.size inb_S1x256x5120_S1x128x128_0_128_3200
abbrev r0_66 : Rect S1x256x5120 := Rect.unit (s := S1x256x5120) ![0, 128, 3328] S1x128x128.size inb_S1x256x5120_S1x128x128_0_128_3328
abbrev r0_67 : Rect S1x256x5120 := Rect.unit (s := S1x256x5120) ![0, 128, 3456] S1x128x128.size inb_S1x256x5120_S1x128x128_0_128_3456
abbrev r0_68 : Rect S1x256x5120 := Rect.unit (s := S1x256x5120) ![0, 128, 3584] S1x128x128.size inb_S1x256x5120_S1x128x128_0_128_3584
abbrev r0_69 : Rect S1x256x5120 := Rect.unit (s := S1x256x5120) ![0, 128, 3712] S1x128x128.size inb_S1x256x5120_S1x128x128_0_128_3712
abbrev r0_70 : Rect S1x256x5120 := Rect.unit (s := S1x256x5120) ![0, 128, 3840] S1x128x128.size inb_S1x256x5120_S1x128x128_0_128_3840
abbrev r0_71 : Rect S1x256x5120 := Rect.unit (s := S1x256x5120) ![0, 128, 3968] S1x128x128.size inb_S1x256x5120_S1x128x128_0_128_3968
abbrev r0_72 : Rect S1x256x5120 := Rect.unit (s := S1x256x5120) ![0, 128, 4096] S1x128x128.size inb_S1x256x5120_S1x128x128_0_128_4096
abbrev r0_73 : Rect S1x256x5120 := Rect.unit (s := S1x256x5120) ![0, 128, 4224] S1x128x128.size inb_S1x256x5120_S1x128x128_0_128_4224
abbrev r0_74 : Rect S1x256x5120 := Rect.unit (s := S1x256x5120) ![0, 128, 4352] S1x128x128.size inb_S1x256x5120_S1x128x128_0_128_4352
abbrev r0_75 : Rect S1x256x5120 := Rect.unit (s := S1x256x5120) ![0, 128, 4480] S1x128x128.size inb_S1x256x5120_S1x128x128_0_128_4480
abbrev r0_76 : Rect S1x256x5120 := Rect.unit (s := S1x256x5120) ![0, 128, 4608] S1x128x128.size inb_S1x256x5120_S1x128x128_0_128_4608
abbrev r0_77 : Rect S1x256x5120 := Rect.unit (s := S1x256x5120) ![0, 128, 4736] S1x128x128.size inb_S1x256x5120_S1x128x128_0_128_4736
abbrev r0_78 : Rect S1x256x5120 := Rect.unit (s := S1x256x5120) ![0, 128, 4864] S1x128x128.size inb_S1x256x5120_S1x128x128_0_128_4864
abbrev r0_79 : Rect S1x256x5120 := Rect.unit (s := S1x256x5120) ![0, 128, 4992] S1x128x128.size inb_S1x256x5120_S1x128x128_0_128_4992
abbrev r0_80 : Rect S1x1x2x40 := Rect.unit (s := S1x1x2x40) ![0, 0, 0, 0] S1x1x2x40.size inb_S1x1x2x40_S1x1x2x40_0_0_0_0

/-! ## What the body leaves in each output window's buffer -/

/-! ### Values of the body that the stores' payloads, spelt out, would write more than once

    Each is a vector the body binds (often a part call's result), stated over the input windows' blocks and
    numbered on from the skeleton's payload functions (`qv308` …, after `k0_pay307`), so that
    `out0_W` and the values after it name it instead of spelling it out (`unfold_out out0_W` opens a canon
    with them, `unfold_payloads` opens them with the payloads); the comment after each is the printed function's
    name for the value (a count appended where that name is bound again). -/

def qv308 (x0 : Vec F S1x256x5120 .bf16) : FVec F S1x1 .f32 :=
  k0_pay6 (View.ld x0 r0_1) -- `v36`
def qv309 (x0 : Vec F S1x256x5120 .bf16) : FVec F S128x128 .f32 :=
  k0_pay17 (View.ld x0 r0_4) -- `v113`
def qv310 (x0 : Vec F S1x256x5120 .bf16) : IVec S1x1 1 :=
  k0_pay32 (View.ld x0 r0_8) -- `v227`
def qv311 (x0 : Vec F S1x256x5120 .bf16) : FVec F S1x1 .f32 :=
  k0_pay33 (View.ld x0 r0_8) -- `v229`
def qv312 (x0 : Vec F S1x256x5120 .bf16) : FVec F S1x1 .f32 :=
  k0_pay44 (View.ld x0 r0_11) -- `v306`
def qv313 (x0 : Vec F S1x256x5120 .bf16) : FVec F S128x128 .f32 :=
  k0_pay55 (View.ld x0 r0_14) -- `v383`
def qv314 (x0 : Vec F S1x256x5120 .bf16) : IVec S1x1 1 :=
  k0_pay70 (View.ld x0 r0_18) -- `v497`
def qv315 (x0 : Vec F S1x256x5120 .bf16) : FVec F S1x1 .f32 :=
  k0_pay71 (View.ld x0 r0_18) -- `v499`
def qv316 (x0 : Vec F S1x256x5120 .bf16) : FVec F S1x1 .f32 :=
  k0_pay82 (View.ld x0 r0_21) -- `v576`
def qv317 (x0 : Vec F S1x256x5120 .bf16) : FVec F S128x128 .f32 :=
  k0_pay93 (View.ld x0 r0_24) -- `v653`
def qv318 (x0 : Vec F S1x256x5120 .bf16) : IVec S1x1 1 :=
  k0_pay108 (View.ld x0 r0_28) -- `v767`
def qv319 (x0 : Vec F S1x256x5120 .bf16) : FVec F S1x1 .f32 :=
  k0_pay109 (View.ld x0 r0_28) -- `v769`
def qv320 (x0 : Vec F S1x256x5120 .bf16) : FVec F S1x1 .f32 :=
  k0_pay120 (View.ld x0 r0_31) -- `v846`
def qv321 (x0 : Vec F S1x256x5120 .bf16) : FVec F S128x128 .f32 :=
  k0_pay131 (View.ld x0 r0_34) -- `v923`
def qv322 (x0 : Vec F S1x256x5120 .bf16) : IVec S1x1 1 :=
  k0_pay146 (View.ld x0 r0_38) -- `v1037`
def qv323 (x0 : Vec F S1x256x5120 .bf16) : FVec F S1x1 .f32 :=
  k0_pay147 (View.ld x0 r0_38) -- `v1039`
def qv324 (x0 : Vec F S1x256x5120 .bf16) : FVec F S1 .f32 :=
  k0_pay159 (View.ld x0 r0_41) -- `v1116`
def qv325 (x0 : Vec F S1x256x5120 .bf16) : FVec F S128x128 .f32 :=
  k0_pay170 (View.ld x0 r0_44) -- `v1193`
def qv326 (x0 : Vec F S1x256x5120 .bf16) : FVec F S1x1 .f32 :=
  k0_pay184 (View.ld x0 r0_48) -- `v1306`
def qv327 (x0 : Vec F S1x256x5120 .bf16) : IVec S1x1 1 :=
  k0_pay185 (View.ld x0 r0_48) -- `v1308`
def qv328 (x0 : Vec F S1x256x5120 .bf16) : FVec F S1x1 .f32 :=
  k0_pay186 (F := F) -- `v1309`
def qv329 (x0 : Vec F S1x256x5120 .bf16) : FVec F S1 .f32 :=
  k0_pay197 (View.ld x0 r0_51) -- `v1386`
def qv330 (x0 : Vec F S1x256x5120 .bf16) : FVec F S128x128 .f32 :=
  k0_pay208 (View.ld x0 r0_54) -- `v1463`
def qv331 (x0 : Vec F S1x256x5120 .bf16) : FVec F S1x1 .f32 :=
  k0_pay222 (View.ld x0 r0_58) -- `v1576`
def qv332 (x0 : Vec F S1x256x5120 .bf16) : IVec S1x1 1 :=
  k0_pay223 (View.ld x0 r0_58) -- `v1578`
def qv333 (x0 : Vec F S1x256x5120 .bf16) : FVec F S1x1 .f32 :=
  k0_pay224 (F := F) -- `v1579`
def qv334 (x0 : Vec F S1x256x5120 .bf16) : FVec F S1 .f32 :=
  k0_pay235 (View.ld x0 r0_61) -- `v1656`
def qv335 (x0 : Vec F S1x256x5120 .bf16) : FVec F S128x128 .f32 :=
  k0_pay246 (View.ld x0 r0_64) -- `v1733`
def qv336 (x0 : Vec F S1x256x5120 .bf16) : FVec F S1x1 .f32 :=
  k0_pay260 (View.ld x0 r0_68) -- `v1846`
def qv337 (x0 : Vec F S1x256x5120 .bf16) : IVec S1x1 1 :=
  k0_pay261 (View.ld x0 r0_68) -- `v1848`
def qv338 (x0 : Vec F S1x256x5120 .bf16) : FVec F S1x1 .f32 :=
  k0_pay262 (F := F) -- `v1849`
def qv339 (x0 : Vec F S1x256x5120 .bf16) : FVec F S1 .f32 :=
  k0_pay273 (View.ld x0 r0_71) -- `v1926`
def qv340 (x0 : Vec F S1x256x5120 .bf16) : FVec F S128x128 .f32 :=
  k0_pay284 (View.ld x0 r0_74) -- `v2003`
def qv341 (x0 : Vec F S1x256x5120 .bf16) : FVec F S1x1 .f32 :=
  k0_pay298 (View.ld x0 r0_78) -- `v2116`
def qv342 (x0 : Vec F S1x256x5120 .bf16) : IVec S1x1 1 :=
  k0_pay299 (View.ld x0 r0_78) -- `v2118`
def qv343 (x0 : Vec F S1x256x5120 .bf16) : FVec F S1x1 .f32 :=
  k0_pay300 (F := F) -- `v2119`

/-- Window 1's staging buffer after the body, from the input windows' blocks: its 80 stores as pieces, LAST
    FIRST (Lib/Pipeline/FrameBody.lean `View.canon`; the payloads are the skeleton's and the values stated above). -/
def out0_1 (x0 : Vec F S1x256x5120 .bf16) : Vec F S1x256x5120 .i8 :=
  View.canon [⟨r0_79, k0_pay306 (k0_pay305 (View.ld x0 r0_79))⟩,
    ⟨r0_78, k0_pay302 (k0_pay297 (View.ld x0 r0_78)) (qv341 x0) (qv342 x0) (qv343 x0)⟩,
    ⟨r0_77, k0_pay296 (View.ld x0 r0_77)⟩,
    ⟨r0_76, k0_pay293 (View.ld x0 r0_76)⟩,
    ⟨r0_75, k0_pay290 (k0_pay289 (View.ld x0 r0_75))⟩,
    ⟨r0_74, k0_pay286 (qv340 x0)⟩,
    ⟨r0_73, k0_pay283 (View.ld x0 r0_73)⟩,
    ⟨r0_72, k0_pay280 (k0_pay278 (View.ld x0 r0_72)) (k0_pay279 (F := F))⟩,
    ⟨r0_71, k0_pay275 (k0_pay272 (View.ld x0 r0_71)) (qv339 x0)⟩,
    ⟨r0_70, k0_pay271 (View.ld x0 r0_70)⟩,
    ⟨r0_69, k0_pay268 (k0_pay267 (View.ld x0 r0_69))⟩,
    ⟨r0_68, k0_pay264 (k0_pay259 (View.ld x0 r0_68)) (qv336 x0) (qv337 x0) (qv338 x0)⟩,
    ⟨r0_67, k0_pay258 (View.ld x0 r0_67)⟩,
    ⟨r0_66, k0_pay255 (View.ld x0 r0_66)⟩,
    ⟨r0_65, k0_pay252 (k0_pay251 (View.ld x0 r0_65))⟩,
    ⟨r0_64, k0_pay248 (qv335 x0)⟩,
    ⟨r0_63, k0_pay245 (View.ld x0 r0_63)⟩,
    ⟨r0_62, k0_pay242 (k0_pay240 (View.ld x0 r0_62)) (k0_pay241 (F := F))⟩,
    ⟨r0_61, k0_pay237 (k0_pay234 (View.ld x0 r0_61)) (qv334 x0)⟩,
    ⟨r0_60, k0_pay233 (View.ld x0 r0_60)⟩,
    ⟨r0_59, k0_pay230 (k0_pay229 (View.ld x0 r0_59))⟩,
    ⟨r0_58, k0_pay226 (k0_pay221 (View.ld x0 r0_58)) (qv331 x0) (qv332 x0) (qv333 x0)⟩,
    ⟨r0_57, k0_pay220 (View.ld x0 r0_57)⟩,
    ⟨r0_56, k0_pay217 (View.ld x0 r0_56)⟩,
    ⟨r0_55, k0_pay214 (k0_pay213 (View.ld x0 r0_55))⟩,
    ⟨r0_54, k0_pay210 (qv330 x0)⟩,
    ⟨r0_53, k0_pay207 (View.ld x0 r0_53)⟩,
    ⟨r0_52, k0_pay204 (k0_pay202 (View.ld x0 r0_52)) (k0_pay203 (F := F))⟩,
    ⟨r0_51, k0_pay199 (k0_pay196 (View.ld x0 r0_51)) (qv329 x0)⟩,
    ⟨r0_50, k0_pay195 (View.ld x0 r0_50)⟩,
    ⟨r0_49, k0_pay192 (k0_pay191 (View.ld x0 r0_49))⟩,
    ⟨r0_48, k0_pay188 (k0_pay183 (View.ld x0 r0_48)) (qv326 x0) (qv327 x0) (qv328 x0)⟩,
    ⟨r0_47, k0_pay182 (View.ld x0 r0_47)⟩,
    ⟨r0_46, k0_pay179 (View.ld x0 r0_46)⟩,
    ⟨r0_45, k0_pay176 (k0_pay175 (View.ld x0 r0_45))⟩,
    ⟨r0_44, k0_pay172 (qv325 x0)⟩,
    ⟨r0_43, k0_pay169 (View.ld x0 r0_43)⟩,
    ⟨r0_42, k0_pay166 (k0_pay164 (View.ld x0 r0_42)) (k0_pay165 (F := F))⟩,
    ⟨r0_41, k0_pay161 (k0_pay158 (View.ld x0 r0_41)) (qv324 x0)⟩,
    ⟨r0_40, k0_pay157 (View.ld x0 r0_40)⟩,
    ⟨r0_39, k0_pay153 (k0_pay152 (View.ld x0 r0_39))⟩,
    ⟨r0_38, k0_pay149 (k0_pay144 (View.ld x0 r0_38)) (qv322 x0) (qv323 x0)⟩,
    ⟨r0_37, k0_pay143 (View.ld x0 r0_37)⟩,
    ⟨r0_36, k0_pay140 (View.ld x0 r0_36)⟩,
    ⟨r0_35, k0_pay137 (k0_pay136 (View.ld x0 r0_35))⟩,
    ⟨r0_34, k0_pay133 (k0_pay130 (View.ld x0 r0_34)) (qv321 x0)⟩,
    ⟨r0_33, k0_pay129 (View.ld x0 r0_33)⟩,
    ⟨r0_32, k0_pay126 (k0_pay125 (View.ld x0 r0_32))⟩,
    ⟨r0_31, k0_pay122 (k0_pay119 (View.ld x0 r0_31)) (qv320 x0)⟩,
    ⟨r0_30, k0_pay118 (View.ld x0 r0_30)⟩,
    ⟨r0_29, k0_pay115 (k0_pay114 (View.ld x0 r0_29))⟩,
    ⟨r0_28, k0_pay111 (k0_pay106 (View.ld x0 r0_28)) (qv318 x0) (qv319 x0)⟩,
    ⟨r0_27, k0_pay105 (View.ld x0 r0_27)⟩,
    ⟨r0_26, k0_pay102 (View.ld x0 r0_26)⟩,
    ⟨r0_25, k0_pay99 (k0_pay98 (View.ld x0 r0_25))⟩,
    ⟨r0_24, k0_pay95 (k0_pay92 (View.ld x0 r0_24)) (qv317 x0)⟩,
    ⟨r0_23, k0_pay91 (View.ld x0 r0_23)⟩,
    ⟨r0_22, k0_pay88 (k0_pay87 (View.ld x0 r0_22))⟩,
    ⟨r0_21, k0_pay84 (k0_pay81 (View.ld x0 r0_21)) (qv316 x0)⟩,
    ⟨r0_20, k0_pay80 (View.ld x0 r0_20)⟩,
    ⟨r0_19, k0_pay77 (k0_pay76 (View.ld x0 r0_19))⟩,
    ⟨r0_18, k0_pay73 (k0_pay68 (View.ld x0 r0_18)) (qv314 x0) (qv315 x0)⟩,
    ⟨r0_17, k0_pay67 (View.ld x0 r0_17)⟩,
    ⟨r0_16, k0_pay64 (View.ld x0 r0_16)⟩,
    ⟨r0_15, k0_pay61 (k0_pay60 (View.ld x0 r0_15))⟩,
    ⟨r0_14, k0_pay57 (k0_pay54 (View.ld x0 r0_14)) (qv313 x0)⟩,
    ⟨r0_13, k0_pay53 (View.ld x0 r0_13)⟩,
    ⟨r0_12, k0_pay50 (k0_pay49 (View.ld x0 r0_12))⟩,
    ⟨r0_11, k0_pay46 (k0_pay43 (View.ld x0 r0_11)) (qv312 x0)⟩,
    ⟨r0_10, k0_pay42 (View.ld x0 r0_10)⟩,
    ⟨r0_9, k0_pay39 (k0_pay38 (View.ld x0 r0_9))⟩,
    ⟨r0_8, k0_pay35 (k0_pay30 (View.ld x0 r0_8)) (qv310 x0) (qv311 x0)⟩,
    ⟨r0_7, k0_pay29 (View.ld x0 r0_7)⟩,
    ⟨r0_6, k0_pay26 (View.ld x0 r0_6)⟩,
    ⟨r0_5, k0_pay23 (k0_pay22 (View.ld x0 r0_5))⟩,
    ⟨r0_4, k0_pay19 (k0_pay16 (View.ld x0 r0_4)) (qv309 x0)⟩,
    ⟨r0_3, k0_pay15 (View.ld x0 r0_3)⟩,
    ⟨r0_2, k0_pay12 (k0_pay11 (View.ld x0 r0_2))⟩,
    ⟨r0_1, k0_pay8 (k0_pay5 (View.ld x0 r0_1)) (qv308 x0)⟩,
    ⟨r0_0, k0_pay4 (View.ld x0 r0_0)⟩]

/-- Its stores tile the buffer (checked by evaluation), so they cover it. -/
theorem cover0_1 (p0 : Vec F S1x128x128 .i8) (p1 : Vec F S1x128x128 .i8) (p2 : Vec F S1x128x128 .i8) (p3 : Vec F S1x128x128 .i8) (p4 : Vec F S1x128x128 .i8) (p5 : Vec F S1x128x128 .i8) (p6 : Vec F S1x128x128 .i8) (p7 : Vec F S1x128x128 .i8) (p8 : Vec F S1x128x128 .i8) (p9 : Vec F S1x128x128 .i8) (p10 : Vec F S1x128x128 .i8) (p11 : Vec F S1x128x128 .i8) (p12 : Vec F S1x128x128 .i8) (p13 : Vec F S1x128x128 .i8) (p14 : Vec F S1x128x128 .i8) (p15 : Vec F S1x128x128 .i8) (p16 : Vec F S1x128x128 .i8) (p17 : Vec F S1x128x128 .i8) (p18 : Vec F S1x128x128 .i8) (p19 : Vec F S1x128x128 .i8) (p20 : Vec F S1x128x128 .i8) (p21 : Vec F S1x128x128 .i8) (p22 : Vec F S1x128x128 .i8) (p23 : Vec F S1x128x128 .i8) (p24 : Vec F S1x128x128 .i8) (p25 : Vec F S1x128x128 .i8) (p26 : Vec F S1x128x128 .i8) (p27 : Vec F S1x128x128 .i8) (p28 : Vec F S1x128x128 .i8) (p29 : Vec F S1x128x128 .i8) (p30 : Vec F S1x128x128 .i8) (p31 : Vec F S1x128x128 .i8) (p32 : Vec F S1x128x128 .i8) (p33 : Vec F S1x128x128 .i8) (p34 : Vec F S1x128x128 .i8) (p35 : Vec F S1x128x128 .i8) (p36 : Vec F S1x128x128 .i8) (p37 : Vec F S1x128x128 .i8) (p38 : Vec F S1x128x128 .i8) (p39 : Vec F S1x128x128 .i8) (p40 : Vec F S1x128x128 .i8) (p41 : Vec F S1x128x128 .i8) (p42 : Vec F S1x128x128 .i8) (p43 : Vec F S1x128x128 .i8) (p44 : Vec F S1x128x128 .i8) (p45 : Vec F S1x128x128 .i8) (p46 : Vec F S1x128x128 .i8) (p47 : Vec F S1x128x128 .i8) (p48 : Vec F S1x128x128 .i8) (p49 : Vec F S1x128x128 .i8) (p50 : Vec F S1x128x128 .i8) (p51 : Vec F S1x128x128 .i8) (p52 : Vec F S1x128x128 .i8) (p53 : Vec F S1x128x128 .i8) (p54 : Vec F S1x128x128 .i8) (p55 : Vec F S1x128x128 .i8) (p56 : Vec F S1x128x128 .i8) (p57 : Vec F S1x128x128 .i8) (p58 : Vec F S1x128x128 .i8) (p59 : Vec F S1x128x128 .i8) (p60 : Vec F S1x128x128 .i8) (p61 : Vec F S1x128x128 .i8) (p62 : Vec F S1x128x128 .i8) (p63 : Vec F S1x128x128 .i8) (p64 : Vec F S1x128x128 .i8) (p65 : Vec F S1x128x128 .i8) (p66 : Vec F S1x128x128 .i8) (p67 : Vec F S1x128x128 .i8) (p68 : Vec F S1x128x128 .i8) (p69 : Vec F S1x128x128 .i8) (p70 : Vec F S1x128x128 .i8) (p71 : Vec F S1x128x128 .i8) (p72 : Vec F S1x128x128 .i8) (p73 : Vec F S1x128x128 .i8) (p74 : Vec F S1x128x128 .i8) (p75 : Vec F S1x128x128 .i8) (p76 : Vec F S1x128x128 .i8) (p77 : Vec F S1x128x128 .i8) (p78 : Vec F S1x128x128 .i8) (p79 : Vec F S1x128x128 .i8) (y : S1x256x5120.Idx) :
    ∃ pc ∈ ([⟨r0_79, p0⟩, ⟨r0_78, p1⟩, ⟨r0_77, p2⟩, ⟨r0_76, p3⟩, ⟨r0_75, p4⟩, ⟨r0_74, p5⟩, ⟨r0_73, p6⟩, ⟨r0_72, p7⟩, ⟨r0_71, p8⟩, ⟨r0_70, p9⟩, ⟨r0_69, p10⟩, ⟨r0_68, p11⟩, ⟨r0_67, p12⟩, ⟨r0_66, p13⟩, ⟨r0_65, p14⟩, ⟨r0_64, p15⟩, ⟨r0_63, p16⟩, ⟨r0_62, p17⟩, ⟨r0_61, p18⟩, ⟨r0_60, p19⟩, ⟨r0_59, p20⟩, ⟨r0_58, p21⟩, ⟨r0_57, p22⟩, ⟨r0_56, p23⟩, ⟨r0_55, p24⟩, ⟨r0_54, p25⟩, ⟨r0_53, p26⟩, ⟨r0_52, p27⟩, ⟨r0_51, p28⟩, ⟨r0_50, p29⟩, ⟨r0_49, p30⟩, ⟨r0_48, p31⟩, ⟨r0_47, p32⟩, ⟨r0_46, p33⟩, ⟨r0_45, p34⟩, ⟨r0_44, p35⟩, ⟨r0_43, p36⟩, ⟨r0_42, p37⟩, ⟨r0_41, p38⟩, ⟨r0_40, p39⟩, ⟨r0_39, p40⟩, ⟨r0_38, p41⟩, ⟨r0_37, p42⟩, ⟨r0_36, p43⟩, ⟨r0_35, p44⟩, ⟨r0_34, p45⟩, ⟨r0_33, p46⟩, ⟨r0_32, p47⟩, ⟨r0_31, p48⟩, ⟨r0_30, p49⟩, ⟨r0_29, p50⟩, ⟨r0_28, p51⟩, ⟨r0_27, p52⟩, ⟨r0_26, p53⟩, ⟨r0_25, p54⟩, ⟨r0_24, p55⟩, ⟨r0_23, p56⟩, ⟨r0_22, p57⟩, ⟨r0_21, p58⟩, ⟨r0_20, p59⟩, ⟨r0_19, p60⟩, ⟨r0_18, p61⟩, ⟨r0_17, p62⟩, ⟨r0_16, p63⟩, ⟨r0_15, p64⟩, ⟨r0_14, p65⟩, ⟨r0_13, p66⟩, ⟨r0_12, p67⟩, ⟨r0_11, p68⟩, ⟨r0_10, p69⟩, ⟨r0_9, p70⟩, ⟨r0_8, p71⟩, ⟨r0_7, p72⟩, ⟨r0_6, p73⟩, ⟨r0_5, p74⟩, ⟨r0_4, p75⟩, ⟨r0_3, p76⟩, ⟨r0_2, p77⟩, ⟨r0_1, p78⟩, ⟨r0_0, p79⟩] : List (View.Piece (Elt F) S1x256x5120 .i8)), y ∈ pc.1.set :=
  View.cover_of_tiled [⟨r0_79, p0⟩, ⟨r0_78, p1⟩, ⟨r0_77, p2⟩, ⟨r0_76, p3⟩, ⟨r0_75, p4⟩, ⟨r0_74, p5⟩, ⟨r0_73, p6⟩, ⟨r0_72, p7⟩, ⟨r0_71, p8⟩, ⟨r0_70, p9⟩, ⟨r0_69, p10⟩, ⟨r0_68, p11⟩, ⟨r0_67, p12⟩, ⟨r0_66, p13⟩, ⟨r0_65, p14⟩, ⟨r0_64, p15⟩, ⟨r0_63, p16⟩, ⟨r0_62, p17⟩, ⟨r0_61, p18⟩, ⟨r0_60, p19⟩, ⟨r0_59, p20⟩, ⟨r0_58, p21⟩, ⟨r0_57, p22⟩, ⟨r0_56, p23⟩, ⟨r0_55, p24⟩, ⟨r0_54, p25⟩, ⟨r0_53, p26⟩, ⟨r0_52, p27⟩, ⟨r0_51, p28⟩, ⟨r0_50, p29⟩, ⟨r0_49, p30⟩, ⟨r0_48, p31⟩, ⟨r0_47, p32⟩, ⟨r0_46, p33⟩, ⟨r0_45, p34⟩, ⟨r0_44, p35⟩, ⟨r0_43, p36⟩, ⟨r0_42, p37⟩, ⟨r0_41, p38⟩, ⟨r0_40, p39⟩, ⟨r0_39, p40⟩, ⟨r0_38, p41⟩, ⟨r0_37, p42⟩, ⟨r0_36, p43⟩, ⟨r0_35, p44⟩, ⟨r0_34, p45⟩, ⟨r0_33, p46⟩, ⟨r0_32, p47⟩, ⟨r0_31, p48⟩, ⟨r0_30, p49⟩, ⟨r0_29, p50⟩, ⟨r0_28, p51⟩, ⟨r0_27, p52⟩, ⟨r0_26, p53⟩, ⟨r0_25, p54⟩, ⟨r0_24, p55⟩, ⟨r0_23, p56⟩, ⟨r0_22, p57⟩, ⟨r0_21, p58⟩, ⟨r0_20, p59⟩, ⟨r0_19, p60⟩, ⟨r0_18, p61⟩, ⟨r0_17, p62⟩, ⟨r0_16, p63⟩, ⟨r0_15, p64⟩, ⟨r0_14, p65⟩, ⟨r0_13, p66⟩, ⟨r0_12, p67⟩, ⟨r0_11, p68⟩, ⟨r0_10, p69⟩, ⟨r0_9, p70⟩, ⟨r0_8, p71⟩, ⟨r0_7, p72⟩, ⟨r0_6, p73⟩, ⟨r0_5, p74⟩, ⟨r0_4, p75⟩, ⟨r0_3, p76⟩, ⟨r0_2, p77⟩, ⟨r0_1, p78⟩, ⟨r0_0, p79⟩] S1x128x128.size (by rfl) y

/-- Window 2's staging buffer after the body, from the input windows' blocks: its 1 store as pieces, LAST
    FIRST (Lib/Pipeline/FrameBody.lean `View.canon`; the payloads are the skeleton's and the values stated above). -/
def out0_2 (x0 : Vec F S1x256x5120 .bf16) : Vec F S1x1x2x40 .f32 :=
  View.canon [⟨r0_80, k0_pay1 (k0_pay154 (k0_pay3 (View.ld x0 r0_0)) (k0_pay7 (qv308 x0)) (k0_pay10 (View.ld x0 r0_2)) (k0_pay14 (View.ld x0 r0_3)) (k0_pay18 (qv309 x0)) (k0_pay21 (View.ld x0 r0_5)) (k0_pay25 (View.ld x0 r0_6)) (k0_pay28 (View.ld x0 r0_7)) (k0_pay34 (qv310 x0) (qv311 x0)) (k0_pay37 (View.ld x0 r0_9)) (k0_pay41 (View.ld x0 r0_10)) (k0_pay45 (qv312 x0)) (k0_pay48 (View.ld x0 r0_12)) (k0_pay52 (View.ld x0 r0_13)) (k0_pay56 (qv313 x0)) (k0_pay59 (View.ld x0 r0_15)) (k0_pay63 (View.ld x0 r0_16)) (k0_pay66 (View.ld x0 r0_17)) (k0_pay72 (qv314 x0) (qv315 x0)) (k0_pay75 (View.ld x0 r0_19)) (k0_pay79 (View.ld x0 r0_20)) (k0_pay83 (qv316 x0)) (k0_pay86 (View.ld x0 r0_22)) (k0_pay90 (View.ld x0 r0_23)) (k0_pay94 (qv317 x0)) (k0_pay97 (View.ld x0 r0_25)) (k0_pay101 (View.ld x0 r0_26)) (k0_pay104 (View.ld x0 r0_27)) (k0_pay110 (qv318 x0) (qv319 x0)) (k0_pay113 (View.ld x0 r0_29)) (k0_pay117 (View.ld x0 r0_30)) (k0_pay121 (qv320 x0)) (k0_pay124 (View.ld x0 r0_32)) (k0_pay128 (View.ld x0 r0_33)) (k0_pay132 (qv321 x0)) (k0_pay135 (View.ld x0 r0_35)) (k0_pay139 (View.ld x0 r0_36)) (k0_pay142 (View.ld x0 r0_37)) (k0_pay148 (qv322 x0) (qv323 x0)) (k0_pay151 (View.ld x0 r0_39))) (k0_pay307 (k0_pay156 (View.ld x0 r0_40)) (k0_pay160 (qv324 x0)) (k0_pay163 (View.ld x0 r0_42)) (k0_pay168 (View.ld x0 r0_43)) (k0_pay171 (qv325 x0)) (k0_pay174 (View.ld x0 r0_45)) (k0_pay178 (View.ld x0 r0_46)) (k0_pay181 (View.ld x0 r0_47)) (k0_pay187 (qv326 x0) (qv327 x0) (qv328 x0)) (k0_pay190 (View.ld x0 r0_49)) (k0_pay194 (View.ld x0 r0_50)) (k0_pay198 (qv329 x0)) (k0_pay201 (View.ld x0 r0_52)) (k0_pay206 (View.ld x0 r0_53)) (k0_pay209 (qv330 x0)) (k0_pay212 (View.ld x0 r0_55)) (k0_pay216 (View.ld x0 r0_56)) (k0_pay219 (View.ld x0 r0_57)) (k0_pay225 (qv331 x0) (qv332 x0) (qv333 x0)) (k0_pay228 (View.ld x0 r0_59)) (k0_pay232 (View.ld x0 r0_60)) (k0_pay236 (qv334 x0)) (k0_pay239 (View.ld x0 r0_62)) (k0_pay244 (View.ld x0 r0_63)) (k0_pay247 (qv335 x0)) (k0_pay250 (View.ld x0 r0_65)) (k0_pay254 (View.ld x0 r0_66)) (k0_pay257 (View.ld x0 r0_67)) (k0_pay263 (qv336 x0) (qv337 x0) (qv338 x0)) (k0_pay266 (View.ld x0 r0_69)) (k0_pay270 (View.ld x0 r0_70)) (k0_pay274 (qv339 x0)) (k0_pay277 (View.ld x0 r0_72)) (k0_pay282 (View.ld x0 r0_73)) (k0_pay285 (qv340 x0)) (k0_pay288 (View.ld x0 r0_75)) (k0_pay292 (View.ld x0 r0_76)) (k0_pay295 (View.ld x0 r0_77)) (k0_pay301 (qv341 x0) (qv342 x0) (qv343 x0)) (k0_pay304 (View.ld x0 r0_79)))⟩]

/-- Its stores tile the buffer (checked by evaluation), so they cover it. -/
theorem cover0_2 (p0 : Vec F S1x1x2x40 .f32) (y : S1x1x2x40.Idx) :
    ∃ pc ∈ ([⟨r0_80, p0⟩] : List (View.Piece (Elt F) S1x1x2x40 .f32)), y ∈ pc.1.set :=
  View.cover_of_tiled [⟨r0_80, p0⟩] S1x1x2x40.size (by rfl) y

/-! ## The body's triple -/

set_option maxHeartbeats 2400000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x256x5120 .bf16) (harg2 : arg2.IsWhole) (arg3 : Memref sig .tc .vmem S1x256x5120 .i8) (harg3 : arg3.IsWhole) (arg4 : Memref sig .tc .vmem S1x1x2x40 .f32) (harg4 : arg4.IsWhole)
    (x0 : Vec F S1x256x5120 .bf16) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (out0_1 x0) ∗ owns (c : Thread nD τ) arg4 fullShare (out0_2 x0)) -∗ K ⟨⟩))
      ⊢ wp frame (wpE (defs₀ (F := F)) Variants.none c none) E (cc0_quant_q i arg2 harg2 arg3 harg3 arg4 harg4) K := by
  simp only [cc0_quant_q_eq_skeleton]; unfold cc0_quant_q_skel
  simp only [k0_part57_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans ?_
    rfl
  iexists _; isplitr
  swap; · iexact H2
  ipureintro
  refine (View.read_writes_eq_canon _ _ _ (cover0_2 _)).trans ?_
  rfl

end Cert.Kernel.Quant
-- ==== Proof.KrnDats.lean ====
module

public import proofs.«01_k».proof.Proof.KrnBody
public import proofs.«01_k».proof.Proof.KrnQuant
public import proofs.«01_k».proof.Proof.Gen.Kernel.Regions
public import Idealize.ShloMosaic.Lib.Pipeline.RegionArraysS

@[expose] public section

set_option maxRecDepth 16384
set_option maxHeartbeats 4000000

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

/-! ## The two calls' proof data, at any contents `V` of the buffers on entry -/

section Dats

variable (V : Dev nD → Valuation τ sig (Elt F))

/-- The first call's block of window `w` at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The second call's block of window `w` at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The first call: the codes' and the scales' blocks are what the body makes of the queries' block. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => Quant.out0_1 (iblk0 V c 0 t)
    | ⟨2, _⟩ => Quant.out0_2 (iblk0 V c 0 t)
  Φ _ := Pipeline.ΦA spec0 c
  q _ := fullShare
  owed _ := 0

/-- The second call: the result's block is the attention of the blocks it reads. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => Body.attnOut ((grid1.coords t) 2).val (iblk1 V c 0 t) (iblk1 V c 1 t) (iblk1 V c 2 t) (iblk1 V c 3 t) (iblk1 V c 4 t)
  Φ _ := Pipeline.ΦA spec1 c
  q _ := fullShare
  owed _ := 0

theorem A0 (c : Dev nD) (w : Fin cfg0.W) : (dat0 V c).A w = V c (Proc.devRef .tc (Pipeline.arrRef spec0 w)) := by dsimp only [dat0]
theorem A1 (c : Dev nD) (w : Fin cfg1.W) : (dat1 V c).A w = V c (Proc.devRef .tc (Pipeline.arrRef spec1 w)) := by dsimp only [dat1]

theorem after0_0 (c : Dev nD) (t : Fin cfg0.N) : (dat0 V c).after 0 t = iblk0 V c 0 t := by dsimp only [dat0]
theorem after0_1 (c : Dev nD) (t : Fin cfg0.N) : (dat0 V c).after 1 t = Quant.out0_1 (iblk0 V c 0 t) := by dsimp only [dat0]
theorem after0_2 (c : Dev nD) (t : Fin cfg0.N) : (dat0 V c).after 2 t = Quant.out0_2 (iblk0 V c 0 t) := by dsimp only [dat0]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = Body.attnOut ((grid1.coords t) 2).val (iblk1 V c 0 t) (iblk1 V c 1 t) (iblk1 V c 2 t) (iblk1 V c 3 t) (iblk1 V c 4 t) := by dsimp only [dat1]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0]; try rfl) t d).trans
    (by unfold Dat.fetched Dat.blockOf iblk0; rw [A0]; try rfl)
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1]; try rfl) t d).trans
    (by unfold Dat.fetched Dat.blockOf iblk1; rw [A1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1]; try rfl) t d).trans
    (by unfold Dat.fetched Dat.blockOf iblk1; rw [A1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1]; try rfl) t d).trans
    (by unfold Dat.fetched Dat.blockOf iblk1; rw [A1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1]; try rfl) t d).trans
    (by unfold Dat.fetched Dat.blockOf iblk1; rw [A1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A1]; try rfl) t d).trans
    (by unfold Dat.fetched Dat.blockOf iblk1; rw [A1]; try rfl)

/-! ## The body obligations -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (Quant.sound_kernel c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5,
    show (dat1 V c).Φ t.castSucc = Pipeline.ΦA spec1 c from rfl]
  unfold Pipeline.ΦA
  rw [scopedRest1_eq]
  iintro ⟨⟨⟨Ha, Hb, Hc, Hd, He, Hf, ⟨%s0, S0⟩, ⟨%s1, S1⟩, ⟨%s2, S2⟩, ⟨%s3, S3⟩⟩, Hp⟩, Ho, ⟨%d0, H0⟩, ⟨%d1, H1⟩, ⟨%d2, H2⟩, ⟨%d3, H3⟩, ⟨%d4, H4⟩, ⟨%d5, H5⟩⟩
  iapply (Body.sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  iintro ⟨H0, H1, H2, H3, H4, H5, ⟨%u0, S0⟩, ⟨%u1, S1⟩, ⟨%u2, S2⟩, ⟨%u3, S3⟩⟩
  isplitl [Ha Hb Hc Hd He Hf S0 S1 S2 S3 Hp]
  · isplitl [Ha Hb Hc Hd He Hf S0 S1 S2 S3]
    · isplitl [Ha]; · iexact Ha
      isplitl [Hb]; · iexact Hb
      isplitl [Hc]; · iexact Hc
      isplitl [Hd]; · iexact Hd
      isplitl [He]; · iexact He
      isplitl [Hf]; · iexact Hf
      isplitl [S0]; · iexists u0; rw [← owns_whole]; iexact S0
      isplitl [S1]; · iexists u1; rw [← owns_whole]; iexact S1
      isplitl [S2]; · iexists u2; rw [← owns_whole]; iexact S2
      iexists u3; rw [← owns_whole]; iexact S3
    iexact Hp
  isplitl [Ho]; · iexact Ho
  isplitl [H0]; · iexact H0
  isplitl [H1]; · iexact H1
  isplitl [H2]; · iexact H2
  isplitl [H3]; · iexact H3
  isplitl [H4]; · iexact H4
  iexact H5

theorem defs₀_row1 (t : Fin cfg1.N) :
    defs₀ (F := F) .tc cfg1.body (cfg1.bodyArgs t (cfg1.slots t)) = bodyAt1 t := by
  unfold defs₀; rw [Defs.onTc_tc]

theorem obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Dats
end Cert.Kernel.Run

end
-- ==== Proof.KrnRegs.lean ====
module

public import proofs.«01_k».proof.Proof.KrnDats
public import proofs.«01_k».proof.Proof.Gen.Kernel.Regions
public import Idealize.ShloMosaic.Lib.Pipeline.RegionArraysS

@[expose] public section

set_option maxRecDepth 16384
set_option maxHeartbeats 4000000

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

/-! ## The run -/

section Run

variable (m : (ℓ : Loc nD τ sig) → Buf (Elt F) ℓ) (ρ : Dev nD → PrngReg)

/-- Core `c`'s buffers at launch. -/
def W0 (c : Dev nD) : Valuation τ sig (Elt F) := fun b => m (c, b)
/-- After the first call. -/
def W1 (c : Dev nD) : Valuation τ sig (Elt F) := Pipeline.afterRegion (dat0 (W0 m) c) (W0 m c)
/-- After the operations between the calls. -/
def W2 (c : Dev nD) : Valuation τ sig (Elt F) := StableHlo.after hostOps1 (W1 m c)
/-- After the second call. -/
def W3 (c : Dev nD) : Valuation τ sig (Elt F) := Pipeline.afterRegion (dat1 (W2 m) c) (W2 m c)

/-- Both calls' proof data, each at the contents it is entered with. -/
def pdats : (p : Fin 2) → (c : Dev nD) → Dat τ (Elt F) Unit ℕ (UR sig nD τ) ℕ (cfgs p) c
  | ⟨0, _⟩ => dat0 (W0 m)
  | ⟨1, _⟩ => dat1 (W2 m)

abbrev L (g : GSem nD τ sig) : Finset Unit := if g.1.2 = .tc then {()} else ∅
abbrev lv (_ : GSem nD τ sig) (_ : Unit) : ℕ := 0

/-- The core's random number register, at something. -/
def reg (c : Dev nD) : sProp 𝕄 := iprop(∃ r, prngReg c r)

/-- What a core holds beside its buffers between the calls. -/
def rest (c : Dev nD) : sProp 𝕄 :=
  iprop((∃ Wd, owes (c : Thread nD τ) (0 : CellTallies nD τ sig Unit) Wd) ∗ reg c ∗ BI.emp)

theorem cut (p : Fin 2) : Pipeline.LevelCut (pcfgs (F := F)) adm () L lv p (fun _ => (0 : CellTallies nD τ sig Unit)) (fun _ => 0) where
  hι := fun c w r => by simp [L, Pipeline.cellOf]
  hιb := fun c w r => le_refl 0
  hD := fun c g i h => absurd h (lt_irrefl 0)

theorem body0 : ∀ c, Pipeline.BodyObligationLoose (pdats m 0 c) (defs₀ (F := F)) Variants.none () Set.univ :=
  fun c => (obligation0 (W0 m) c).loose
theorem owed0 : ∀ c t, (pdats m 0 c).owed t = (fun _ : Dev nD => (0 : CellTallies nD τ sig Unit)) c := fun _ _ => rfl
theorem rec0 : ∀ c, (pdats m 0 c).recorded 0 = Set.univ := fun _ => rfl
theorem share0 : ∀ c w, (pdats m 0 c).share w = fullShare := fun c => (dat0 (W0 m) c).share_full fun _ => rfl
theorem in0 : ∀ c, iprop(Pipeline.scopedRest (Pipeline.pin (pcfgs (F := F)) adm 0).spec c ∗ reg c) ⊢ (pdats m 0 c).Φ 0 := fun _ => .rfl
theorem out0 : ∀ c, (pdats m 0 c).Φ (Fin.last (Pipeline.pin (pcfgs (F := F)) adm 0).N) ⊢ iprop(Pipeline.scopedRest (Pipeline.pin (pcfgs (F := F)) adm 0).spec c ∗ reg c) := fun _ => .rfl
theorem entry0 : ∀ c w, (pdats m 0 c).arrAt w 0 = W0 m c (Proc.devRef .tc (Pipeline.arrRef (Pipeline.pin (pcfgs (F := F)) adm 0).spec w)) :=
  fun c w => A0 (W0 m) c w
theorem noTable0 : (pcfgs (F := F) 0).pre.K = 0 := rfl
theorem arrs0 : Pipeline.arrRefs (τ := τ) (pcfgs (F := F) 0).spec ⊆ Pipeline.ucRefs τ sig := Pipeline.arrRefs_sub_ucRefs _ winFacts0.arr_unscoped
theorem facts0 : Pipeline.PLaunchFacts (nD := nD) (τ := τ) (pcfgs (F := F)) 0 := launch0.toP

def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    reg reg facts0 noTable0 (body0 m) (owed0 m) (rec0 m) (share0 m) (in0 m) (out0 m) (fun _ => 0) (cut 0) (fun _ => BI.emp) (W0 m) (entry0 m)

theorem pre0 (c : Dev nD) : iprop(StableHlo.held (c : Thread nD τ) (Pipeline.ucRefs τ sig) (W0 m c) ∗ rest c) ⊢ (R0 m).pre c := by
  unfold R0 rest
  exact RegionSeg.ofHeldIn_pre (pcs := pcfgs (F := F)) (a := adm) (pdats := pdats m) (ι := ()) (defs₀ := defs₀) (𝒱₀ := Variants.none) (L := L) (lv := lv) (D := fun _ => 0) (p := 0) (S := Pipeline.ucRefs τ sig) (X := reg) (Y := reg) (R := fun _ => BI.emp) arrs0 c
theorem post0 (c : Dev nD) : (R0 m).post c ⊢ iprop(StableHlo.held (c : Thread nD τ) (Pipeline.ucRefs τ sig) (W1 m c) ∗ rest c) := by
  unfold R0 rest W1
  exact RegionSeg.ofHeldIn_post (pcs := pcfgs (F := F)) (a := adm) (pdats := pdats m) (ι := ()) (defs₀ := defs₀) (𝒱₀ := Variants.none) (L := L) (lv := lv) (D := fun _ => 0) (p := 0) (S := Pipeline.ucRefs τ sig) (X := reg) (Y := reg) (R := fun _ => BI.emp) arrs0 c

theorem body1 : ∀ c, Pipeline.BodyObligationLoose (pdats m 1 c) (defs₀ (F := F)) Variants.none () Set.univ :=
  fun c => (obligation1 (W2 m) c).loose
theorem owed1 : ∀ c t, (pdats m 1 c).owed t = (fun _ : Dev nD => (0 : CellTallies nD τ sig Unit)) c := fun _ _ => rfl
theorem rec1 : ∀ c, (pdats m 1 c).recorded 0 = Set.univ := fun _ => rfl
theorem share1 : ∀ c w, (pdats m 1 c).share w = fullShare := fun c => (dat1 (W2 m) c).share_full fun _ => rfl
theorem in1 : ∀ c, iprop(Pipeline.scopedRest (Pipeline.pin (pcfgs (F := F)) adm 1).spec c ∗ reg c) ⊢ (pdats m 1 c).Φ 0 := fun _ => .rfl
theorem out1 : ∀ c, (pdats m 1 c).Φ (Fin.last (Pipeline.pin (pcfgs (F := F)) adm 1).N) ⊢ iprop(Pipeline.scopedRest (Pipeline.pin (pcfgs (F := F)) adm 1).spec c ∗ reg c) := fun _ => .rfl
theorem entry1 : ∀ c w, (pdats m 1 c).arrAt w 0 = W2 m c (Proc.devRef .tc (Pipeline.arrRef (Pipeline.pin (pcfgs (F := F)) adm 1).spec w)) :=
  fun c w => A1 (W2 m) c w
theorem noTable1 : (pcfgs (F := F) 1).pre.K = 0 := rfl
theorem arrs1 : Pipeline.arrRefs (τ := τ) (pcfgs (F := F) 1).spec ⊆ Pipeline.ucRefs τ sig := Pipeline.arrRefs_sub_ucRefs _ winFacts1.arr_unscoped
theorem facts1 : Pipeline.PLaunchFacts (nD := nD) (τ := τ) (pcfgs (F := F)) 1 := launch1.toP

def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    reg reg facts1 noTable1 (body1 m) (owed1 m) (rec1 m) (share1 m) (in1 m) (out1 m) (fun _ => 0) (cut 1) (fun _ => BI.emp) (W2 m) (entry1 m)

theorem pre1 (c : Dev nD) : iprop(StableHlo.held (c : Thread nD τ) (Pipeline.ucRefs τ sig) (W2 m c) ∗ rest c) ⊢ (R1 m).pre c := by
  unfold R1 rest
  exact RegionSeg.ofHeldIn_pre (pcs := pcfgs (F := F)) (a := adm) (pdats := pdats m) (ι := ()) (defs₀ := defs₀) (𝒱₀ := Variants.none) (L := L) (lv := lv) (D := fun _ => 0) (p := 1) (S := Pipeline.ucRefs τ sig) (X := reg) (Y := reg) (R := fun _ => BI.emp) arrs1 c
theorem post1 (c : Dev nD) : (R1 m).post c ⊢ iprop(StableHlo.held (c : Thread nD τ) (Pipeline.ucRefs τ sig) (W3 m c) ∗ rest c) := by
  unfold R1 rest W3
  exact RegionSeg.ofHeldIn_post (pcs := pcfgs (F := F)) (a := adm) (pdats := pdats m) (ι := ()) (defs₀ := defs₀) (𝒱₀ := Variants.none) (L := L) (lv := lv) (D := fun _ => 0) (p := 1) (S := Pipeline.ucRefs τ sig) (X := reg) (Y := reg) (R := fun _ => BI.emp) arrs1 c
end Run

end Cert.Kernel.Run
-- ==== Proof.KrnRun.lean ====
module

public import proofs.«01_k».proof.Proof.KrnRegs
public import Idealize.ShloMosaic.Adequacy
public import Idealize.ShloMosaic.Init

@[expose] public section

set_option maxRecDepth 16384
set_option maxHeartbeats 4000000

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves as it was -/

/-- The first call changes only the codes and the scales. -/
theorem W1_of (c : Dev nD) (r : Ref sig .tc) (h : ∀ w, Pipeline.arrRef spec0 w = r → (cfg0.win w).isOut = false) : W1 m c r = W0 m c r :=
  Pipeline.afterRegion_keeps (dat0 (W0 m) c) (W0 m c) winFacts0.arr_inj (fun w => A0 (W0 m) c w) r h
/-- The host operations change only what they write. -/
theorem W2_of (c : Dev nD) (r : Ref sig .tc) (h : r ∉ hostOps1_W) : W2 m c r = W1 m c r :=
  StableHlo.after_of_writes_sub hostOps1 _ hostOps1_writes h
/-- The second call changes only the result. -/
theorem W3_of (c : Dev nD) (r : Ref sig .tc) (h : ∀ w, Pipeline.arrRef spec1 w = r → (cfg1.win w).isOut = false) : W3 m c r = W2 m c r :=
  Pipeline.afterRegion_keeps (dat1 (W2 m) c) (W2 m c) winFacts1.arr_inj (fun w => A1 (W2 m) c w) r h

theorem W3_arg0 (c : Dev nD) : W3 m c main_arg0 = m ((c : Thread nD τ).loc main_arg0) :=
  (W3_of m c main_arg0 (by decide)).trans <| (W2_of m c main_arg0 (by decide)).trans <| (W1_of m c main_arg0 (by decide)).trans rfl
theorem W3_arg1 (c : Dev nD) : W3 m c main_arg1 = m ((c : Thread nD τ).loc main_arg1) :=
  (W3_of m c main_arg1 (by decide)).trans <| (W2_of m c main_arg1 (by decide)).trans <| (W1_of m c main_arg1 (by decide)).trans rfl
theorem W3_arg2 (c : Dev nD) : W3 m c main_arg2 = m ((c : Thread nD τ).loc main_arg2) :=
  (W3_of m c main_arg2 (by decide)).trans <| (W2_of m c main_arg2 (by decide)).trans <| (W1_of m c main_arg2 (by decide)).trans rfl
theorem W3_arg3 (c : Dev nD) : W3 m c main_arg3 = m ((c : Thread nD τ).loc main_arg3) :=
  (W3_of m c main_arg3 (by decide)).trans <| (W2_of m c main_arg3 (by decide)).trans <| (W1_of m c main_arg3 (by decide)).trans rfl
theorem W3_arg4 (c : Dev nD) : W3 m c main_arg4 = m ((c : Thread nD τ).loc main_arg4) :=
  (W3_of m c main_arg4 (by decide)).trans <| (W2_of m c main_arg4 (by decide)).trans <| (W1_of m c main_arg4 (by decide)).trans rfl

/-! ## The whole run -/

/-- The host operations between the calls, over the unscoped buffers. -/
def hostSeg : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) rest

/-- @main as its three items. -/
abbrev segs (c : Dev nD) : List (Seg (pcfgs (F := F)) adm (pdats m) () defs₀ Variants.none L lv) :=
  [.region (R0 m), .host (hostSeg m), .region (R1 m)]

/-- The launch element of the pipelines' algebra. -/
abbrev u₀ : UR sig nD τ := initOf (Pipeline.cells cfgs cellOf_inj) (Pipeline.launchToks cfgs cellOf_inj)

-- the rule's implicit arguments are found by unifying its conclusion with this one, which takes unfolding plain
-- definitions in a metavariable's type
set_option backward.isDefEq.respectTransparency.types false in
/-- From any memory with zero counters, every weakly fair execution of @main terminates, and every final state has each
    unscoped buffer at `W3` and every semaphore counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W3 m c b) ∧ r.2.sem = fun _ => 0) := by
  refine Pipeline.θ_run_regions_kit_dev_sems (pcfgs (F := F)) adm (pdats m) () cellOf_inj
    (uEmb (nD := nD) (sig := sig) (Ix := Unit) (Val := Elt F) (Name := ℕ) (U := UR sig nD τ) (Lvl := ℕ)).toEmb defs₀ Variants.none L lv m ρ main (segs m)
    (fun c Q => by
      rewrite [main_chain c, Seg.run_eq_chain,
        show (segs m c).map Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) 0
    (fun g hg => by simp [L, hg]) (fun _ => iprop(emp)) u₀
    (by
      iintro Hu
      imodintro
      isplitl [Hu]
      · iapply (show (ownU u₀ : sProp 𝕄) ⊢ BI.own ((uEmb (nD := nD) (sig := sig) (Ix := Unit) (Val := Elt F) (Name := ℕ) (U := UR sig nD τ) (Lvl := ℕ)).toEmb (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c))
    (Tₙ := fun c => StableHlo.held (c : Thread nD τ) (Pipeline.ucRefs τ sig) (W3 m c))
    (hch := fun c => ⟨pre0 m c, post0 m c, pre1 m c, (post1 m c).trans (sep_mono .rfl (by
      unfold rest
      iintro ⟨H, -, -⟩
      iexact H))⟩)
    (hinit := ?_) (QY := fun c s => ∀ b ∈ Pipeline.ucRefs τ sig, s.mem ((c : Thread nD τ).1, b) = W3 m c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (W0 m c) from Pipeline.unscopedBufs_held c (W0 m c)]
    unfold rest reg
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro; exact h
    · iexact HSI

/-- A TensorCore buffer outside every scope is among those the run names. -/
theorem mem_uc (r : Ref sig .tc) (h : (r : Ref sig .tc).isScoped = false) : Proc.devRef .tc r ∈ Pipeline.ucRefs τ sig :=
  Finset.mem_filter.mpr ⟨StableHlo.devRef_mem_tcRefs r, by simpa using h⟩

/-- The run, at the arguments: each ends as it was launched. -/
theorem args {r : MemSt nD τ sig (Elt F)} (c : Dev nD) (h : ∀ b ∈ Pipeline.ucRefs τ sig, r.mem ((c : Thread nD τ).1, b) = W3 m c b) :
    r.mem ((c : Thread nD τ).loc main_arg0) = m ((c : Thread nD τ).loc main_arg0)
    ∧ r.mem ((c : Thread nD τ).loc main_arg1) = m ((c : Thread nD τ).loc main_arg1)
    ∧ r.mem ((c : Thread nD τ).loc main_arg2) = m ((c : Thread nD τ).loc main_arg2)
    ∧ r.mem ((c : Thread nD τ).loc main_arg3) = m ((c : Thread nD τ).loc main_arg3)
    ∧ r.mem ((c : Thread nD τ).loc main_arg4) = m ((c : Thread nD τ).loc main_arg4) :=
  ⟨(h _ (mem_uc main_arg0 (by decide))).trans (W3_arg0 m c), (h _ (mem_uc main_arg1 (by decide))).trans (W3_arg1 m c),
    (h _ (mem_uc main_arg2 (by decide))).trans (W3_arg2 m c), (h _ (mem_uc main_arg3 (by decide))).trans (W3_arg3 m c),
    (h _ (mem_uc main_arg4 (by decide))).trans (W3_arg4 m c)⟩

end Cert.Kernel.Run

end
-- ==== Proof.Scalars.lean ====
module

public import Idealize.ShloMosaic.PureOps.Ideal.Laws
public import Idealize.ShloMosaic.Lib.IdealHost

@[expose] public section

noncomputable section

/-! Facts about single extended reals: the constants the two programs use, the shifted exponential in base two, and the
    quotient by a sum that is 256 times another. -/

namespace Cert.Scalars

open Idealize.ShloMosaic

/-- `1 / log 2`. -/
def lgE : EReal := (((Real.log 2)⁻¹ : ℝ) : EReal)

theorem bits_bot : Ideal.ofBits .f32 0xFF800000#32 = ⊥ := by simp [Ideal.ofBits, Ideal.ieee]
theorem bits_8 : Ideal.ofBits .f32 0x41000000#32 = ((8 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num
theorem bits_inv256 : Ideal.ofBits .f32 0x3B800000#32 = ((1 / 256 : ℝ) : EReal) := by
  simp [Ideal.ofBits, Ideal.ieee, -EReal.coe_mul]; norm_num
theorem bits_448 : Ideal.ofBits .f32 0x43E00000#32 = ((448 : ℝ) : EReal) := by
  simp [Ideal.ofBits, Ideal.ieee, -EReal.coe_mul]; norm_num

theorem log2_pos : 0 < Real.log 2 := Real.log_pos (by norm_num)
theorem lgE_pos : (0 : ℝ) < (Real.log 2)⁻¹ := inv_pos.mpr log2_pos

theorem bot_mul_lgE : (⊥ : EReal) * lgE = ⊥ := EReal.bot_mul_coe_of_pos lgE_pos
theorem top_mul_lgE : (⊤ : EReal) * lgE = ⊤ := EReal.top_mul_coe_of_pos lgE_pos

/-- Multiplying by `1 / log 2` keeps the order. -/
theorem mul_lgE_le {a b : EReal} : a * lgE ≤ b * lgE ↔ a ≤ b := by
  constructor
  · intro h
    have h2 := mul_le_mul_of_nonneg_right h (show (0 : EReal) ≤ ((Real.log 2 : ℝ) : EReal) from EReal.coe_nonneg.mpr log2_pos.le)
    have e : lgE * ((Real.log 2 : ℝ) : EReal) = 1 := by
      rw [lgE, ← EReal.coe_mul, inv_mul_cancel₀ log2_pos.ne']; rfl
    rwa [mul_assoc, mul_assoc, e, mul_one, mul_one] at h2
  · intro h
    exact mul_le_mul_of_nonneg_right h (show (0 : EReal) ≤ lgE from EReal.coe_nonneg.mpr lgE_pos.le)

/-- A score under its row's maximum has a real exponential. -/
theorem exp_real {s m : EReal} (h : s ≤ m) : ∃ r : ℝ, 0 ≤ r ∧ Ideal.exp (s - m) = (r : EReal) := by
  induction m with
  | top => exact ⟨0, le_rfl, by rw [sub_eq_add_neg, EReal.neg_top, EReal.add_bot, Ideal.exp_bot]; rfl⟩
  | bot => exact ⟨0, le_rfl, by rw [sub_eq_add_neg, le_bot_iff.mp h, EReal.bot_add, Ideal.exp_bot]; rfl⟩
  | coe m =>
    induction s with
    | top => exact absurd h (by simp)
    | bot => exact ⟨0, le_rfl, by rw [sub_eq_add_neg, EReal.bot_add, Ideal.exp_bot]; rfl⟩
    | coe s => exact ⟨Real.exp (s - m), (Real.exp_pos _).le, by rw [← EReal.coe_sub, Ideal.exp_coe]⟩

/-- The exponential of minus infinity less anything is zero. -/
theorem exp_bot_sub (m : EReal) : Ideal.exp (⊥ - m) = 0 := by
  rw [sub_eq_add_neg, EReal.bot_add, Ideal.exp_bot]

/-- The base-two exponential of a scaled score, shifted by 8 under the scaled maximum, is 256 times the exponential of the
    score less the maximum. -/
theorem exp2_shift {s m : EReal} (h : s ≤ m) :
    Ideal.exp2 (s * lgE - (m * lgE - ((8 : ℝ) : EReal))) = Ideal.exp (s - m) * ((256 : ℝ) : EReal) := by
  induction m with
  | top =>
    rw [top_mul_lgE, EReal.top_sub_coe, sub_eq_add_neg, sub_eq_add_neg, EReal.neg_top, EReal.add_bot, EReal.add_bot,
      Ideal.exp_bot, Ideal.exp2_bot, zero_mul]
  | bot =>
    rw [le_bot_iff.mp h, bot_mul_lgE, sub_eq_add_neg, EReal.bot_add, sub_eq_add_neg, EReal.bot_add, Ideal.exp_bot, Ideal.exp2_bot, zero_mul]
  | coe m =>
    induction s with
    | top => exact absurd h (by simp)
    | bot => rw [bot_mul_lgE, sub_eq_add_neg, EReal.bot_add, sub_eq_add_neg, EReal.bot_add, Ideal.exp_bot, Ideal.exp2_bot, zero_mul]
    | coe s =>
      rw [lgE, ← EReal.coe_mul, ← EReal.coe_mul, ← EReal.coe_sub, ← EReal.coe_sub, ← EReal.coe_sub, Ideal.exp2_coe, Ideal.exp_coe,
        ← EReal.coe_mul]
      refine congrArg _ ?_
      show (2 : ℝ) ^ (_ : ℝ) = _
      rw [show s * (Real.log 2)⁻¹ - (m * (Real.log 2)⁻¹ - 8) = (s - m) * (Real.log 2)⁻¹ + 8 by ring,
        Real.rpow_add (by norm_num), Real.rpow_def_of_pos (by norm_num : (0 : ℝ) < 2) ((s - m) * _),
        show Real.log 2 * ((s - m) * (Real.log 2)⁻¹) = s - m by field_simp [log2_pos.ne'],
        show ((2 : ℝ) ^ (8 : ℝ)) = 256 by norm_num]

/-- A probability's code's value: clipped to `[0, 448]`. -/
def clip (p : EReal) : EReal := min ((448 : ℝ) : EReal) (max 0 p)

theorem clip_zero : clip 0 = 0 := by
  unfold clip
  rw [max_self, min_eq_right (EReal.coe_nonneg.mpr (by norm_num))]

/-- Dividing by 256 times a nonnegative real sum, or by the sum and then multiplying by `1 / 256`, is the same if the
    dividend is zero whenever the sum is. -/
theorem div_256 (A : EReal) (l : ℝ) (h : l = 0 → A = 0) :
    Ideal.div A ((l * 256 : ℝ) : EReal) = Ideal.div A (l : EReal) * ((1 / 256 : ℝ) : EReal) := by
  by_cases hl : l = 0
  · rw [h hl, hl, zero_mul, EReal.coe_zero, Ideal.div, if_pos rfl, if_neg (lt_irrefl _), EReal.bot_mul_coe_of_pos (by norm_num)]
  · rw [Ideal.div_coe (mul_ne_zero hl (by norm_num)), Ideal.div_coe hl, mul_assoc, ← EReal.coe_mul]
    refine congrArg _ (congrArg _ ?_)
    field_simp

/-- The whole row: the weighted sum of the clipped codes over the sum of the exponentials, with scores in base two shifted
    by 8 on one side, and with a last factor `1 / 256` on the other. The right side also runs over keys `K` on which the
    score is minus infinity. -/
theorem row_eq {ι : Type} (K K' : Finset ι) (hK : K' ⊆ K) (s : ι → EReal) (v : ι → EReal) (m M : EReal) (hs : ∀ k, s k ≤ m)
    (hM : M = m * lgE) (htail : ∀ k ∈ K, k ∉ K' → s k = ⊥) :
    Ideal.div (∑ k ∈ K', v k * clip (Ideal.exp2 (s k * lgE - (M - ((8 : ℝ) : EReal)))))
        (∑ k ∈ K', Ideal.exp2 (s k * lgE - (M - ((8 : ℝ) : EReal))))
      = Ideal.div (∑ k ∈ K, clip (Ideal.exp (s k - m) * ((256 : ℝ) : EReal)) * v k) (∑ k ∈ K, Ideal.exp (s k - m))
        * ((1 / 256 : ℝ) : EReal) := by
  subst hM
  choose r hr0 hr using fun k => exp_real (hs k)
  have hz : ∀ k ∈ K, k ∉ K' → r k = 0 := fun k hk hk' => by
    have := hr k
    rw [htail k hk hk', exp_bot_sub] at this
    exact_mod_cast this.symm
  have e2 : ∀ k, Ideal.exp2 (s k * lgE - (m * lgE - ((8 : ℝ) : EReal))) = ((r k * 256 : ℝ) : EReal) := fun k => by
    rw [exp2_shift (hs k), hr, EReal.coe_mul]
  have esum : ∀ (S : Finset ι) (f : ι → ℝ), ∑ k ∈ S, ((f k : ℝ) : EReal) = ((∑ k ∈ S, f k : ℝ) : EReal) := fun S f => by
    induction S using Finset.cons_induction with
    | empty => simp
    | cons a S ha ih => rw [Finset.sum_cons, Finset.sum_cons, ih, EReal.coe_add]
  simp only [e2, hr, ← EReal.coe_mul]
  rw [esum, esum, ← Finset.sum_mul, Finset.sum_subset hK fun k hk hk' => hz k hk hk',
    Finset.sum_subset hK (f := fun k => v k * clip ((r k * 256 : ℝ) : EReal))
      (fun k hk hk' => by rw [hz k hk hk', zero_mul, EReal.coe_zero, clip_zero, mul_zero]),
    div_256 _ _ fun h0 => Finset.sum_eq_zero fun k hk => by
      rw [(Finset.sum_eq_zero_iff_of_nonneg fun k _ => hr0 k).mp h0 k hk, zero_mul, EReal.coe_zero, clip_zero, mul_zero]]
  simp only [mul_comm (v _)]

/-- A sum over `n * m` numbers, `n` at a time. -/
theorem sum_range_mul {M : Type} [AddCommMonoid M] (f : ℕ → M) (n m : ℕ) :
    ∑ k ∈ Finset.range (n * m), f k = ∑ u ∈ Finset.range m, ∑ s ∈ Finset.range n, f (n * u + s) := by
  induction m with
  | zero => simp
  | succ m ih => rw [Nat.mul_succ, Finset.sum_range_add, ih, Finset.sum_range_succ]

end Cert.Scalars
-- ==== Proof.Reads.lean ====
module

public import proofs.«01_k».proof.Proof.Scalars
public import Idealize.ShloMosaic.PureOps.Reduce
public import Idealize.ShloMosaic.Lib.Pipeline.Value
public import Idealize.ShloMosaic.Lib.ValueIdx

@[expose] public section

set_option maxRecDepth 16384

noncomputable section

/-! Vector operations read at an index, at the extended reals: a product with one contracted axis, a maximum along axes
    (by its upper bounds), a comparison of two coordinates, and reads with the source index given by its coordinates. -/

namespace Cert.Reads

open Idealize.ShloMosaic Idealize.ShloMosaic.ValueIdx Cert.Scalars

/-- An 8-bit code as a number. -/
def cv (b : BitVec 8) : EReal := ((b.toInt : ℝ) : EReal)

/-- A product contracting one axis of extent `n` into a zero accumulator, its operands' indices named. -/
theorem mm_apply {sl sr so : Shape} {φ₁ φ₂ : FTy} (d : DotDims sl sr so) (n : ℕ) (hr : d.contr.rank = 1)
    (hs : d.contr.size ⟨0, by omega⟩ = n) (prec : Option ContractPrecision) (lhs : FVec Ideal sl φ₁) (rhs : FVec Ideal sr φ₂)
    (j : so.Idx) (L : Fin n → sl.Idx) (R : Fin n → sr.Idx)
    (hL : ∀ k, d.lhsIdx j ((contrEquiv1 d n hr hs).symm k) = L k) (hR : ∀ k, d.rhsIdx j ((contrEquiv1 d n hr hs).symm k) = R k) :
    matmul d prec lhs rhs (constant so .f32 0x00000000#32) j = ∑ k, lhs (L k) * rhs (R k) := by
  rw [matmul, Ideal.matmul_apply, ← Equiv.sum_comp (contrEquiv1 d n hr hs).symm, constant_apply, Ideal.ofBits_zero_f32, zero_add]
  exact Finset.sum_congr rfl fun k _ => by rw [hL, hR]

/-- A maximum along one axis is at most `B` when every element is. -/
theorem max_le_single {s t : Shape} {a : Fin s.rank} (src : FVec Ideal s .f32) (h : s.Reduces [a] t) (hφ : FKind.Formats .f32)
    (hacc : 0xFF800000#32 = FKind.maximumf.neutral .f32 hφ) (j : t.Idx) (B : EReal) :
    multiReduction .maximumf [a] t src 0xFF800000#32 h hφ hacc j ≤ B ↔ ∀ k, src (h.lift j k) ≤ B := by
  rw [Ideal.multiReduction_maximumf_single, Finset.fold_max_le, Ideal.ofBits_def, bits_bot]
  exact ⟨fun h k => h.2 k (Finset.mem_univ k), fun h => ⟨bot_le, fun k _ => h k⟩⟩

/-- A maximum along any axes likewise. -/
theorem max_le_axes {s t : Shape} {axes : List (Fin s.rank)} (src : FVec Ideal s .f32) (h : s.Reduces axes t) (hφ : FKind.Formats .f32)
    (hacc : 0xFF800000#32 = FKind.maximumf.neutral .f32 hφ) (j : t.Idx) (B : EReal) :
    multiReduction .maximumf axes t src 0xFF800000#32 h hφ hacc j ≤ B ↔ ∀ i, h.drop i = j → src i ≤ B := by
  rw [multiReduction_maximumf_eq_fold]
  refine (Finset.fold_max_le (β := EReal) B).trans ?_
  rw [Ideal.ofBits_def, bits_bot]
  exact ⟨fun h i hi => h.2 i (Finset.mem_filter.mpr ⟨Finset.mem_univ i, hi⟩), fun h => ⟨bot_le, fun k hk => h k (Finset.mem_filter.mp hk).2⟩⟩

/-- Two extended reals with the same upper bounds are equal. -/
theorem eq_of_bounds {a b : EReal} (h : ∀ B, a ≤ B ↔ b ≤ B) : a = b := eq_of_forall_ge_iff h

/-- The signed comparison of two small numbers as words. -/
theorem sle_small {n k : ℕ} (hn : n < 2 ^ 31) (hk : k < 2 ^ 31) :
    IntOp.cmpi .sle (BitVec.ofNat 32 n) (BitVec.ofNat 32 k) = BitVec.ofBool (decide (n ≤ k)) := by
  show BitVec.ofBool (BitVec.sle _ _) = _
  have e : ∀ x : ℕ, x < 2 ^ 31 → (BitVec.ofNat 32 x).toInt = x := fun x hx => by
    rw [BitVec.toInt_eq_toNat_of_lt (by rw [BitVec.toNat_ofNat, Nat.mod_eq_of_lt (by omega)]; omega), BitVec.toNat_ofNat, Nat.mod_eq_of_lt (by omega)]
  rw [BitVec.sle_eq_decide, e n hn, e k hk]
  simp

/-- A select on the comparison of two small numbers. -/
theorem select_sle {α : Type} {n k : ℕ} (hn : n < 2 ^ 31) (hk : k < 2 ^ 31) (a b : α) :
    Scalar.select (IntOp.cmpi .sle (BitVec.ofNat 32 n) (BitVec.ofNat 32 k)) a b = if n ≤ k then a else b := by
  rw [sle_small hn hk]
  by_cases h : n ≤ k
  · rw [if_pos h, decide_eq_true h]; rfl
  · rw [if_neg h, decide_eq_false h]; rfl

end Cert.Reads
-- ==== Proof.Quantize.lean ====
module

public import proofs.«01_k».proof.Proof.Reads

@[expose] public section

set_option maxRecDepth 16384

noncomputable section

/-! The query quantization as plain functions of the query array, at the extended reals: a block of 128 tokens and 128 channels
    has one scale, its largest magnitude over 127, and each element one 8-bit code. Arrays are read at natural numbers. -/

namespace Cert.Quantize

open Idealize.ShloMosaic Idealize.ShloMosaic.ValueIdx Cert.Reads

/-- An array with three axes, read at three numbers. -/
def rd3 {α : Type} {a b c : ℕ} [NeZero a] [NeZero b] [NeZero c] (x : (⟨3, ![a, b, c]⟩ : Shape).Idx → α) (i j k : ℕ) : α :=
  x (ix3 (Fin.ofNat a i) (Fin.ofNat b j) (Fin.ofNat c k))

/-- An array with four axes, read at four numbers. -/
def rd4 {α : Type} {a b c d : ℕ} [NeZero a] [NeZero b] [NeZero c] [NeZero d] (x : (⟨4, ![a, b, c, d]⟩ : Shape).Idx → α) (i j k l : ℕ) : α :=
  x (ix4 (Fin.ofNat a i) (Fin.ofNat b j) (Fin.ofNat c k) (Fin.ofNat d l))

theorem rd3_of {α : Type} {a b c : ℕ} [NeZero a] [NeZero b] [NeZero c] (x : (⟨3, ![a, b, c]⟩ : Shape).Idx → α)
    (y : (⟨3, ![a, b, c]⟩ : Shape).Idx) {i j k : ℕ} (h0 : (y 0).val = i) (h1 : (y 1).val = j) (h2 : (y 2).val = k) : x y = rd3 x i j k := by
  subst h0 h1 h2
  refine congrArg x (funext fun q => Fin.ext ?_)
  match q with
  | ⟨0, _⟩ => exact (Nat.mod_eq_of_lt (y 0).isLt).symm
  | ⟨1, _⟩ => exact (Nat.mod_eq_of_lt (y 1).isLt).symm
  | ⟨2, _⟩ => exact (Nat.mod_eq_of_lt (y 2).isLt).symm

theorem rd4_of {α : Type} {a b c d : ℕ} [NeZero a] [NeZero b] [NeZero c] [NeZero d] (x : (⟨4, ![a, b, c, d]⟩ : Shape).Idx → α)
    (y : (⟨4, ![a, b, c, d]⟩ : Shape).Idx) {i j k l : ℕ} (h0 : (y 0).val = i) (h1 : (y 1).val = j) (h2 : (y 2).val = k) (h3 : (y 3).val = l) :
    x y = rd4 x i j k l := by
  subst h0 h1 h2 h3
  refine congrArg x (funext fun q => Fin.ext ?_)
  match q with
  | ⟨0, _⟩ => exact (Nat.mod_eq_of_lt (y 0).isLt).symm
  | ⟨1, _⟩ => exact (Nat.mod_eq_of_lt (y 1).isLt).symm
  | ⟨2, _⟩ => exact (Nat.mod_eq_of_lt (y 2).isLt).symm
  | ⟨3, _⟩ => exact (Nat.mod_eq_of_lt (y 3).isLt).symm

/-- The scale for a largest magnitude, its three constants given. -/
def scale (z o d a : EReal) : EReal :=
  Scalar.select (FloatOps.cmpf (F := Ideal) (φ := .f32) .oeq a z) o (FloatOps.divf (F := Ideal) (φ := .f32) a d)

/-- The code of an element under a scale, its two bounds given. -/
def code (lo hi v s : EReal) : BitVec 8 :=
  FloatOps.fptosi (F := Ideal) (φ := .f32) 8 (FloatOps.minimumf (F := Ideal) (φ := .f32) hi (FloatOps.maximumf (F := Ideal) (φ := .f32) lo
    (FloatOps.roundeven (F := Ideal) (φ := .f32) (FloatOps.divf (F := Ideal) (φ := .f32) v s))))

theorem scale_vec {S : Shape} (m : FVec Ideal S .f32) (z o d : Ideal .f32) (i : S.Idx) :
    select (cmpf .oeq m (broadcast S z)) (broadcast S o) (divf m (broadcast S d)) i = scale z o d (m i) := rfl

theorem code_vec {S : Shape} (v s : FVec Ideal S .f32) (lo hi : Ideal .f32) (i : S.Idx) :
    fptosi 8 (minimumf (broadcast S hi) (maximumf (broadcast S lo) (roundeven (divf v s)))) i = code lo hi (v i) (s i) := rfl

/-- The scale for a largest magnitude. -/
def scaleOf (a : EReal) : EReal :=
  scale (Scalar.ofBits (F := Ideal) .f32 0x00000000#32) (Scalar.ofBits (F := Ideal) .f32 0x3F800000#32) (Scalar.ofBits (F := Ideal) .f32 0x42FE0000#32) a

/-- The code of an element under a scale. -/
def codeOf (v s : EReal) : BitVec 8 := code (Scalar.ofBits (F := Ideal) .f32 0xC2FE0000#32) (Scalar.ofBits (F := Ideal) .f32 0x42FE0000#32) v s

/-- A magnitude. -/
def mag (v : EReal) : EReal := FloatOps.absf (F := Ideal) (φ := .f32) v

/-- The largest magnitude of a block. -/
def qmax (f : Fin 128 → Fin 128 → EReal) : EReal := ⨆ r, ⨆ d, mag (f r d)

theorem qmax_le (f : Fin 128 → Fin 128 → EReal) (B : EReal) : qmax f ≤ B ↔ ∀ r d, mag (f r d) ≤ B := by
  unfold qmax
  simp only [iSup_le_iff]

/-- Whatever has these upper bounds is the largest magnitude. -/
theorem eq_qmax (f : Fin 128 → Fin 128 → EReal) (a : EReal) (h : ∀ B, a ≤ B ↔ ∀ r d, mag (f r d) ≤ B) : a = qmax f :=
  eq_of_bounds fun B => (h B).trans (qmax_le f B).symm

variable (a0 : (⟨3, ![3, 7680, 5120]⟩ : Shape).Idx → EReal)

/-- A scaled query element. -/
def q (b n c : ℕ) : EReal := rd3 a0 b n c * Ideal.ofBits .f32 0x3DB504F3#32

/-- The scale of token block `t` and head `h`. -/
def QS (b t h : ℕ) : EReal := scaleOf (qmax fun r d => q a0 b (128 * t + r.val) (128 * h + d.val))

/-- The code of token `n`, channel `c`. -/
def QC (b n c : ℕ) : BitVec 8 := codeOf (q a0 b n c) (QS a0 b (n / 128) (c / 128))

variable (a1 : (⟨4, ![3, 8, 7680, 128]⟩ : Shape).Idx → BitVec 8) (a2 : (⟨3, ![3, 8, 120]⟩ : Shape).Idx → EReal)

/-- The integer score of token `T`, query head `h * 5 + g`, against key `k` of head `h`. -/
def raw (b h g T k : ℕ) : EReal :=
  ∑ d : Fin 128, cv (QC a0 b T (128 * (h * 5 + g) + d.val)) * cv (rd4 a1 b h k d.val)

/-- The causal score: minus infinity at a key past the token. -/
def S (b h g T k : ℕ) : EReal :=
  if k ≤ T then raw a0 a1 b h g T k * QS a0 b (T / 128) (h * 5 + g) * rd3 a2 b h (k / 64) else ⊥

/-- One element of the attention under the row's maximum `M`: codes of the exponentials times the values, over the sum of the
    exponentials, back in the exponentials' scale and in the value scale. -/
def attn (a3 : (⟨4, ![3, 8, 128, 7680]⟩ : Shape).Idx → EReal) (a4 : (⟨3, ![3, 8, 128]⟩ : Shape).Idx → EReal) (b h g T n : ℕ) (M : EReal) : EReal :=
  Ideal.div (∑ k ∈ Finset.range 7680, Scalars.clip (Ideal.exp (S a0 a1 a2 b h g T k - M) * ((256 : ℝ) : EReal)) * rd4 a3 b h n k)
      (∑ k ∈ Finset.range 7680, Ideal.exp (S a0 a1 a2 b h g T k - M))
    * ((1 / 256 : ℝ) : EReal) * rd3 a4 b h n

end Cert.Quantize
-- ==== Proof.IdlBlockQuant.lean ====
module

public import proofs.«01_k».proof.Proof.Quantize
public import proofs.«01_k».proof.Proof.IdlQuant

@[expose] public section

set_option maxRecDepth 16384
set_option maxHeartbeats 2000000

noncomputable section

/-! One 128 by 128 block of the first call's body, and the body's two results made of 80 of them: the scales and the codes are
    the plain functions of `Cert.Quantize`. -/

namespace Cert.KernelIdeal.QuantVal

open Idealize.ShloMosaic Idealize.ShloMosaic.ValueIdx
open Cert.KernelIdeal Cert.KernelIdeal.Gen Cert.KernelIdeal.Quant Cert.Reads Cert.Quantize

section Block

variable (v : Vec Ideal S1x128x128 .bf16)

/-- A scaled element. -/
theorem pay2_apply (r d : Fin 128) : k0_pay2 v (ix2 r d) = v (ix3 0 r d) * Ideal.ofBits .f32 0x3DB504F3#32 := by
  unfold k0_pay2
  rw [mulf_apply, broadcast_apply, extf_apply, shapeCast_apply _ _ _ (ix3 0 r d) (by
    rw [Shape.rowMajor_val_three, Shape.rowMajor_val_two]
    show (0 * 128 + r.val) * 128 + d.val = r.val * 128 + d.val
    omega)]
  rfl

/-- The largest magnitudes of the columns. -/
def colMax : FVec Ideal S1x128 .f32 :=
  shapeCast S1x128 (multiReduction .maximumf [0] S128 (absf (k0_pay2 v)) 0xFF800000#32 reduces_S128x128_S128 (.inl rfl) rfl) shapeCasts_S128_S1x128

/-- The largest magnitude of the block. -/
def allMax : FVec Ideal S1x1 .f32 :=
  shapeCast S1x1 (multiReduction .maximumf [1] S1 (colMax v) 0xFF800000#32 reduces_S1x128_S1 (.inl rfl) rfl) shapeCasts_S1_S1x1

theorem colMax_le (d : Fin 128) (B : EReal) :
    colMax v (ix2 0 d) ≤ B ↔ ∀ r : Fin 128, mag (v (ix3 0 r d) * Ideal.ofBits .f32 0x3DB504F3#32) ≤ B := by
  have e : ∀ r : Fin 128, absf (k0_pay2 v) ((reduces_S128x128_S128).lift (ix1 d) r) = mag (v (ix3 0 r d) * Ideal.ofBits .f32 0x3DB504F3#32) := fun r =>
    (congrArg (absf (k0_pay2 v)) (show (reduces_S128x128_S128).lift (ix1 d) r = ix2 r d from funext fun a => match a with | ⟨0, _⟩ => rfl | ⟨1, _⟩ => rfl)).trans
      (congrArg mag (pay2_apply v r d))
  have e1 : colMax v (ix2 0 d) = multiReduction .maximumf [0] S128 (absf (k0_pay2 v)) 0xFF800000#32 reduces_S128x128_S128 (.inl rfl) rfl (ix1 d) :=
    shapeCast_apply _ _ _ (ix1 d) (by
      rw [Shape.rowMajor_val_one, Shape.rowMajor_val_two]
      show d.val = 0 * 128 + d.val
      omega)
  rw [e1]
  refine (max_le_single _ reduces_S128x128_S128 _ _ (ix1 d) B).trans ?_
  exact ⟨fun H r => (le_of_eq (e r).symm).trans (H r), fun H r => (le_of_eq (e r)).trans (H r)⟩

theorem allMax_apply : allMax v (ix2 0 0) = qmax fun r d => v (ix3 0 r d) * Ideal.ofBits .f32 0x3DB504F3#32 := by
  have e1 : allMax v (ix2 0 0) = multiReduction .maximumf [1] S1 (colMax v) 0xFF800000#32 reduces_S1x128_S1 (.inl rfl) rfl (ix1 0) :=
    shapeCast_apply _ _ _ (ix1 0) (by rw [Shape.rowMajor_val_one, Shape.rowMajor_val_two]; rfl)
  rw [e1]
  refine eq_qmax _ _ fun B => (max_le_single _ reduces_S1x128_S1 _ _ (ix1 0) B).trans ?_
  have e : ∀ d : Fin 128, colMax v ((reduces_S1x128_S1).lift (ix1 0) d) = colMax v (ix2 0 d) := fun d =>
    congrArg (colMax v) (funext fun a => match a with | ⟨0, _⟩ => rfl | ⟨1, _⟩ => rfl)
  constructor
  · intro H r d
    exact (colMax_le v d B).mp ((le_of_eq (e d).symm).trans (H d)) r
  · intro H (d : Fin 128)
    exact (le_of_eq (e d)).trans ((colMax_le v d B).mpr fun r => H r d)

/-- The scale of the block. -/
theorem pay3_apply : k0_pay3 v (ix2 0 0) = scaleOf (qmax fun r d => v (ix3 0 r d) * Ideal.ofBits .f32 0x3DB504F3#32) :=
  (scale_vec (allMax v) _ _ _ (ix2 0 0)).trans (congrArg scaleOf (allMax_apply v))

/-- The codes of the block. -/
theorem pay4_apply (r d : Fin 128) : k0_pay4 v (ix3 0 r d)
    = codeOf (v (ix3 0 r d) * Ideal.ofBits .f32 0x3DB504F3#32) (scaleOf (qmax fun r d => v (ix3 0 r d) * Ideal.ofBits .f32 0x3DB504F3#32)) := by
  unfold k0_pay4
  refine (shapeCast_apply _ _ _ (ix2 r d) (by
    rw [Shape.rowMajor_val_three, Shape.rowMajor_val_two]
    show r.val * 128 + d.val = (0 * 128 + r.val) * 128 + d.val
    omega)).trans ((code_vec _ _ _ _ _).trans (congrArg₂ codeOf (pay2_apply v r d) ?_))
  exact (broadcastTo_apply _ _ _ (ix2 0 0) (fun a => match a with | ⟨0, _⟩ => rfl | ⟨1, _⟩ => rfl)).trans (pay3_apply v)

end Block

/-! ## The pieces of the two results -/

/-- Block `j` of the row of blocks that starts at row `o`. -/
theorem inb_block (o j : ℕ) (ho : o ≤ 128) (hj : j < 40) : ∀ a, (![0, o, 128 * j] : Fin 3 → Nat) a + S1x128x128.size a ≤ S1x256x5120.size a := fun a => by
  match a with
  | ⟨0, _⟩ => exact Nat.le_refl 1
  | ⟨1, _⟩ => show o + 128 ≤ 256; omega
  | ⟨2, _⟩ => show 128 * j + 128 ≤ 5120; omega

section Pieces

variable {F : FTy → Type} [FloatOps F] [Named F]

/-- The scales of a row of blocks. -/
def scaleRow (x0 : Vec F S1x256x5120 .bf16) (o : ℕ) (ho : o ≤ 128) : FVec F S1x40 .f32 :=
  concatenate S1x40 1 (List.ofFn fun j : Fin 40 => ⟨S1x1, k0_pay3 (View.ld x0
    (Rect.unit (s := S1x256x5120) ![0, o, 128 * j.val] S1x128x128.size (inb_block o j.val ho j.isLt)))⟩) concatenates_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x40_d1

/-- The scales' block is the two rows of scales. -/
theorem out0_2_eq (x0 : Vec F S1x256x5120 .bf16) :
    out0_2 x0 = View.canon [⟨r0_80, k0_pay1 (scaleRow x0 0 (by decide)) (scaleRow x0 128 (by decide))⟩] := rfl

/-- The codes' block is the 80 blocks' codes. -/
theorem out0_1_eq (x0 : Vec F S1x256x5120 .bf16) :
    out0_1 x0 = View.canon [⟨r0_79, k0_pay4 (View.ld x0 r0_79)⟩, ⟨r0_78, k0_pay4 (View.ld x0 r0_78)⟩, ⟨r0_77, k0_pay4 (View.ld x0 r0_77)⟩, ⟨r0_76, k0_pay4 (View.ld x0 r0_76)⟩, ⟨r0_75, k0_pay4 (View.ld x0 r0_75)⟩, ⟨r0_74, k0_pay4 (View.ld x0 r0_74)⟩, ⟨r0_73, k0_pay4 (View.ld x0 r0_73)⟩, ⟨r0_72, k0_pay4 (View.ld x0 r0_72)⟩, ⟨r0_71, k0_pay4 (View.ld x0 r0_71)⟩, ⟨r0_70, k0_pay4 (View.ld x0 r0_70)⟩, ⟨r0_69, k0_pay4 (View.ld x0 r0_69)⟩, ⟨r0_68, k0_pay4 (View.ld x0 r0_68)⟩, ⟨r0_67, k0_pay4 (View.ld x0 r0_67)⟩, ⟨r0_66, k0_pay4 (View.ld x0 r0_66)⟩, ⟨r0_65, k0_pay4 (View.ld x0 r0_65)⟩, ⟨r0_64, k0_pay4 (View.ld x0 r0_64)⟩, ⟨r0_63, k0_pay4 (View.ld x0 r0_63)⟩, ⟨r0_62, k0_pay4 (View.ld x0 r0_62)⟩, ⟨r0_61, k0_pay4 (View.ld x0 r0_61)⟩, ⟨r0_60, k0_pay4 (View.ld x0 r0_60)⟩, ⟨r0_59, k0_pay4 (View.ld x0 r0_59)⟩, ⟨r0_58, k0_pay4 (View.ld x0 r0_58)⟩, ⟨r0_57, k0_pay4 (View.ld x0 r0_57)⟩, ⟨r0_56, k0_pay4 (View.ld x0 r0_56)⟩, ⟨r0_55, k0_pay4 (View.ld x0 r0_55)⟩, ⟨r0_54, k0_pay4 (View.ld x0 r0_54)⟩, ⟨r0_53, k0_pay4 (View.ld x0 r0_53)⟩, ⟨r0_52, k0_pay4 (View.ld x0 r0_52)⟩, ⟨r0_51, k0_pay4 (View.ld x0 r0_51)⟩, ⟨r0_50, k0_pay4 (View.ld x0 r0_50)⟩, ⟨r0_49, k0_pay4 (View.ld x0 r0_49)⟩, ⟨r0_48, k0_pay4 (View.ld x0 r0_48)⟩, ⟨r0_47, k0_pay4 (View.ld x0 r0_47)⟩, ⟨r0_46, k0_pay4 (View.ld x0 r0_46)⟩, ⟨r0_45, k0_pay4 (View.ld x0 r0_45)⟩, ⟨r0_44, k0_pay4 (View.ld x0 r0_44)⟩, ⟨r0_43, k0_pay4 (View.ld x0 r0_43)⟩, ⟨r0_42, k0_pay4 (View.ld x0 r0_42)⟩, ⟨r0_41, k0_pay4 (View.ld x0 r0_41)⟩, ⟨r0_40, k0_pay4 (View.ld x0 r0_40)⟩, ⟨r0_39, k0_pay4 (View.ld x0 r0_39)⟩, ⟨r0_38, k0_pay4 (View.ld x0 r0_38)⟩, ⟨r0_37, k0_pay4 (View.ld x0 r0_37)⟩, ⟨r0_36, k0_pay4 (View.ld x0 r0_36)⟩, ⟨r0_35, k0_pay4 (View.ld x0 r0_35)⟩, ⟨r0_34, k0_pay4 (View.ld x0 r0_34)⟩, ⟨r0_33, k0_pay4 (View.ld x0 r0_33)⟩, ⟨r0_32, k0_pay4 (View.ld x0 r0_32)⟩, ⟨r0_31, k0_pay4 (View.ld x0 r0_31)⟩, ⟨r0_30, k0_pay4 (View.ld x0 r0_30)⟩, ⟨r0_29, k0_pay4 (View.ld x0 r0_29)⟩, ⟨r0_28, k0_pay4 (View.ld x0 r0_28)⟩, ⟨r0_27, k0_pay4 (View.ld x0 r0_27)⟩, ⟨r0_26, k0_pay4 (View.ld x0 r0_26)⟩, ⟨r0_25, k0_pay4 (View.ld x0 r0_25)⟩, ⟨r0_24, k0_pay4 (View.ld x0 r0_24)⟩, ⟨r0_23, k0_pay4 (View.ld x0 r0_23)⟩, ⟨r0_22, k0_pay4 (View.ld x0 r0_22)⟩, ⟨r0_21, k0_pay4 (View.ld x0 r0_21)⟩, ⟨r0_20, k0_pay4 (View.ld x0 r0_20)⟩, ⟨r0_19, k0_pay4 (View.ld x0 r0_19)⟩, ⟨r0_18, k0_pay4 (View.ld x0 r0_18)⟩, ⟨r0_17, k0_pay4 (View.ld x0 r0_17)⟩, ⟨r0_16, k0_pay4 (View.ld x0 r0_16)⟩, ⟨r0_15, k0_pay4 (View.ld x0 r0_15)⟩, ⟨r0_14, k0_pay4 (View.ld x0 r0_14)⟩, ⟨r0_13, k0_pay4 (View.ld x0 r0_13)⟩, ⟨r0_12, k0_pay4 (View.ld x0 r0_12)⟩, ⟨r0_11, k0_pay4 (View.ld x0 r0_11)⟩, ⟨r0_10, k0_pay4 (View.ld x0 r0_10)⟩, ⟨r0_9, k0_pay4 (View.ld x0 r0_9)⟩, ⟨r0_8, k0_pay4 (View.ld x0 r0_8)⟩, ⟨r0_7, k0_pay4 (View.ld x0 r0_7)⟩, ⟨r0_6, k0_pay4 (View.ld x0 r0_6)⟩, ⟨r0_5, k0_pay4 (View.ld x0 r0_5)⟩, ⟨r0_4, k0_pay4 (View.ld x0 r0_4)⟩, ⟨r0_3, k0_pay4 (View.ld x0 r0_3)⟩, ⟨r0_2, k0_pay4 (View.ld x0 r0_2)⟩, ⟨r0_1, k0_pay4 (View.ld x0 r0_1)⟩, ⟨r0_0, k0_pay4 (View.ld x0 r0_0)⟩] := rfl

end Pieces

variable (x0 : Vec Ideal S1x256x5120 .bf16)

/-- A scaled element of the queries' block. -/
def BQ (n c : ℕ) : EReal := rd3 x0 0 n c * Ideal.ofBits .f32 0x3DB504F3#32

/-- The scale of 128 rows and 128 columns. -/
def BS (t h : ℕ) : EReal := scaleOf (qmax fun r d => BQ x0 (128 * t + r.val) (128 * h + d.val))

/-- The code of an element. -/
def BC (n c : ℕ) : BitVec 8 := codeOf (BQ x0 n c) (BS x0 (n / 128) (c / 128))

theorem ld_apply (o p : ℕ) (inb) (r d : Fin 128) :
    View.ld x0 (Rect.unit (s := S1x256x5120) ![0, o, p] S1x128x128.size inb) (ix3 0 r d) = rd3 x0 0 (o + r.val) (p + d.val) :=
  rd3_of x0 _ rfl (by show o + 1 * r.val = o + r.val; omega) (by show p + 1 * d.val = p + d.val; omega)

theorem scale_piece (t h : ℕ) (o p : ℕ) (ho : o = 128 * t) (hp : p = 128 * h) (inb) :
    k0_pay3 (View.ld x0 (Rect.unit (s := S1x256x5120) ![0, o, p] S1x128x128.size inb)) (ix2 0 0) = BS x0 t h := by
  subst ho hp
  refine (pay3_apply _).trans (congrArg (fun f => scaleOf (qmax f)) (funext fun r => funext fun d => ?_))
  exact congrArg (· * Ideal.ofBits .f32 0x3DB504F3#32) (ld_apply x0 _ _ inb r d)

theorem code_piece (t h : ℕ) (o p : ℕ) (ho : o = 128 * t) (hp : p = 128 * h) (inb) (x : S1x128x128.Idx) :
    k0_pay4 (View.ld x0 (Rect.unit (s := S1x256x5120) ![0, o, p] S1x128x128.size inb)) x
      = (fun i : S1x256x5120.Idx => BC x0 (i 1).val (i 2).val) ((Rect.unit (s := S1x256x5120) ![0, o, p] S1x128x128.size inb).emb x) := by
  subst ho hp
  obtain ⟨r, d, rfl⟩ : ∃ r d : Fin 128, x = ix3 0 r d := ⟨x 1, x 2, funext fun a => match a with
    | ⟨0, _⟩ => Fin.ext (Nat.lt_one_iff.mp (x 0).isLt)
    | ⟨1, _⟩ => rfl
    | ⟨2, _⟩ => rfl⟩
  have hr := r.isLt
  have hd := d.isLt
  have e1 : (((Rect.unit (s := S1x256x5120) ![0, 128 * t, 128 * h] S1x128x128.size inb).emb (ix3 0 r d)) 1).val = 128 * t + r.val := by
    show 128 * t + 1 * r.val = _; omega
  have e2 : (((Rect.unit (s := S1x256x5120) ![0, 128 * t, 128 * h] S1x128x128.size inb).emb (ix3 0 r d)) 2).val = 128 * h + d.val := by
    show 128 * h + 1 * d.val = _; omega
  refine (pay4_apply _ r d).trans ?_
  show _ = BC x0 _ _
  rw [e1, e2]
  unfold BC
  rw [show (128 * t + r.val) / 128 = t by omega, show (128 * h + d.val) / 128 = h by omega]
  refine congrArg₂ codeOf (congrArg (· * Ideal.ofBits .f32 0x3DB504F3#32) (ld_apply x0 _ _ inb r d)) ?_
  refine congrArg (fun f => scaleOf (qmax f)) (funext fun r => funext fun d => ?_)
  exact congrArg (· * Ideal.ofBits .f32 0x3DB504F3#32) (ld_apply x0 _ _ inb r d)

/-- The codes' block, element by element. -/
theorem out0_1_apply (y : S1x256x5120.Idx) : out0_1 x0 y = BC x0 (y 1).val (y 2).val := by
  rw [out0_1_eq]
  refine View.canon_apply_of_pieces (Val := Elt Ideal) (fun i : S1x256x5120.Idx => BC x0 (i 1).val (i 2).val) _ ?_ y (cover0_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  iterate 80 refine List.forall_mem_cons.2 ⟨code_piece x0 _ _ _ _ (Nat.mul_div_cancel' (by decide)).symm (Nat.mul_div_cancel' (by decide)).symm _, ?_⟩
  exact fun _ h => nomatch h

theorem scaleRow_apply (t : ℕ) (o : ℕ) (ho : o ≤ 128) (h : o = 128 * t) (j : Fin 40) : scaleRow x0 o ho (ix2 0 j) = BS x0 t j.val := by
  unfold scaleRow
  refine (concatenate_ofFn_unit_apply (t := S1x40) (s₁ := S1x1) (1 : Fin 2) (fun j : Fin 40 => k0_pay3 (View.ld x0
    (Rect.unit (s := S1x256x5120) ![0, o, 128 * j.val] S1x128x128.size (inb_block o j.val ho j.isLt)))) _ rfl rfl (ix2 0 j) j rfl (ix2 0 0) ?_).trans
    (scale_piece x0 t j.val o (128 * j.val) h rfl _)
  intro b hb
  match b with
  | ⟨0, _⟩ => rfl
  | ⟨1, _⟩ => exact absurd rfl hb

/-- The scales' block, element by element. -/
theorem out0_2_apply (y : S1x1x2x40.Idx) : out0_2 x0 y = BS x0 (y 2).val (y 3).val := by
  rw [out0_2_eq]
  refine View.canon_apply_of_pieces (Val := Elt Ideal) (fun i : S1x1x2x40.Idx => BS x0 (i 2).val (i 3).val) _ ?_ y (cover0_2 _ y)
  refine List.forall_mem_cons.2 ⟨fun x => ?_, fun _ h => nomatch h⟩
  obtain ⟨t, j, rfl⟩ : ∃ (t : Fin 2) (j : Fin 40), x = ix4 0 0 t j := ⟨x 2, x 3, funext fun a => match a with
    | ⟨0, _⟩ => Fin.ext (Nat.lt_one_iff.mp (x 0).isLt)
    | ⟨1, _⟩ => Fin.ext (Nat.lt_one_iff.mp (x 1).isLt)
    | ⟨2, _⟩ => rfl
    | ⟨3, _⟩ => rfl⟩
  have e1 : ((r0_80.emb (ix4 0 0 t j)) 2).val = t.val := by show 0 + 1 * t.val = _; omega
  have e2 : ((r0_80.emb (ix4 0 0 t j)) 3).val = j.val := by show 0 + 1 * j.val = _; omega
  show k0_pay1 (F := Ideal) _ _ (ix4 0 0 t j) = BS x0 ((r0_80.emb (ix4 0 0 t j)) 2).val ((r0_80.emb (ix4 0 0 t j)) 3).val
  rw [e1, e2]
  unfold k0_pay1
  refine (shapeCast_apply _ _ _ (ix2 t j) (by
    rw [Shape.rowMajor_val_two, Shape.rowMajor_val_four]
    show t.val * 40 + j.val = ((0 * 1 + 0) * 2 + t.val) * 40 + j.val
    omega)).trans ?_
  match t with
  | ⟨0, _⟩ => exact (concatenate_pair_apply_left (t := S2x40) (s₁ := S1x40) (s₂ := S1x40) (0 : Fin 2) _ _ _ (ix2 0 j) rfl (ix2 0 j)
      (fun b => match b with | ⟨0, _⟩ => rfl | ⟨1, _⟩ => rfl)).trans (scaleRow_apply x0 0 0 _ rfl j)
  | ⟨1, _⟩ => exact (concatenate_pair_apply_right (t := S2x40) (s₁ := S1x40) (s₂ := S1x40) (0 : Fin 2) _ _ _ (ix2 1 j) rfl rfl (ix2 0 j)
      (fun b hb => match b, hb with | ⟨0, _⟩, hb => absurd rfl hb | ⟨1, _⟩, _ => rfl) rfl).trans (scaleRow_apply x0 1 128 _ rfl j)

end Cert.KernelIdeal.QuantVal

end
-- ==== Proof.IdlArrays.lean ====
module

public import proofs.«01_k».proof.Proof.IdlBlockQuant
public import proofs.«01_k».proof.Proof.IdlRegs
public import Idealize.ShloMosaic.Lib.Pipeline.ValueKit.Geometry

@[expose] public section

set_option maxRecDepth 16384
set_option maxHeartbeats 2000000

noncomputable section

/-! The arrays the first call leaves: the codes and the scales of the whole query array. -/

namespace Cert.KernelIdeal.Arrays

open Idealize.ShloMosaic Idealize.ShloMosaic.TcCoe Idealize.ShloMosaic.ValueIdx
open Idealize.ShloMosaic.Pipeline (Dat Cfg Window)
open Cert.KernelIdeal Cert.KernelIdeal.Gen Cert.KernelIdeal.Run Cert.KernelIdeal.Quant Cert.KernelIdeal.QuantVal Cert.Reads Cert.Quantize

/-! ## Which block each grid point of the first call has -/

theorem idx0_0 : ∀ t : Fin cfg0.N, win0_0.index t = ![(grid0.coords t 0).val, (grid0.coords t 1).val, 0] :=
  (by decide +kernel : ∀ t : Fin grid0.N, _)
theorem idx0_1 : ∀ t : Fin cfg0.N, win0_1.index t = ![(grid0.coords t 0).val, (grid0.coords t 1).val, 0] :=
  (by decide +kernel : ∀ t : Fin grid0.N, _)
theorem idx0_2 : ∀ t : Fin cfg0.N, win0_2.index t = ![(grid0.coords t 0).val, (grid0.coords t 1).val, 0, 0] :=
  (by decide +kernel : ∀ t : Fin grid0.N, _)

variable (V : Dev nD → Valuation τ sig (Elt Ideal)) (c : Dev nD)

/-- The query array. -/
abbrev a0 : Vec Ideal S3x7680x5120 .bf16 := V c (Proc.devRef .tc main_arg0)

/-- Where an element of a point's block of queries lies in the array. -/
theorem emb0_0 (t : Fin cfg0.N) (y : S1x256x5120.Idx) (a : Fin 3) :
    ((((cfg0.win 0).blk t).view.emb y : S3x7680x5120.Idx) a).val = win0_0.index t a * win0_0.size a + (y a).val := win0_0.rect_emb_val t y a

theorem iblk0_apply (t : Fin cfg0.N) (y : S1x256x5120.Idx) :
    (iblk0 V c 0 t : S1x256x5120.Idx → EReal) y = a0 V c (((cfg0.win 0).blk t).view.emb y) := rfl

/-- An element of a point's block of queries. -/
theorem iblk0_rd (t : Fin cfg0.N) (n k : ℕ) (hn : n < 256) (hk : k < 5120) :
    rd3 (a := 1) (b := 256) (c := 5120) (iblk0 V c 0 t) 0 n k = rd3 (a0 V c) (grid0.coords t 0).val (256 * (grid0.coords t 1).val + n) k := by
  refine (iblk0_apply V c t _).trans (rd3_of (a0 V c) _ ?_ ?_ ?_)
  · refine (emb0_0 t _ 0).trans ?_
    rw [idx0_0]
    show (grid0.coords t 0).val * 1 + 0 = _
    omega
  · refine (emb0_0 t _ 1).trans ?_
    rw [idx0_0]
    show (grid0.coords t 1).val * 256 + n % 256 = _
    omega
  · refine (emb0_0 t _ 2).trans ?_
    rw [idx0_0]
    show 0 * 5120 + k % 5120 = _
    omega

theorem BQ_eq (t : Fin cfg0.N) (n k : ℕ) (hn : n < 256) (hk : k < 5120) :
    BQ (iblk0 V c 0 t) n k = q (a0 V c) (grid0.coords t 0).val (256 * (grid0.coords t 1).val + n) k :=
  congrArg (· * Ideal.ofBits .f32 0x3DB504F3#32) (iblk0_rd V c t n k hn hk)

theorem BS_eq (t : Fin cfg0.N) (s h : ℕ) (hs : s < 2) (hh : h < 40) :
    BS (iblk0 V c 0 t) s h = QS (a0 V c) (grid0.coords t 0).val (2 * (grid0.coords t 1).val + s) h := by
  refine congrArg (fun f => scaleOf (qmax f)) (funext fun r => funext fun d => ?_)
  have hr := r.isLt
  have hd := d.isLt
  rw [BQ_eq V c t _ _ (by omega) (by omega), show 256 * (grid0.coords t 1).val + (128 * s + r.val) = 128 * (2 * (grid0.coords t 1).val + s) + r.val by omega]

theorem BC_eq (t : Fin cfg0.N) (n k : ℕ) (hn : n < 256) (hk : k < 5120) :
    BC (iblk0 V c 0 t) n k = QC (a0 V c) (grid0.coords t 0).val (256 * (grid0.coords t 1).val + n) k := by
  unfold BC QC
  rw [BQ_eq V c t n k hn hk, BS_eq V c t _ _ (by omega) (by omega), show (256 * (grid0.coords t 1).val + n) / 128 = 2 * (grid0.coords t 1).val + n / 128 by omega]

theorem QC_at (a0 : Vec Ideal S3x7680x5120 .bf16) (i : S3x7680x5120.Idx) {b n k : ℕ} (h0 : (i 0).val = b) (h1 : (i 1).val = n) (h2 : (i 2).val = k) :
    QC a0 b n k = QC a0 (i 0).val (i 1).val (i 2).val := by rw [h0, h1, h2]

theorem QS_at (a0 : Vec Ideal S3x7680x5120 .bf16) (i : S3x30x2x40.Idx) {b n s k : ℕ} (h0 : (i 0).val = b) (h1 : (i 1).val = n) (h2 : (i 2).val = s)
    (h3 : (i 3).val = k) : QS a0 b (2 * n + s) k = QS a0 (i 0).val (2 * (i 1).val + (i 2).val) (i 3).val := by rw [h0, h1, h2, h3]

attribute [local irreducible] QC QS out0_1 out0_2

/-- Where an element of a point's block of codes lies in the array. -/
theorem emb0_1 (t : Fin cfg0.N) (y : S1x256x5120.Idx) (a : Fin 3) :
    ((((cfg0.win 1).blk t).view.emb y : S3x7680x5120.Idx) a).val = win0_1.index t a * win0_1.size a + (y a).val := win0_1.rect_emb_val t y a

/-- Where an element of a point's block of scales lies in the array. -/
theorem emb0_2 (t : Fin cfg0.N) (y : S1x1x2x40.Idx) (a : Fin 4) :
    ((((cfg0.win 2).blk t).view.emb y : S3x30x2x40.Idx) a).val = win0_2.index t a * win0_2.size a + (y a).val := win0_2.rect_emb_val t y a

theorem code_point (t : Fin cfg0.N) (y : S1x256x5120.Idx) : (out0_1 (iblk0 V c 0 t) : Vec Ideal S1x256x5120 .i8) y
    = (fun i : S3x7680x5120.Idx => QC (a0 V c) (i 0).val (i 1).val (i 2).val) (((cfg0.win 1).blk t).view.emb y) := by
  refine (out0_1_apply _ _).trans ((BC_eq V c t _ _ (y 1).isLt (y 2).isLt).trans ?_)
  have e0 : ((((cfg0.win 1).blk t).view.emb y : S3x7680x5120.Idx) 0).val = (grid0.coords t 0).val := by
    refine (emb0_1 t y 0).trans ?_
    rw [idx0_1]
    have h : (y 0).val < 1 := (y 0).isLt
    show (grid0.coords t 0).val * 1 + (y 0).val = _
    omega
  have e1 : ((((cfg0.win 1).blk t).view.emb y : S3x7680x5120.Idx) 1).val = 256 * (grid0.coords t 1).val + (y 1).val := by
    refine (emb0_1 t y 1).trans ?_
    rw [idx0_1]
    show (grid0.coords t 1).val * 256 + (y 1).val = _
    omega
  have e2 : ((((cfg0.win 1).blk t).view.emb y : S3x7680x5120.Idx) 2).val = (y 2).val := by
    refine (emb0_1 t y 2).trans ?_
    rw [idx0_1]
    show 0 * 5120 + (y 2).val = _
    omega
  exact QC_at _ _ e0 e1 e2

theorem scale_point (t : Fin cfg0.N) (y : S1x1x2x40.Idx) : (out0_2 (iblk0 V c 0 t) : Vec Ideal S1x1x2x40 .f32) y
    = (fun i : S3x30x2x40.Idx => QS (a0 V c) (i 0).val (2 * (i 1).val + (i 2).val) (i 3).val) (((cfg0.win 2).blk t).view.emb y) := by
  refine (out0_2_apply _ _).trans ((BS_eq V c t _ _ (y 2).isLt (y 3).isLt).trans ?_)
  have e0 : ((((cfg0.win 2).blk t).view.emb y : S3x30x2x40.Idx) 0).val = (grid0.coords t 0).val := by
    refine (emb0_2 t y 0).trans ?_
    rw [idx0_2]
    have h : (y 0).val < 1 := (y 0).isLt
    show (grid0.coords t 0).val * 1 + (y 0).val = _
    omega
  have e1 : ((((cfg0.win 2).blk t).view.emb y : S3x30x2x40.Idx) 1).val = (grid0.coords t 1).val := by
    refine (emb0_2 t y 1).trans ?_
    rw [idx0_2]
    have h : (y 1).val < 1 := (y 1).isLt
    show (grid0.coords t 1).val * 1 + (y 1).val = _
    omega
  have e2 : ((((cfg0.win 2).blk t).view.emb y : S3x30x2x40.Idx) 2).val = (y 2).val := by
    refine (emb0_2 t y 2).trans ?_
    rw [idx0_2]
    show 0 * 2 + (y 2).val = _
    omega
  have e3 : ((((cfg0.win 2).blk t).view.emb y : S3x30x2x40.Idx) 3).val = (y 3).val := by
    refine (emb0_2 t y 3).trans ?_
    rw [idx0_2]
    show 0 * 40 + (y 3).val = _
    omega
  exact QS_at _ _ e0 e1 e2 e3

theorem cover0_w1 : (cfg0.win 1).Covers := (by decide +kernel : win0_1.Covers)
theorem cover0_w2 : (cfg0.win 2).Covers := (by decide +kernel : win0_2.Covers)

/-- The codes' array after the first call. -/
theorem codes : (dat0 V c).arrAt 1 cfg0.N = fun i : S3x7680x5120.Idx => QC (a0 V c) (i 0).val (i 1).val (i 2).val :=
  (dat0 V c).arrAt_eq_of_covers 1 _ cover0_w1 fun t _ y =>
    (cast_eq _ _).trans ((congrFun (after0_1 V c t) y).trans (code_point V c t y))

/-- The scales' array after the first call. -/
theorem scales : (dat0 V c).arrAt 2 cfg0.N = fun i : S3x30x2x40.Idx => QS (a0 V c) (i 0).val (2 * (i 1).val + (i 2).val) (i 3).val :=
  (dat0 V c).arrAt_eq_of_covers 2 _ cover0_w2 fun t _ y =>
    (cast_eq _ _).trans ((congrFun (after0_2 V c t) y).trans (scale_point V c t y))

end Cert.KernelIdeal.Arrays

end
-- ==== Proof.IdlBlocks.lean ====
module

public import proofs.«01_k».proof.Proof.Quantize
public import proofs.«01_k».proof.Proof.IdlRegs
public import proofs.«01_k».proof.Proof.Gen.KernelIdeal.Points
public import Idealize.ShloMosaic.Lib.Pipeline.ValueKit.Geometry

@[expose] public section

set_option maxRecDepth 16384
set_option maxHeartbeats 2000000

noncomputable section

/-! The second call's blocks: at the grid point for batch `b`, head `h`, query block `i` and group `g`, which element of
    each array a block's element is. -/

namespace Cert.KernelIdeal.Blocks

open Idealize.ShloMosaic Idealize.ShloMosaic.TcCoe Idealize.ShloMosaic.ValueIdx
open Idealize.ShloMosaic.Pipeline (Dat Cfg Window)
open Cert.KernelIdeal Cert.KernelIdeal.Gen Cert.KernelIdeal.Run Cert.Reads Cert.Quantize

/-! ## The points' coordinates, and which block each point has -/

/-- The batch, the head, the query block and the group of a point. -/
abbrev pb (t : Fin grid1.N) : ℕ := (grid1.coords t 0).val
abbrev ph (t : Fin grid1.N) : ℕ := (grid1.coords t 1).val
abbrev pi (t : Fin grid1.N) : ℕ := (grid1.coords t 2).val
abbrev pg (t : Fin grid1.N) : ℕ := (grid1.coords t 3).val

theorem pb_lt (t : Fin grid1.N) : pb t < 3 := (grid1.coords t 0).isLt
theorem ph_lt (t : Fin grid1.N) : ph t < 8 := (grid1.coords t 1).isLt
theorem pi_lt (t : Fin grid1.N) : pi t < 30 := (grid1.coords t 2).isLt
theorem pg_lt (t : Fin grid1.N) : pg t < 5 := (grid1.coords t 3).isLt

theorem word_hg : ∀ (h : Fin 8) (g : Fin 5), (Scalar.addi (Scalar.muli (BitVec.ofNat 32 h.val) 5#32) (BitVec.ofNat 32 g.val)).toNat = h.val * 5 + g.val := by decide +kernel
theorem word_hig : ∀ (h : Fin 8) (i : Fin 30) (g : Fin 5), (Scalar.addi (Scalar.muli (Scalar.addi (Scalar.muli (BitVec.ofNat 32 h.val) 30#32) (BitVec.ofNat 32 i.val)) 5#32) (BitVec.ofNat 32 g.val)).toNat
    = (h.val * 30 + i.val) * 5 + g.val := by decide +kernel
theorem word_small (n : ℕ) (h : n < 30) : (BitVec.ofNat 32 n).toNat = n := by
  rw [BitVec.toNat_ofNat, Nat.mod_eq_of_lt (by omega)]

theorem idx1_0 (t : Fin grid1.N) : win1_0.index t = ![pb t, pi t, ph t * 5 + pg t] := by
  refine (show win1_0.index t = cc1_transform_0 (grid1.coords t) from rfl).trans (funext fun a => ?_)
  match a with
  | ⟨0, _⟩ => exact word_small (pb t) (Nat.lt_trans (pb_lt t) (by decide))
  | ⟨1, _⟩ => exact word_small (pi t) (pi_lt t)
  | ⟨2, _⟩ => exact word_hg (grid1.coords t 1) (grid1.coords t 3)

theorem idx1_1 (t : Fin grid1.N) : win1_1.index t = ![pb t, (ph t * 30 + pi t) * 5 + pg t, 0, 0, 0] := by
  refine (show win1_1.index t = cc1_transform_1 (grid1.coords t) from rfl).trans (funext fun a => ?_)
  match a with
  | ⟨0, _⟩ => exact word_small (pb t) (Nat.lt_trans (pb_lt t) (by decide))
  | ⟨1, _⟩ => exact word_hig (grid1.coords t 1) (grid1.coords t 2) (grid1.coords t 3)
  | ⟨2, _⟩ => rfl
  | ⟨3, _⟩ => rfl
  | ⟨4, _⟩ => rfl

theorem idx1_2 (t : Fin grid1.N) : win1_2.index t = ![pb t, ph t, 0, 0] := by
  refine (show win1_2.index t = cc1_transform_2 (grid1.coords t) from rfl).trans (funext fun a => ?_)
  match a with
  | ⟨0, _⟩ => exact word_small (pb t) (Nat.lt_trans (pb_lt t) (by decide))
  | ⟨1, _⟩ => exact word_small (ph t) (Nat.lt_trans (ph_lt t) (by decide))
  | ⟨2, _⟩ => rfl
  | ⟨3, _⟩ => rfl

theorem idx1_3 (t : Fin grid1.N) : win1_3.index t = ![pb t, ph t, 0, 0] := by
  refine (show win1_3.index t = cc1_transform_3 (grid1.coords t) from rfl).trans (funext fun a => ?_)
  match a with
  | ⟨0, _⟩ => exact word_small (pb t) (Nat.lt_trans (pb_lt t) (by decide))
  | ⟨1, _⟩ => exact word_small (ph t) (Nat.lt_trans (ph_lt t) (by decide))
  | ⟨2, _⟩ => rfl
  | ⟨3, _⟩ => rfl

theorem idx1_4 (t : Fin grid1.N) : win1_4.index t = ![pb t, ph t, 0, 0] := by
  refine (show win1_4.index t = cc1_transform_4 (grid1.coords t) from rfl).trans (funext fun a => ?_)
  match a with
  | ⟨0, _⟩ => exact word_small (pb t) (Nat.lt_trans (pb_lt t) (by decide))
  | ⟨1, _⟩ => exact word_small (ph t) (Nat.lt_trans (ph_lt t) (by decide))
  | ⟨2, _⟩ => rfl
  | ⟨3, _⟩ => rfl

theorem idx1_5 (t : Fin grid1.N) : win1_5.index t = ![pb t, pi t, ph t * 5 + pg t] := by
  refine (show win1_5.index t = cc1_transform_5 (grid1.coords t) from rfl).trans (funext fun a => ?_)
  match a with
  | ⟨0, _⟩ => exact word_small (pb t) (Nat.lt_trans (pb_lt t) (by decide))
  | ⟨1, _⟩ => exact word_small (pi t) (pi_lt t)
  | ⟨2, _⟩ => exact word_hg (grid1.coords t 1) (grid1.coords t 3)

/-- The point of a batch, a head, a query block and a group. -/
theorem point (b h i g : ℕ) (hb : b < 3) (hh : h < 8) (hi : i < 30) (hg : g < 5) :
    ∃ t : Fin grid1.N, pb t = b ∧ ph t = h ∧ pi t = i ∧ pg t = g := by
  have hN : grid1.N = 3600 := by decide
  refine ⟨⟨((b * 8 + h) * 30 + i) * 5 + g, by omega⟩, ?_, ?_, ?_, ?_⟩
  · refine (Pipeline.Grid.coords_val _ 0 (S := 1200) (B := 3) (by decide) rfl).trans ?_
    show (((b * 8 + h) * 30 + i) * 5 + g) / 1200 % 3 = b
    omega
  · refine (Pipeline.Grid.coords_val _ 1 (S := 150) (B := 8) (by decide) rfl).trans ?_
    show (((b * 8 + h) * 30 + i) * 5 + g) / 150 % 8 = h
    omega
  · refine (Pipeline.Grid.coords_val _ 2 (S := 5) (B := 30) (by decide) rfl).trans ?_
    show (((b * 8 + h) * 30 + i) * 5 + g) / 5 % 30 = i
    omega
  · refine (Pipeline.Grid.coords_val _ 3 (S := 1) (B := 5) (by decide) rfl).trans ?_
    show (((b * 8 + h) * 30 + i) * 5 + g) / 1 % 5 = g
    omega

/-- The result's blocks cover the result. -/
theorem cover1_w5 : (cfg1.win 5).Covers := by
  refine ⟨by decide, fun β => ?_⟩
  have h0 : (β 0).val < 3 := (β 0).isLt
  have h1 : (β 1).val < 30 := (β 1).isLt
  have h2 : (β 2).val < 40 := (β 2).isLt
  obtain ⟨t, eb, eh, ei, eg⟩ := point (β 0).val ((β 2).val / 5) (β 1).val ((β 2).val % 5) h0 (by omega) h1 (by omega)
  refine ⟨t, flush1_5 t, fun a => ⟨?_, Or.inl rfl⟩⟩
  refine (congrFun (idx1_5 t) a).trans ?_
  match a with
  | ⟨0, _⟩ => exact eb
  | ⟨1, _⟩ => exact ei
  | ⟨2, _⟩ => show ph t * 5 + pg t = (β 2).val; rw [eh, eg]; omega

variable (V : Dev nD → Valuation τ sig (Elt Ideal)) (c : Dev nD) (t : Fin cfg1.N)

/-! ## Where a block's element lies in its array -/

theorem emb1_0 (y : S1x256x128.Idx) (a : Fin 3) :
    ((((cfg1.win 0).blk t).view.emb y : S3x7680x5120.Idx) a).val = win1_0.index t a * win1_0.size a + (y a).val := win1_0.rect_emb_val t y a
theorem emb1_1 (y : S1x1x1x2x120.Idx) (a : Fin 5) :
    ((((cfg1.win 1).blk t).view.emb y : S3x1200x1x2x120.Idx) a).val = win1_1.index t a * win1_1.size a + (y a).val := win1_1.rect_emb_val t y a
theorem emb1_2 (y : S1x1x7680x128.Idx) (a : Fin 4) :
    ((((cfg1.win 2).blk t).view.emb y : S3x8x7680x128.Idx) a).val = win1_2.index t a * win1_2.size a + (y a).val := win1_2.rect_emb_val t y a
theorem emb1_3 (y : S1x1x128x7680.Idx) (a : Fin 4) :
    ((((cfg1.win 3).blk t).view.emb y : S3x8x128x7680.Idx) a).val = win1_3.index t a * win1_3.size a + (y a).val := win1_3.rect_emb_val t y a
theorem emb1_4 (y : S1x1x1x128.Idx) (a : Fin 4) :
    ((((cfg1.win 4).blk t).view.emb y : S3x8x1x128.Idx) a).val = win1_4.index t a * win1_4.size a + (y a).val := win1_4.rect_emb_val t y a
theorem emb1_5 (y : S1x256x128.Idx) (a : Fin 3) :
    ((((cfg1.win 5).blk t).view.emb y : S3x7680x5120.Idx) a).val = win1_5.index t a * win1_5.size a + (y a).val := win1_5.rect_emb_val t y a

/-! ## The blocks' elements -/

/-- The queries' codes. -/
theorem blk_q (col : Fin 256) (d : Fin 128) : (iblk1 V c 0 t : Vec Ideal S1x256x128 .i8) (ix3 0 col d)
    = rd3 (V c (Proc.devRef .tc main_v0_0) : Vec Ideal S3x7680x5120 .i8) (pb t) (256 * pi t + col.val) (128 * (ph t * 5 + pg t) + d.val) := by
  refine rd3_of (V c (Proc.devRef .tc main_v0_0) : Vec Ideal S3x7680x5120 .i8) (((cfg1.win 0).blk t).view.emb (ix3 0 col d : S1x256x128.Idx)) ?_ ?_ ?_
  · refine (emb1_0 t _ 0).trans ?_
    rw [idx1_0]
    show pb t * 1 + 0 = _
    omega
  · refine (emb1_0 t _ 1).trans ?_
    rw [idx1_0]
    show pi t * 256 + col.val = _
    omega
  · refine (emb1_0 t _ 2).trans ?_
    rw [idx1_0]
    show (ph t * 5 + pg t) * 128 + d.val = _
    omega

/-- The products of the scales. -/
theorem blk_c (s : Fin 2) (n : Fin 120) (hu : (ph t * 30 + pi t) * 5 + pg t < 1200) : (iblk1 V c 1 t : Vec Ideal S1x1x1x2x120 .f32) (ix5 0 0 0 s n)
    = (V c (Proc.devRef .tc main_v9) : Vec Ideal S3x1200x1x2x120 .f32) (ix5 ⟨pb t, pb_lt t⟩ ⟨(ph t * 30 + pi t) * 5 + pg t, hu⟩ 0 s n) := by
  refine congrArg (V c (Proc.devRef .tc main_v9) : Vec Ideal S3x1200x1x2x120 .f32)
    (show ((((cfg1.win 1).blk t).view.emb (ix5 0 0 0 s n : S1x1x1x2x120.Idx)) : S3x1200x1x2x120.Idx) = _ from funext fun a => Fin.ext ((emb1_1 t _ a).trans ?_))
  rw [idx1_1]
  match a with
  | ⟨0, _⟩ => show pb t * 1 + 0 = pb t; omega
  | ⟨1, _⟩ => show ((ph t * 30 + pi t) * 5 + pg t) * 1 + 0 = (ph t * 30 + pi t) * 5 + pg t; omega
  | ⟨2, _⟩ => rfl
  | ⟨3, _⟩ => show 0 * 2 + s.val = s.val; omega
  | ⟨4, _⟩ => show 0 * 120 + n.val = n.val; omega

/-- The keys. -/
theorem blk_k (k : Fin 7680) (d : Fin 128) : (iblk1 V c 2 t : Vec Ideal S1x1x7680x128 .i8) (ix4 0 0 k d)
    = rd4 (V c (Proc.devRef .tc main_arg1) : Vec Ideal S3x8x7680x128 .i8) (pb t) (ph t) k.val d.val := by
  refine rd4_of (V c (Proc.devRef .tc main_arg1) : Vec Ideal S3x8x7680x128 .i8) (((cfg1.win 2).blk t).view.emb (ix4 0 0 k d : S1x1x7680x128.Idx)) ?_ ?_ ?_ ?_
  · refine (emb1_2 t _ 0).trans ?_
    rw [idx1_2]
    show pb t * 1 + 0 = _
    omega
  · refine (emb1_2 t _ 1).trans ?_
    rw [idx1_2]
    show ph t * 1 + 0 = _
    omega
  · refine (emb1_2 t _ 2).trans ?_
    rw [idx1_2]
    show 0 * 7680 + k.val = _
    omega
  · refine (emb1_2 t _ 3).trans ?_
    rw [idx1_2]
    show 0 * 128 + d.val = _
    omega

/-- The values. -/
theorem blk_v (n : Fin 128) (k : Fin 7680) : (iblk1 V c 3 t : Vec Ideal S1x1x128x7680 .fp8e4m3) (ix4 0 0 n k)
    = rd4 (V c (Proc.devRef .tc main_arg3) : Vec Ideal S3x8x128x7680 .fp8e4m3) (pb t) (ph t) n.val k.val := by
  refine rd4_of (V c (Proc.devRef .tc main_arg3) : Vec Ideal S3x8x128x7680 .fp8e4m3) (((cfg1.win 3).blk t).view.emb (ix4 0 0 n k : S1x1x128x7680.Idx)) ?_ ?_ ?_ ?_
  · refine (emb1_3 t _ 0).trans ?_
    rw [idx1_3]
    show pb t * 1 + 0 = _
    omega
  · refine (emb1_3 t _ 1).trans ?_
    rw [idx1_3]
    show ph t * 1 + 0 = _
    omega
  · refine (emb1_3 t _ 2).trans ?_
    rw [idx1_3]
    show 0 * 128 + n.val = _
    omega
  · refine (emb1_3 t _ 3).trans ?_
    rw [idx1_3]
    show 0 * 7680 + k.val = _
    omega

/-- The values' scales. -/
theorem blk_s (n : Fin 128) : (iblk1 V c 4 t : Vec Ideal S1x1x1x128 .f32) (ix4 0 0 0 n)
    = (V c (Proc.devRef .tc main_v10) : Vec Ideal S3x8x1x128 .f32) (ix4 ⟨pb t, pb_lt t⟩ ⟨ph t, ph_lt t⟩ 0 n) := by
  refine congrArg (V c (Proc.devRef .tc main_v10) : Vec Ideal S3x8x1x128 .f32)
    (show ((((cfg1.win 4).blk t).view.emb (ix4 0 0 0 n : S1x1x1x128.Idx)) : S3x8x1x128.Idx) = _ from funext fun a => Fin.ext ((emb1_4 t _ a).trans ?_))
  rw [idx1_4]
  match a with
  | ⟨0, _⟩ => show pb t * 1 + 0 = pb t; omega
  | ⟨1, _⟩ => show ph t * 1 + 0 = ph t; omega
  | ⟨2, _⟩ => rfl
  | ⟨3, _⟩ => show 0 * 128 + n.val = n.val; omega

end Cert.KernelIdeal.Blocks

end
-- ==== Proof.IdlHost.lean ====
module

public import proofs.«01_k».proof.Proof.Quantize
public import proofs.«01_k».proof.Proof.IdlRun
public import Idealize.ShloMosaic.Lib.ValueIdxRank6

@[expose] public section

set_option maxRecDepth 16384
set_option maxHeartbeats 2000000

noncomputable section

/-! The arrays the operations between the two calls make: the scales block by block, their products with the keys' scales, and
    the values' scales. -/

namespace Cert.KernelIdeal.Host

open Idealize.ShloMosaic Idealize.ShloMosaic.TcCoe Idealize.ShloMosaic.ValueIdx
open Cert.KernelIdeal Cert.KernelIdeal.Gen Cert.KernelIdeal.Run Cert.Reads Cert.Quantize

section Forms

variable {F : FTy → Type} [FloatOps F] [Named F]

/-- The scales, one row per block of 128 tokens. -/
def rows (s : Vec F S3x30x2x40 .f32) : Vec F S3x60x40 .f32 := shapeCast S3x60x40 s shapeCasts_S3x30x2x40_S3x60x40

/-- The products of the query blocks' scales and the key blocks' scales. -/
def prods (s : Vec F S3x30x2x40 .f32) (k : Vec F S3x8x120 .f32) : Vec F S3x1200x1x2x120 .f32 :=
  shapeCast S3x1200x1x2x120 (mulf
    (broadcastInDim S3x8x30x5x2x120 ![0, 1, 2, 3, 4, 5] bcast_S3x8x30x5x2x1_S3x8x30x5x2x120_0_1_2_3_4_5
      (broadcastInDim S3x8x30x5x2x1 ![0, 1, 2, 3, 4] bcast_S3x8x30x5x2_S3x8x30x5x2x1_0_1_2_3_4
        (transpose S3x8x30x5x2 [0, 3, 1, 4, 2] (shapeCast S3x30x2x8x5 (rows s) shapeCasts_S3x60x40_S3x30x2x8x5) transposes_S3x30x2x8x5_S3x8x30x5x2_0_3_1_4_2)))
    (broadcastInDim S3x8x30x5x2x120 ![0, 1, 2, 3, 4, 5] bcast_S3x8x1x1x1x120_S3x8x30x5x2x120_0_1_2_3_4_5
      (broadcastInDim S3x8x1x1x1x120 ![0, 1, 5] bcast_S3x8x120_S3x8x1x1x1x120_0_1_5 k))) shapeCasts_S3x8x30x5x2x120_S3x1200x1x2x120

variable (V : Valuation τ sig (Elt F))

theorem after_v1 : StableHlo.after hostOps1 V (Proc.devRef .tc main_v1) = rows (V (Proc.devRef .tc main_v0_1)) := by
  unfold hostOps1
  after_results
  rfl

theorem after_v9 : StableHlo.after hostOps1 V (Proc.devRef .tc main_v9) = prods (V (Proc.devRef .tc main_v0_1)) (V (Proc.devRef .tc main_arg2)) := by
  unfold hostOps1
  after_results
  rfl

theorem after_v10 : StableHlo.after hostOps1 V (Proc.devRef .tc main_v10)
    = broadcastInDim S3x8x1x128 ![0, 1, 3] bcast_S3x8x128_S3x8x1x128_0_1_3 (V (Proc.devRef .tc main_arg4)) := by
  unfold hostOps1
  after_results
  try rfl

end Forms

theorem rows_apply (s : Vec Ideal S3x30x2x40 .f32) (b : Fin 3) (n : Fin 60) (h : Fin 40) :
    rows s (ix3 b n h) = s (ix4 b ⟨n.val / 2, by omega⟩ ⟨n.val % 2, by omega⟩ h) :=
  shapeCast_apply _ _ _ _ (by
    rw [Shape.rowMajor_val_three, Shape.rowMajor_val_four]
    show ((b.val * 30 + n.val / 2) * 2 + n.val % 2) * 40 + h.val = (b.val * 60 + n.val) * 40 + h.val
    omega)

theorem prods_apply (s : Vec Ideal S3x30x2x40 .f32) (k : Vec Ideal S3x8x120 .f32) (b : Fin 3) (h : Fin 8) (i : Fin 30) (g : Fin 5) (r : Fin 2) (n : Fin 120)
    (u : Fin 1200) (hu : u.val = (h.val * 30 + i.val) * 5 + g.val) (hg : Fin 40) (hh : hg.val = h.val * 5 + g.val) :
    prods s k (ix5 b u 0 r n) = s (ix4 b i r hg) * k (ix3 b h n) := by
  unfold prods
  rw [shapeCast_apply _ _ _ (ix6 b h i g r n) (by
    rw [Shape.rowMajor_val_five, Shape.rowMajor_val_six]
    show ((((b.val * 8 + h.val) * 30 + i.val) * 5 + g.val) * 2 + r.val) * 120 + n.val = (((b.val * 1200 + u.val) * 1 + 0) * 2 + r.val) * 120 + n.val
    omega), mulf_apply]
  refine congrArg₂ (· * ·) ?_ ?_
  · rw [broadcastInDim_apply _ _ _ _ (ix6 b h i g r 0) (fun a => match a with | ⟨0, _⟩ => rfl | ⟨1, _⟩ => rfl | ⟨2, _⟩ => rfl | ⟨3, _⟩ => rfl | ⟨4, _⟩ => rfl | ⟨5, _⟩ => rfl),
      broadcastInDim_apply _ _ _ _ (ix5 b h i g r) (fun a => match a with | ⟨0, _⟩ => rfl | ⟨1, _⟩ => rfl | ⟨2, _⟩ => rfl | ⟨3, _⟩ => rfl | ⟨4, _⟩ => rfl),
      transpose_apply _ _ _ _ (ix5 b i r h g) (fun a => match a with | ⟨0, _⟩ => rfl | ⟨1, _⟩ => rfl | ⟨2, _⟩ => rfl | ⟨3, _⟩ => rfl | ⟨4, _⟩ => rfl)]
    have hi := i.isLt
    have hr := r.isLt
    rw [shapeCast_apply _ _ _ (ix3 b ⟨2 * i.val + r.val, by omega⟩ hg) (by
      rw [Shape.rowMajor_val_five, Shape.rowMajor_val_three]
      show (b.val * 60 + (2 * i.val + r.val)) * 40 + hg.val = (((b.val * 30 + i.val) * 2 + r.val) * 8 + h.val) * 5 + g.val
      omega), rows_apply]
    refine congrArg s (funext fun a => Fin.ext ?_)
    match a with
    | ⟨0, _⟩ => rfl
    | ⟨1, _⟩ => show (2 * i.val + r.val) / 2 = i.val; omega
    | ⟨2, _⟩ => show (2 * i.val + r.val) % 2 = r.val; omega
    | ⟨3, _⟩ => rfl
  · rw [broadcastInDim_apply _ _ _ _ (ix6 b h 0 0 0 n) (fun a => match a with | ⟨0, _⟩ => rfl | ⟨1, _⟩ => rfl | ⟨2, _⟩ => rfl | ⟨3, _⟩ => rfl | ⟨4, _⟩ => rfl | ⟨5, _⟩ => rfl),
      broadcastInDim_apply _ _ _ _ (ix3 b h n) (fun a => match a with | ⟨0, _⟩ => rfl | ⟨1, _⟩ => rfl | ⟨2, _⟩ => rfl)]

theorem vs_apply (x : Vec Ideal S3x8x128 .f32) (b : Fin 3) (h : Fin 8) (n : Fin 128) :
    broadcastInDim S3x8x1x128 ![0, 1, 3] bcast_S3x8x128_S3x8x1x128_0_1_3 x (ix4 b h 0 n) = x (ix3 b h n) :=
  broadcastInDim_apply _ _ _ _ (ix3 b h n) (fun a => match a with | ⟨0, _⟩ => rfl | ⟨1, _⟩ => rfl | ⟨2, _⟩ => rfl)

end Cert.KernelIdeal.Host

end
-- ==== Proof.IdlTiles.lean ====
module

public import proofs.«01_k».proof.Proof.IdlBody
public import proofs.«01_k».proof.Proof.Reads

@[expose] public section

set_option maxRecDepth 16384
set_option maxHeartbeats 1000000

noncomputable section

/-! The scores the attention body keeps, at the extended reals: what each stored row of scores is, as a function of the
    blocks the body reads, and which upper bounds the running maximum has. -/

namespace Cert.KernelIdeal.Attn

open Idealize.ShloMosaic Idealize.ShloMosaic.ValueIdx
open Cert.KernelIdeal Cert.KernelIdeal.Gen Cert.KernelIdeal.Body Cert.Scalars Cert.Reads

theorem named_lgE : Named.named (F := Ideal) (φ := .f32) κ "log2_e" 0x3FB8AA3B#32 = (Scalars.lgE : Ideal .f32) :=
  IdealRules.named_const.ideal_named_scalar (φ := .f32) _ _ _ _ rfl
theorem named_mask : Named.named (F := Ideal) (φ := .f32) κ "mask" 0xF149F2CA#32 = ((⊥ : EReal) : Ideal .f32) :=
  IdealRules.named_const.ideal_named_scalar (φ := .f32) _ _ _ _ rfl

/-- The integer scores of a key chunk: key `a` against row `col`. -/
theorem raw_apply (x4 : Vec Ideal S1x256x128 .i8) (K : Vec Ideal S1x1x256x128 .i8) (a col : Fin 256) :
    raw x4 K (ix2 a col) = ∑ d : Fin 128, cv (K (ix4 0 0 a d)) * cv (x4 (ix3 0 col d)) := by
  unfold raw k1_pay8
  refine (mm_apply dot_S256x128_S256x128_S256x256_1_1_0_0_n_n 128 rfl rfl none _ _ (ix2 a col) (fun d => ix2 a d) (fun d => ix2 col d)
    (fun d => ?_) (fun d => ?_)).trans (Finset.sum_congr rfl fun d _ => ?_)
  · funext b; apply Fin.ext
    match b with
    | ⟨0, _⟩ => rfl
    | ⟨1, _⟩ => exact contrEquiv1_symm_val dot_S256x128_S256x128_S256x256_1_1_0_0_n_n 128 rfl rfl d
  · funext b; apply Fin.ext
    match b with
    | ⟨0, _⟩ => rfl
    | ⟨1, _⟩ => exact contrEquiv1_symm_val dot_S256x128_S256x128_S256x256_1_1_0_0_n_n 128 rfl rfl d
  · have e1 : shapeCast S256x128 K shapeCasts_S1x1x256x128_S256x128 (ix2 a d) = K (ix4 0 0 a d) :=
      shapeCast_apply _ _ _ _ (by rw [Shape.rowMajor_val_four, Shape.rowMajor_val_two]; show ((0 * 1 + 0) * 256 + a.val) * 128 + d.val = a.val * 128 + d.val; omega)
    have e2 : shapeCast S256x128 x4 shapeCasts_S1x256x128_S256x128 (ix2 col d) = x4 (ix3 0 col d) :=
      shapeCast_apply _ _ _ _ (by rw [Shape.rowMajor_val_three, Shape.rowMajor_val_two]; show (0 * 256 + col.val) * 128 + d.val = col.val * 128 + d.val; omega)
    refine congrArg₂ (· * ·) ?_ ?_
    · exact congrArg cv e1
    · exact congrArg cv e2

/-- Two halves of 64 scores side by side, each scaled by its own factor. -/
theorem halves_apply (X : FVec Ideal S256x256 .f32) (o : ℕ) (ho : o ≤ 192) (s0 : S256x256.Slices ![o, 0] S64x128)
    (s1 : S256x256.Slices ![o, 128] S64x128) (c0 c1 : EReal) (a : Fin 64) (col : Fin 256) :
    concatenate S64x256 1 [⟨S64x128, mulf (F := Ideal) (φ := .f32) (extractStridedSlice S64x128 ![o, 0] X s0) (broadcast S64x128 c0)⟩,
      ⟨S64x128, mulf (F := Ideal) (φ := .f32) (extractStridedSlice S64x128 ![o, 128] X s1) (broadcast S64x128 c1)⟩]
      concatenates_S64x128_S64x128_S64x256_d1 (ix2 a col)
    = X (ix2 ⟨o + a.val, by have := a.isLt; omega⟩ col) * (if col.val < 128 then c0 else c1) := by
  have ha := a.isLt
  have hc := col.isLt
  by_cases h : col.val < 128
  · rw [if_pos h, concatenate_pair_apply_left (t := S64x256) (s₁ := S64x128) (s₂ := S64x128) (1 : Fin 2) _ _ _ (ix2 a col) rfl (ix2 a ⟨col.val, h⟩) (fun b => match b with | ⟨0, _⟩ => rfl | ⟨1, _⟩ => rfl), mulf_apply]
    refine congrArg₂ (· * ·) (extractStridedSlice_apply _ _ _ _ _ fun b => ?_) rfl
    match b with
    | ⟨0, _⟩ => rfl
    | ⟨1, _⟩ => show col.val = 0 + col.val; omega
  · rw [if_neg h, concatenate_pair_apply_right (t := S64x256) (s₁ := S64x128) (s₂ := S64x128) (1 : Fin 2) _ _ _ (ix2 a col) rfl rfl (ix2 a ⟨col.val - 128, by omega⟩)
      (fun b hb => match b, hb with | ⟨0, _⟩, _ => rfl | ⟨1, _⟩, hb => absurd rfl hb) (by show col.val - 128 + 128 = col.val; omega), mulf_apply]
    refine congrArg₂ (· * ·) (extractStridedSlice_apply _ _ _ _ _ fun b => ?_) rfl
    match b with
    | ⟨0, _⟩ => rfl
    | ⟨1, _⟩ => show col.val = 128 + (col.val - 128); omega

/-- A row of scores of a chunk below the diagonal. -/
theorem tileK_apply (x4 : Vec Ideal S1x256x128 .i8) (K : Vec Ideal S1x1x256x128 .i8) (c : Fin 2 → Fin 4 → Elt Ideal .f32)
    (r : Fin 4) (a : Fin 64) (col : Fin 256) :
    tileK x4 K c r.val (ix2 a col) = raw x4 K (ix2 ⟨64 * r.val + a.val, by have := a.isLt; have := r.isLt; omega⟩ col)
      * (if col.val < 128 then c 0 r * Scalars.lgE else c 1 r * Scalars.lgE) := by
  match r with
  | 0 =>
    show k1_pay10 _ _ _ _ _ = _
    unfold k1_pay10; rw [shapeCast_self]; unfold k1_pay9; rw [named_lgE]
    exact halves_apply (raw x4 K) 0 (by omega) _ _ _ _ a col
  | 1 =>
    show k1_pay13 _ _ _ _ = _
    unfold k1_pay13; rw [shapeCast_self]; unfold k1_pay12; rw [named_lgE]
    exact halves_apply (raw x4 K) 64 (by omega) _ _ _ _ a col
  | 2 =>
    show k1_pay18 _ _ _ _ _ = _
    unfold k1_pay18; rw [shapeCast_self]; unfold k1_pay17 k1_pay15 k1_pay16; rw [named_lgE]
    exact halves_apply (raw x4 K) 128 (by omega) _ _ _ _ a col
  | 3 =>
    show k1_pay41 _ _ _ _ = _
    unfold k1_pay41; rw [shapeCast_self]; unfold k1_pay40 k1_pay20 k1_pay21 k1_pay22; rw [named_lgE]
    exact halves_apply (raw x4 K) 192 (by omega) _ _ _ _ a col

/-- The mask of the diagonal chunk: a key past the row's token scores minus infinity. -/
theorem mask_apply (T : FVec Ideal S64x256 .f32) (o : ℕ) (ho : o ≤ 192) (a : Fin 64) (col : Fin 256) :
    select (cmpi .sle (addi (iota .tc S64x256 32 [0] iota_S64x256_d0_w32) (broadcast S64x256 (BitVec.ofNat 32 o)))
      (iota .tc S64x256 32 [1] iota_S64x256_d1_w32)) T (broadcast S64x256 ((⊥ : EReal) : Ideal .f32)) (ix2 a col)
    = if o + a.val ≤ col.val then T (ix2 a col) else ⊥ := by
  have ha := a.isLt
  have hc := col.isLt
  rw [select_apply]
  show Scalar.select (IntOp.cmpi .sle (iota .tc S64x256 32 [0] iota_S64x256_d0_w32 (ix2 a col) + BitVec.ofNat 32 o)
    (iota .tc S64x256 32 [1] iota_S64x256_d1_w32 (ix2 a col))) _ _ = _
  rw [iota_single_apply, iota_single_apply, ← BitVec.ofNat_add]
  show Scalar.select (IntOp.cmpi .sle (BitVec.ofNat 32 (a.val + o)) (BitVec.ofNat 32 col.val)) _ _ = _
  rw [select_sle (by omega) (by omega), Nat.add_comm]
  rfl

/-- A row of scores of the diagonal chunk. -/
theorem dtileK_apply (x4 : Vec Ideal S1x256x128 .i8) (K : Vec Ideal S1x1x256x128 .i8) (c : Fin 2 → Fin 4 → Elt Ideal .f32)
    (r : Fin 4) (a : Fin 64) (col : Fin 256) :
    dtileK x4 K c r.val (ix2 a col) = if 64 * r.val + a.val ≤ col.val then
      raw x4 K (ix2 ⟨64 * r.val + a.val, by have := a.isLt; have := r.isLt; omega⟩ col)
        * (if col.val < 128 then c 0 r * Scalars.lgE else c 1 r * Scalars.lgE) else ⊥ := by
  match r with
  | 0 =>
    show k1_pay50 _ _ _ _ _ = _
    unfold k1_pay50; rw [shapeCast_self]; unfold k1_pay49 k1_pay47 k1_pay48; rw [named_lgE, named_mask]
    refine (mask_apply _ 0 (by omega) a col).trans ?_
    rw [show k1_pay46 x4 K = raw x4 K from rfl]
    exact congrArg (ite _ · _) (halves_apply (raw x4 K) 0 (by omega) _ _ _ _ a col)
  | 1 =>
    show k1_pay54 _ _ _ _ = _
    unfold k1_pay54; rw [shapeCast_self]; unfold k1_pay53 k1_pay52; rw [named_lgE, named_mask]
    refine (mask_apply _ 64 (by omega) a col).trans ?_
    rw [show k1_pay46 x4 K = raw x4 K from rfl]
    exact congrArg (ite _ · _) (halves_apply (raw x4 K) 64 (by omega) _ _ _ _ a col)
  | 2 =>
    show k1_pay58 _ _ _ _ _ = _
    unfold k1_pay58; rw [shapeCast_self]; unfold k1_pay57 k1_pay56 Body.lgE; rw [named_lgE, named_mask]
    refine (mask_apply _ 128 (by omega) a col).trans ?_
    rw [show k1_pay46 x4 K = raw x4 K from rfl]
    exact congrArg (ite _ · _) (halves_apply (raw x4 K) 128 (by omega) _ _ _ _ a col)
  | 3 =>
    show k1_pay62 _ _ _ = _
    unfold k1_pay62; rw [shapeCast_self]; unfold k1_pay61 k1_pay60; rw [named_lgE, named_mask]
    refine (mask_apply _ 192 (by omega) a col).trans ?_
    rw [show k1_pay46 x4 K = raw x4 K from rfl]
    exact congrArg (ite _ · _) (halves_apply (raw x4 K) 192 (by omega) _ _ _ _ a col)

/-- The maximum of 64 rows eight at a time has the bounds all of them have. -/
theorem grp_le (T : FVec Ideal S64x256 .f32) (hφ : FKind.Formats .f32) (hacc : 0xFF800000#32 = FKind.maximumf.neutral .f32 hφ)
    (s : Fin 8) (col : Fin 256) (B : EReal) :
    multiReduction .maximumf [0] S8x256 (shapeCast S8x8x256 T shapeCasts_S64x256_S8x8x256) 0xFF800000#32 reduces_S8x8x256_S8x256 hφ hacc (ix2 s col) ≤ B
      ↔ ∀ u : Fin 8, T (ix2 ⟨8 * u.val + s.val, by have := u.isLt; have := s.isLt; omega⟩ col) ≤ B := by
  rw [max_le_single]
  refine forall_congr' fun (u : Fin 8) => ?_
  rw [shapeCast_apply T _ _ (ix2 ⟨8 * u.val + s.val, by have := u.isLt; have := s.isLt; omega⟩ col) (by
    rw [Shape.rowMajor_val_three, Shape.rowMajor_val_two]
    show (8 * u.val + s.val) * 256 + col.val = (u.val * 8 + s.val) * 256 + col.val
    omega)]

/-- The bounds of the running maximum after a chunk below the diagonal. -/
theorem mStepK_le (x4 : Vec Ideal S1x256x128 .i8) (K : Vec Ideal S1x1x256x128 .i8) (c : Fin 2 → Fin 4 → Elt Ideal .f32)
    (m : FVec Ideal S8x256 .f32) (s : Fin 8) (col : Fin 256) (B : EReal) :
    mStepK x4 K c m (ix2 s col) ≤ B ↔ m (ix2 s col) ≤ B ∧
      ∀ (r : Fin 4) (u : Fin 8), tileK x4 K c r.val (ix2 ⟨8 * u.val + s.val, by have := u.isLt; have := s.isLt; omega⟩ col) ≤ B := by
  unfold mStepK k1_pay42 k1_pay19 k1_pay14 k1_pay11
  rw [shapeCast_self]
  simp only [maximumf_apply, max_le_iff]
  have t0 : tileK x4 K c 0 = k1_pay9 (k1_pay38 x4) K (c 0 0) (c 1 0) := by show k1_pay10 _ _ _ _ = _; unfold k1_pay10; rw [shapeCast_self]
  have t1 : tileK x4 K c 1 = k1_pay12 (raw x4 K) (c 0 1) (c 1 1) := by show k1_pay13 _ _ _ = _; unfold k1_pay13; rw [shapeCast_self]
  have t2 : tileK x4 K c 2 = k1_pay17 (raw x4 K) (k1_pay15 (raw x4 K)) (k1_pay16 (c 0 2)) (c 1 2) := by show k1_pay18 _ _ _ _ = _; unfold k1_pay18; rw [shapeCast_self]
  have t3 : tileK x4 K c 3 = k1_pay40 (k1_pay20 (raw x4 K) (c 0 3)) (k1_pay21 (raw x4 K)) (k1_pay22 (c 1 3)) := by show k1_pay41 _ _ _ = _; unfold k1_pay41; rw [shapeCast_self]
  rw [← t0, ← t1, ← t2, ← t3]
  refine (and_congr (and_congr (and_congr (and_congr Iff.rfl (grp_le _ _ _ s col B)) (grp_le _ _ _ s col B)) (grp_le _ _ _ s col B))
    (grp_le _ _ _ s col B)).trans ?_
  constructor
  · rintro ⟨⟨⟨⟨hm, h0⟩, h1⟩, h2⟩, h3⟩
    refine ⟨hm, fun r u => ?_⟩
    match r with
    | 0 => exact h0 u
    | 1 => exact h1 u
    | 2 => exact h2 u
    | 3 => exact h3 u
  · rintro ⟨hm, h⟩
    exact ⟨⟨⟨⟨hm, h 0⟩, h 1⟩, h 2⟩, h 3⟩

/-- The bounds of the maximum after the diagonal chunk. -/
theorem mDiagK_le (x4 : Vec Ideal S1x256x128 .i8) (K : Vec Ideal S1x1x256x128 .i8) (c : Fin 2 → Fin 4 → Elt Ideal .f32)
    (m : FVec Ideal S8x256 .f32) (s : Fin 8) (col : Fin 256) (B : EReal) :
    mDiagK x4 K c m (ix2 s col) ≤ B ↔ m (ix2 s col) ≤ B ∧
      ∀ (r : Fin 4) (u : Fin 8), dtileK x4 K c r.val (ix2 ⟨8 * u.val + s.val, by have := u.isLt; have := s.isLt; omega⟩ col) ≤ B := by
  unfold mDiagK k1_pay63 k1_pay59 k1_pay55 k1_pay51
  rw [shapeCast_self]
  simp only [maximumf_apply, max_le_iff]
  have t0 : dtileK x4 K c 0 = k1_pay49 (k1_pay46 x4 K) (k1_pay47 x4 K) (k1_pay48 (c 0 0)) (c 1 0) := by show k1_pay50 _ _ _ _ = _; unfold k1_pay50; rw [shapeCast_self]
  have t1 : dtileK x4 K c 1 = k1_pay53 (k1_pay46 x4 K) (k1_pay52 (k1_pay46 x4 K) (c 0 1)) (c 1 1) := by show k1_pay54 _ _ _ = _; unfold k1_pay54; rw [shapeCast_self]
  have t2 : dtileK x4 K c 2 = k1_pay57 (k1_pay46 x4 K) (k1_pay56 (k1_pay46 x4 K) (c 0 2)) (c 1 2) Body.lgE := by show k1_pay58 _ _ _ _ = _; unfold k1_pay58; rw [shapeCast_self]
  have t3 : dtileK x4 K c 3 = k1_pay61 (k1_pay60 (k1_pay46 x4 K) (c 0 3) (c 1 3)) (iota .tc S64x256 32 [0] iota_S64x256_d0_w32) := by show k1_pay62 _ _ = _; unfold k1_pay62; rw [shapeCast_self]
  rw [← t0, ← t1, ← t2, ← t3]
  refine (and_congr (and_congr (and_congr (and_congr Iff.rfl (grp_le _ _ _ s col B)) (grp_le _ _ _ s col B)) (grp_le _ _ _ s col B))
    (grp_le _ _ _ s col B)).trans ?_
  constructor
  · rintro ⟨⟨⟨⟨hm, h0⟩, h1⟩, h2⟩, h3⟩
    refine ⟨hm, fun r u => ?_⟩
    match r with
    | 0 => exact h0 u
    | 1 => exact h1 u
    | 2 => exact h2 u
    | 3 => exact h3 u
  · rintro ⟨hm, h⟩
    exact ⟨⟨⟨⟨hm, h 0⟩, h 1⟩, h 2⟩, h 3⟩

end Cert.KernelIdeal.Attn
-- ==== Proof.IdlRows.lean ====
module

public import proofs.«01_k».proof.Proof.IdlTiles

@[expose] public section

set_option maxRecDepth 16384
set_option maxHeartbeats 1000000

noncomputable section

/-! One row of the attention block, at the extended reals: the scores kept between the two passes, their maximum, and the two
    sums of the second pass as sums over the keys. -/

namespace Cert.KernelIdeal.Attn

open Idealize.ShloMosaic Idealize.ShloMosaic.ValueIdx
open Cert.KernelIdeal Cert.KernelIdeal.Gen Cert.KernelIdeal.Body Cert.Reads

variable (x4 : Vec Ideal S1x256x128 .i8) (x5 : Vec Ideal S1x1x1x2x120 .f32) (x6 : Vec Ideal S1x1x7680x128 .i8)
  (x7 : Vec Ideal S1x1x128x7680 .fp8e4m3) (x8 : Vec Ideal S1x1x1x128 .f32)

/-- The score kept for row `col` and key `k`. -/
def U (i : ℕ) (col : Fin 256) (k : ℕ) : EReal := sU x4 x5 x6 i (ix2 ⟨k % 7680, Nat.mod_lt _ (by decide)⟩ col)

/-- The integer score of row `col` against key `k`. -/
def R (col : Fin 256) (k : ℕ) : EReal :=
  ∑ d : Fin 128, cv (x6 (ix4 0 0 ⟨k % 7680, Nat.mod_lt _ (by decide)⟩ d)) * cv (x4 (ix3 0 col d))

/-- The scale of row `col` against key `k`. -/
def cc (col : Fin 256) (k : ℕ) : EReal := cAt x5 (if col.val < 128 then 0 else 1) (k / 64)

/-- A key number cut into its chunk, its group of 64 and its place there. -/
theorem split_key {k i : ℕ} (hk : k < 256 * (i + 1)) : ∃ j ≤ i, ∃ r : Fin 4, ∃ a : Fin 64, k = 256 * j + 64 * r.val + a.val :=
  ⟨k / 256, by omega, ⟨k % 256 / 64, by omega⟩, ⟨k % 64, by omega⟩, by show k = 256 * (k / 256) + 64 * (k % 256 / 64) + k % 64; omega⟩

/-- The kept score, from the chunk's stored rows. -/
theorem U_tile {i j : ℕ} (hi : i < 30) (hj : j ≤ i) (r : Fin 4) (a : Fin 64) (col : Fin 256) :
    U x4 x5 x6 i col (256 * j + 64 * r.val + a.val)
      = (if j < i then tile x4 x5 x6 j r.val else dtile x4 x5 x6 i r.val) (ix2 a col) := by
  have hr := r.isLt
  have ha := a.isLt
  have e : (256 * j + 64 * r.val + a.val) % 7680 = 256 * j + 64 * r.val + a.val := Nat.mod_eq_of_lt (by omega)
  have e1 : (256 * j + 64 * r.val + a.val) / 256 = j := by omega
  have e2 : (256 * j + 64 * r.val + a.val) % 256 / 64 = r.val := by omega
  have e3 : (256 * j + 64 * r.val + a.val) % 64 = a.val := by omega
  have key : ∀ n : Fin 7680, n.val = 256 * j + 64 * r.val + a.val → sU x4 x5 x6 i (ix2 n col)
      = (if j < i then tile x4 x5 x6 j r.val else dtile x4 x5 x6 i r.val) (ix2 a col) := by
    intro n hn
    show (if n.val / 256 < i then tile x4 x5 x6 (n.val / 256) (n.val % 256 / 64) else dtile x4 x5 x6 i (n.val % 256 / 64))
      (ix2 ⟨n.val % 64, _⟩ ⟨col.val, _⟩) = _
    have q : (⟨n.val % 64, Nat.mod_lt _ (by decide)⟩ : Fin 64) = a := Fin.ext (by show n.val % 64 = a.val; rw [hn]; exact e3)
    rw [q, hn, e1, e2]
  exact key _ e

/-- The kept score as a product of the integer score, the scale and the base change, with keys past the row's token at minus infinity. -/
theorem U_val {i : ℕ} (hi : i < 30) (col : Fin 256) {k : ℕ} (hk : k < 256 * (i + 1)) :
    U x4 x5 x6 i col k = if k ≤ 256 * i + col.val then R x4 x6 col k * (cc x5 col k * Scalars.lgE) else ⊥ := by
  obtain ⟨j, hj, r, a, rfl⟩ := split_key hk
  have hr := r.isLt
  have ha := a.isLt
  rw [U_tile x4 x5 x6 hi hj]
  have hraw : raw x4 (kBlk x6 j) (ix2 ⟨64 * r.val + a.val, by omega⟩ col) = R x4 x6 col (256 * j + 64 * r.val + a.val) := by
    rw [raw_apply]
    unfold R
    refine Finset.sum_congr rfl fun d _ => congrArg (cv · * _) ?_
    refine congrArg x6 (funext fun b => Fin.ext ?_)
    match b with
    | ⟨0, _⟩ => rfl
    | ⟨1, _⟩ => rfl
    | ⟨2, _⟩ => show (256 * j + (64 * r.val + a.val)) % 7680 = _; rw [← Nat.add_assoc]
    | ⟨3, _⟩ => rfl
  have hcc : (if col.val < 128 then cBlk x5 j 0 r * Scalars.lgE else cBlk x5 j 1 r * Scalars.lgE) = cc x5 col (256 * j + 64 * r.val + a.val) * Scalars.lgE := by
    unfold cc cBlk
    rw [show (256 * j + 64 * r.val + a.val) / 64 = 4 * j + r.val by omega]
    split <;> rfl
  by_cases h : j < i
  · rw [if_pos h, if_pos (by omega)]
    unfold tile
    rw [tileK_apply, hraw, hcc]
  · obtain rfl : j = i := by omega
    rw [if_neg h]
    unfold dtile
    rw [dtileK_apply, hraw, hcc]
    by_cases h' : 64 * r.val + a.val ≤ col.val
    · rw [if_pos h', if_pos (by omega)]
    · rw [if_neg h', if_neg (by omega)]

/-- The bounds of the running maximum before chunk `n`. -/
theorem mAt_le (s : Fin 8) (col : Fin 256) (B : EReal) : ∀ n, mAt x4 x5 x6 n (ix2 s col) ≤ B ↔
    ∀ j < n, ∀ (r : Fin 4) (u : Fin 8), tile x4 x5 x6 j r.val (ix2 ⟨8 * u.val + s.val, by have := u.isLt; have := s.isLt; omega⟩ col) ≤ B
  | 0 => by
    refine ⟨fun _ j hj => absurd hj (Nat.not_lt_zero j), fun _ => ?_⟩
    show (k1_pay39 (F := Ideal) (ix2 s col) : EReal) ≤ B
    unfold k1_pay39
    rw [shapeCast_self]
    show Ideal.ofBits .f32 0xFF800000#32 ≤ B
    rw [Scalars.bits_bot]; exact bot_le
  | n + 1 => by
    show mStepK x4 (kBlk x6 n) (cBlk x5 n) (mAt x4 x5 x6 n) (ix2 s col) ≤ B ↔ _
    rw [mStepK_le, mAt_le s col B n]
    constructor
    · rintro ⟨h1, h2⟩ j hj
      rcases Nat.lt_succ_iff_lt_or_eq.mp hj with h | rfl
      · exact h1 j h
      · exact h2
    · exact fun h => ⟨fun j hj => h j (by omega), h n (by omega)⟩

/-- The row's maximum, in base two. -/
def mx (i : ℕ) (col : Fin 256) : EReal :=
  multiReduction .maximumf [0] S256 (mDiagK x4 (kBlk x6 i) (cBlk x5 i) (mAt x4 x5 x6 i)) 0xFF800000#32 reduces_S8x256_S256 (.inl rfl) rfl (ix1 col)

theorem lift_8 (col : Fin 256) (s : Fin 8) : (reduces_S8x256_S256).lift (ix1 col) s = ix2 s col := by
  funext b
  match b with
  | ⟨0, _⟩ => rfl
  | ⟨1, _⟩ => rfl

/-- It is the least bound of the kept scores. -/
theorem mx_le {i : ℕ} (hi : i < 30) (col : Fin 256) (B : EReal) :
    mx x4 x5 x6 i col ≤ B ↔ ∀ k < 256 * (i + 1), U x4 x5 x6 i col k ≤ B := by
  refine (max_le_single _ reduces_S8x256_S256 _ _ (ix1 col) B).trans ?_
  have e : (∀ s : Fin 8, mDiagK x4 (kBlk x6 i) (cBlk x5 i) (mAt x4 x5 x6 i) (reduces_S8x256_S256.lift (ix1 col) s) ≤ B) ↔
      ∀ k < 256 * (i + 1), U x4 x5 x6 i col k ≤ B := by
    constructor
    · intro h k hk
      obtain ⟨j, hj, r, a, rfl⟩ := split_key hk
      have ha := a.isLt
      rw [U_tile x4 x5 x6 hi hj]
      have hs := h ⟨a.val % 8, by omega⟩
      rw [lift_8, mDiagK_le, mAt_le] at hs
      have q : (⟨8 * (⟨a.val / 8, by omega⟩ : Fin 8).val + (⟨a.val % 8, by omega⟩ : Fin 8).val, by
        show 8 * (a.val / 8) + a.val % 8 < 64; omega⟩ : Fin 64) = a := Fin.ext (by show 8 * (a.val / 8) + a.val % 8 = a.val; omega)
      by_cases h' : j < i
      · have w := hs.1 j h' r ⟨a.val / 8, by omega⟩
        rw [q] at w; rw [if_pos h']; exact w
      · have w := hs.2 r ⟨a.val / 8, by omega⟩
        rw [q] at w; rw [if_neg h']; exact w
    · intro h s
      have hs := s.isLt
      rw [lift_8, mDiagK_le, mAt_le]
      constructor
      · intro j hj r u
        have := u.isLt
        have hr := r.isLt
        have w := h (256 * j + 64 * r.val + (8 * u.val + s.val)) (by omega)
        have t := U_tile x4 x5 x6 hi (Nat.le_of_lt hj) r ⟨8 * u.val + s.val, by omega⟩ col
        rw [if_pos hj] at t
        exact (le_of_eq t.symm).trans w
      · intro r u
        have := u.isLt
        have hr := r.isLt
        have w := h (256 * i + 64 * r.val + (8 * u.val + s.val)) (by omega)
        have t := U_tile x4 x5 x6 hi (Nat.le_refl i) r ⟨8 * u.val + s.val, by omega⟩ col
        rw [if_neg (Nat.lt_irrefl i)] at t
        exact (le_of_eq t.symm).trans w
  exact e

/-- The shift of the exponentials. -/
theorem mFin_apply (i : ℕ) (s : Fin 8) (col : Fin 256) : mFin x4 x5 x6 i (ix2 s col) = mx x4 x5 x6 i col - ((8 : ℝ) : EReal) := by
  unfold mFin k1_pay64
  rw [shapeCast_self, shapeCast_self]
  refine (broadcastTo_apply _ _ (ix2 s col) (ix2 (0 : Fin 1) col) fun a => match a with | ⟨0, _⟩ => rfl | ⟨1, _⟩ => rfl).trans ?_
  rw [subf_apply]
  refine congrArg₂ (· - ·) (shapeCast_apply _ _ _ (ix1 col) ?_) ?_
  · rw [Shape.rowMajor_val_one, Shape.rowMajor_val_two]; show col.val = 0 * 256 + col.val; omega
  · exact Scalars.bits_8

/-- One exponential of the second pass. -/
def E (i : ℕ) (col : Fin 256) (k : ℕ) : EReal := Ideal.exp2 (U x4 x5 x6 i col k - (mx x4 x5 x6 i col - ((8 : ℝ) : EReal)))

theorem pay1_apply (i j : ℕ) (u : Fin 32) (s : Fin 8) (col : Fin 256) :
    k1_pay1 (sCh x4 x5 x6 i j) (mFin x4 x5 x6 i) (ix3 u s col) = E x4 x5 x6 i col (256 * j + (8 * u.val + s.val)) := by
  have := u.isLt
  have := s.isLt
  unfold k1_pay1
  show Ideal.exp2 (shapeCast S32x8x256 (sCh x4 x5 x6 i j) shapeCasts_S256x256_S32x8x256 (ix3 u s col)
    - broadcastTo S32x8x256 (shapeCast S1x8x256 (mFin x4 x5 x6 i) shapeCasts_S8x256_S1x8x256) broadcasts_S1x8x256_S32x8x256 (ix3 u s col)) = _
  rw [shapeCast_apply _ _ _ (ix2 ⟨8 * u.val + s.val, by omega⟩ col) (by
      rw [Shape.rowMajor_val_two, Shape.rowMajor_val_three]; show (8 * u.val + s.val) * 256 + col.val = (u.val * 8 + s.val) * 256 + col.val; omega),
    broadcastTo_apply _ _ (ix3 u s col) (ix3 (0 : Fin 1) s col) (fun a => match a with | ⟨0, _⟩ => rfl | ⟨1, _⟩ => rfl | ⟨2, _⟩ => rfl),
    shapeCast_apply _ _ _ (ix2 s col) (by
      rw [Shape.rowMajor_val_two, Shape.rowMajor_val_three]; show s.val * 256 + col.val = (0 * 8 + s.val) * 256 + col.val; omega), mFin_apply]
  rfl

theorem lift_32 (s : Fin 8) (col : Fin 256) (u : Fin 32) : (reduces_S32x8x256_S8x256).lift (ix2 s col) u = ix3 u s col := by
  funext b
  match b with
  | ⟨0, _⟩ => rfl
  | ⟨1, _⟩ => rfl
  | ⟨2, _⟩ => rfl

/-- The running sums of the exponentials. -/
theorem lAt_apply (i : ℕ) (s : Fin 8) (col : Fin 256) : ∀ n, lAt x4 x5 x6 i n (ix2 s col)
    = ∑ j ∈ Finset.range n, ∑ u : Fin 32, E x4 x5 x6 i col (256 * j + (8 * u.val + s.val))
  | 0 => by
    show k1_pay65 (ix2 s col) = _
    unfold k1_pay65
    rw [shapeCast_self]
    exact Ideal.ofBits_zero_f32
  | n + 1 => by
    show k1_pay2 (sCh x4 x5 x6 i n) (mFin x4 x5 x6 i) (lAt x4 x5 x6 i n) (ix2 s col) = _
    unfold k1_pay2
    rw [shapeCast_self, addf_apply, lAt_apply i s col n, Finset.sum_range_succ]
    refine congrArg (_ + ·) ((Ideal.multiReduction_add_single _ _ reduces_S32x8x256_S8x256 _ _ (ix2 s col)).trans ?_)
    exact Finset.sum_congr rfl fun (u : Fin 32) _ => (congrArg _ (lift_32 s col u)).trans (pay1_apply x4 x5 x6 i n u s col)

/-- The value of channel `n` at key `k`. -/
def vAt (n : Fin 128) (k : ℕ) : EReal := x7 (ix4 0 0 n ⟨k % 7680, Nat.mod_lt _ (by decide)⟩)

/-- The running weighted sums of the values. -/
theorem accAt_apply (i : ℕ) (n : Fin 128) (col : Fin 256) : ∀ c, accAt x4 x5 x6 x7 i c (ix2 n col)
    = ∑ j ∈ Finset.range c, ∑ a : Fin 256, vAt x7 n (256 * j + a.val) * Scalars.clip (E x4 x5 x6 i col (256 * j + a.val))
  | 0 => by
    show k1_pay66 (ix2 n col) = _
    unfold k1_pay66
    rw [shapeCast_self]
    exact Ideal.ofBits_zero_f32
  | c + 1 => by
    show k1_pay3 (sCh x4 x5 x6 i c) (mFin x4 x5 x6 i) (vBlk x7 c) (accAt x4 x5 x6 x7 i c) (ix2 n col) = _
    unfold k1_pay3
    rw [shapeCast_self, addf_apply, accAt_apply i n col c, Finset.sum_range_succ]
    refine congrArg (_ + ·) ((mm_apply dot_S128x256_S256x256_S128x256_1_0_0_1_n_n 256 rfl rfl none _ _ (ix2 n col) (fun a => ix2 n a) (fun a => ix2 a col)
      (fun a => ?_) (fun a => ?_)).trans (Finset.sum_congr rfl fun a _ => ?_))
    · funext b; apply Fin.ext
      match b with
      | ⟨0, _⟩ => rfl
      | ⟨1, _⟩ => exact contrEquiv1_symm_val dot_S128x256_S256x256_S128x256_1_0_0_1_n_n 256 rfl rfl a
    · funext b; apply Fin.ext
      match b with
      | ⟨0, _⟩ => exact contrEquiv1_symm_val dot_S128x256_S256x256_S128x256_1_0_0_1_n_n 256 rfl rfl a
      | ⟨1, _⟩ => rfl
    · have ha := a.isLt
      refine congrArg₂ (· * ·) ?_ ?_
      · exact shapeCast_apply (vBlk x7 c) _ _ (ix4 0 0 n a) (by
          rw [Shape.rowMajor_val_two, Shape.rowMajor_val_four]; show ((0 * 1 + 0) * 128 + n.val) * 256 + a.val = n.val * 256 + a.val; omega)
      · rw [truncf_apply, shapeCast_apply _ _ _ (ix3 ⟨a.val / 8, by omega⟩ ⟨a.val % 8, by omega⟩ col) (by
          rw [Shape.rowMajor_val_two, Shape.rowMajor_val_three]
          show (a.val / 8 * 8 + a.val % 8) * 256 + col.val = a.val * 256 + col.val; omega), minimumf_apply, maximumf_apply, pay1_apply]
        show min (Ideal.ofBits .f32 0x43E00000#32) (max (Ideal.ofBits .f32 0x00000000#32) (E x4 x5 x6 i col (256 * c + (8 * (a.val / 8) + a.val % 8)))) = _
        rw [Scalars.bits_448, Ideal.ofBits_zero_f32, show 8 * (a.val / 8) + a.val % 8 = a.val by omega]
        rfl

/-- One element of the block the call writes: the two sums over the keys up to the chunk's end, divided, times the value scale. -/
theorem attnOut_apply (i : ℕ) (col : Fin 256) (n : Fin 128) : attnOut i x4 x5 x6 x7 x8 (ix3 0 col n)
    = Ideal.div (∑ k ∈ Finset.range (256 * (i + 1)), vAt x7 n k * Scalars.clip (E x4 x5 x6 i col k))
        (∑ k ∈ Finset.range (256 * (i + 1)), E x4 x5 x6 i col k) * x8 (ix4 0 0 0 n) := by
  unfold attnOut k1_pay7
  rw [shapeCast_apply _ _ _ (ix2 col n) (by
    rw [Shape.rowMajor_val_two, Shape.rowMajor_val_three]; show col.val * 128 + n.val = (0 * 256 + col.val) * 128 + n.val; omega), truncf_apply, mulf_apply]
  refine congrArg₂ (· * ·) ?_ ?_
  · rw [transpose_apply _ _ _ _ (ix2 n col) (fun b => match b with | ⟨0, _⟩ => rfl | ⟨1, _⟩ => rfl), divf_apply, accAt_apply]
    refine congrArg₂ Ideal.div ?_ ?_
    · rw [Scalars.sum_range_mul]
      exact Finset.sum_congr rfl fun j _ => (Finset.sum_range (fun a => vAt x7 n (256 * j + a) * Scalars.clip (E x4 x5 x6 i col (256 * j + a)))).symm
    · refine (broadcastTo_apply _ _ (ix2 n col) (ix2 (0 : Fin 1) col) fun a => match a with | ⟨0, _⟩ => rfl | ⟨1, _⟩ => rfl).trans ?_
      rw [shapeCast_apply _ _ _ (ix1 col) (by rw [Shape.rowMajor_val_one, Shape.rowMajor_val_two]; show col.val = 0 * 256 + col.val; omega)]
      refine (Ideal.multiReduction_add_single _ _ reduces_S8x256_S256 _ _ (ix1 col)).trans ?_
      refine (Finset.sum_congr rfl fun (s : Fin 8) _ => (congrArg _ (lift_8 col s)).trans (lAt_apply x4 x5 x6 i s col (i + 1))).trans ?_
      show ∑ s : Fin 8, ∑ j ∈ Finset.range (i + 1), ∑ u : Fin 32, E x4 x5 x6 i col (256 * j + (8 * u.val + s.val)) = _
      rw [Finset.sum_comm, Scalars.sum_range_mul]
      refine Finset.sum_congr rfl fun j _ => ?_
      rw [Finset.sum_comm, show (256 : ℕ) = 8 * 32 from rfl, Scalars.sum_range_mul (fun a => E x4 x5 x6 i col (8 * 32 * j + a)) 8 32, ← Fin.sum_univ_eq_sum_range
        (fun u => ∑ s ∈ Finset.range 8, E x4 x5 x6 i col (8 * 32 * j + (8 * u + s)))]
      refine Finset.sum_congr rfl fun u _ => ?_
      exact Fin.sum_univ_eq_sum_range (fun s => E x4 x5 x6 i col (8 * 32 * j + (8 * u.val + s))) 8
  · refine (broadcastTo_apply _ _ (ix2 col n) (ix2 (0 : Fin 1) n) fun a => match a with | ⟨0, _⟩ => rfl | ⟨1, _⟩ => rfl).trans ?_
    exact shapeCast_apply _ _ _ (ix4 0 0 0 n) (by
      rw [Shape.rowMajor_val_two, Shape.rowMajor_val_four]; show ((0 * 1 + 0) * 1 + 0) * 128 + n.val = 0 * 128 + n.val; omega)

end Cert.KernelIdeal.Attn
-- ==== Proof.IdlFinal.lean ====
module

public import proofs.«01_k».proof.Proof.Quantize
public import proofs.«01_k».proof.Proof.IdlRows

@[expose] public section

set_option maxRecDepth 16384
set_option maxHeartbeats 2000000

noncomputable section

/-! One element of the second call's result is one element of the plain attention of `Cert.Quantize`, whenever the blocks the
    call reads hold what the plain attention reads. -/

namespace Cert.KernelIdeal.Attn

open Idealize.ShloMosaic Idealize.ShloMosaic.ValueIdx
open Cert.KernelIdeal Cert.KernelIdeal.Gen Cert.KernelIdeal.Body Cert.Reads Cert.Quantize

/-- Every number is another one times `1 / log 2`. -/
theorem exists_mul_lgE (x : EReal) : ∃ z : EReal, z * Scalars.lgE = x := by
  induction x with
  | bot => exact ⟨⊥, Scalars.bot_mul_lgE⟩
  | top => exact ⟨⊤, Scalars.top_mul_lgE⟩
  | coe r => exact ⟨((r * Real.log 2 : ℝ) : EReal), by
      unfold Scalars.lgE
      rw [← EReal.coe_mul, mul_assoc, mul_inv_cancel₀ Scalars.log2_pos.ne', mul_one]⟩

variable (x4 : Vec Ideal S1x256x128 .i8) (x5 : Vec Ideal S1x1x1x2x120 .f32) (x6 : Vec Ideal S1x1x7680x128 .i8)
  (x7 : Vec Ideal S1x1x128x7680 .fp8e4m3) (x8 : Vec Ideal S1x1x1x128 .f32)
  (a0 : (⟨3, ![3, 7680, 5120]⟩ : Shape).Idx → EReal) (a1 : (⟨4, ![3, 8, 7680, 128]⟩ : Shape).Idx → BitVec 8)
  (a2 : (⟨3, ![3, 8, 120]⟩ : Shape).Idx → EReal) (a3 : (⟨4, ![3, 8, 128, 7680]⟩ : Shape).Idx → EReal)
  (a4 : (⟨3, ![3, 8, 128]⟩ : Shape).Idx → EReal) (b h g i : ℕ) (hi : i < 30) (col : Fin 256)

include hi in
/-- The kept scores are the plain scores times `1 / log 2`. -/
theorem U_eq (h4 : ∀ d : Fin 128, x4 (ix3 0 col d) = QC a0 b (256 * i + col.val) (128 * (h * 5 + g) + d.val))
    (h5 : ∀ n < 120, cAt x5 (if col.val < 128 then 0 else 1) n = QS a0 b ((256 * i + col.val) / 128) (h * 5 + g) * rd3 a2 b h n)
    (h6 : ∀ (k : Fin 7680) (d : Fin 128), x6 (ix4 0 0 k d) = rd4 a1 b h k.val d.val)
    {k : ℕ} (hk : k < 256 * (i + 1)) : U x4 x5 x6 i col k = S a0 a1 a2 b h g (256 * i + col.val) k * Scalars.lgE := by
  rw [U_val x4 x5 x6 hi col hk]
  unfold S
  by_cases hc : k ≤ 256 * i + col.val
  · rw [if_pos hc, if_pos hc]
    have hR : R x4 x6 col k = raw a0 a1 b h g (256 * i + col.val) k := by
      refine Finset.sum_congr rfl fun d _ => ?_
      rw [h4, h6, mul_comm]
      refine congrArg₂ (· * ·) rfl (congrArg cv ?_)
      show rd4 a1 b h (k % 7680) d.val = _
      rw [Nat.mod_eq_of_lt (by omega : k < 7680)]
    have hcc : cc x5 col k = QS a0 b ((256 * i + col.val) / 128) (h * 5 + g) * rd3 a2 b h (k / 64) := h5 (k / 64) (by omega)
    rw [hR, hcc, mul_assoc, mul_assoc, mul_assoc]
  · rw [if_neg hc, if_neg hc, Scalars.bot_mul_lgE]

include hi in
/-- One element of the result. -/
theorem attn_eq (n : Fin 128) (MM : EReal)
    (h4 : ∀ d : Fin 128, x4 (ix3 0 col d) = QC a0 b (256 * i + col.val) (128 * (h * 5 + g) + d.val))
    (h5 : ∀ n < 120, cAt x5 (if col.val < 128 then 0 else 1) n = QS a0 b ((256 * i + col.val) / 128) (h * 5 + g) * rd3 a2 b h n)
    (h6 : ∀ (k : Fin 7680) (d : Fin 128), x6 (ix4 0 0 k d) = rd4 a1 b h k.val d.val)
    (h7 : ∀ k : Fin 7680, x7 (ix4 0 0 n k) = rd4 a3 b h n.val k.val)
    (h8 : x8 (ix4 0 0 0 n) = rd3 a4 b h n.val)
    (hM : ∀ B, MM ≤ B ↔ ∀ k < 7680, S a0 a1 a2 b h g (256 * i + col.val) k ≤ B) :
    attnOut i x4 x5 x6 x7 x8 (ix3 0 col n) = attn a0 a1 a2 a3 a4 b h g (256 * i + col.val) n.val MM := by
  have hcol := col.isLt
  have hU : ∀ k, k < 256 * (i + 1) → U x4 x5 x6 i col k = S a0 a1 a2 b h g (256 * i + col.val) k * Scalars.lgE :=
    fun k hk => U_eq x4 x5 x6 a0 a1 a2 b h g i hi col h4 h5 h6 hk
  have hbot : ∀ k, ¬ k ≤ 256 * i + col.val → S a0 a1 a2 b h g (256 * i + col.val) k = ⊥ := fun k hk => by
    unfold S
    exact if_neg hk
  have hS : ∀ k, S a0 a1 a2 b h g (256 * i + col.val) k ≤ MM := fun k => by
    by_cases hk : k ≤ 256 * i + col.val
    · exact (hM MM).mp le_rfl k (by omega)
    · rw [hbot k hk]; exact bot_le
  have hm : mx x4 x5 x6 i col = MM * Scalars.lgE := by
    refine le_antisymm ((mx_le x4 x5 x6 hi col _).mpr fun k hk => ?_) ?_
    · rw [hU k hk]; exact Scalars.mul_lgE_le.mpr (hS k)
    · obtain ⟨z, hz⟩ := exists_mul_lgE (mx x4 x5 x6 i col)
      have hle := (mx_le x4 x5 x6 hi col (z * Scalars.lgE)).mp (le_of_eq hz.symm)
      rw [← hz]
      refine Scalars.mul_lgE_le.mpr ((hM z).mpr fun k _ => ?_)
      by_cases hk : k ≤ 256 * i + col.val
      · have w := hle k (by omega)
        rw [hU k (by omega)] at w
        exact Scalars.mul_lgE_le.mp w
      · rw [hbot k hk]; exact bot_le
  have hE : ∀ k ∈ Finset.range (256 * (i + 1)), E x4 x5 x6 i col k
      = Ideal.exp2 (S a0 a1 a2 b h g (256 * i + col.val) k * Scalars.lgE - (mx x4 x5 x6 i col - ((8 : ℝ) : EReal))) := fun k hk => by
    unfold E
    rw [hU k (Finset.mem_range.mp hk)]
  have hv : ∀ k ∈ Finset.range (256 * (i + 1)), vAt x7 n k = rd4 a3 b h n.val k := fun k hk => by
    have := Finset.mem_range.mp hk
    refine (h7 _).trans ?_
    show rd4 a3 b h n.val (k % 7680) = _
    rw [Nat.mod_eq_of_lt (by omega : k < 7680)]
  rw [attnOut_apply, h8, Finset.sum_congr rfl hE, Finset.sum_congr rfl fun k hk => congrArg₂ (fun p e => p * Scalars.clip e) (hv k hk) (hE k hk)]
  refine congrArg (· * rd3 a4 b h n.val) ?_
  exact Scalars.row_eq (Finset.range 7680) (Finset.range (256 * (i + 1)))
    (fun k hk => Finset.mem_range.mpr (by have := Finset.mem_range.mp hk; omega)) _ (fun k => rd4 a3 b h n.val k) MM _ hS hm
    fun k _ hk => hbot k (by have := mt Finset.mem_range.mpr hk; omega)

end Cert.KernelIdeal.Attn

end
-- ==== Proof.RefQuant.lean ====
module

public import proofs.«01_k».proof.Proof.Quantize
public import proofs.«01_k».proof.Proof.Gen.ReferenceIdeal.Value

@[expose] public section

set_option maxRecDepth 16384
set_option maxHeartbeats 1000000

noncomputable section

/-! The reference's quantization read element by element: its scales and codes are the plain functions of `Cert.Quantize`. -/

namespace Cert.ReferenceIdeal.Reads

open Idealize.ShloMosaic Idealize.ShloMosaic.ValueIdx
open Cert.ReferenceIdeal Cert.ReferenceIdeal.Gen Cert.Reads Cert.Quantize

variable (a0 : Vec Ideal S3x7680x5120 .bf16)

/-- A scaled query element, where the blocks are axes of their own. -/
theorem pay2_apply (b : Fin 3) (t : Fin 60) (r : Fin 128) (h : Fin 40) (d : Fin 128) :
    k0_pay2 a0 (ix5 b t r h d) = q a0 b.val (128 * t.val + r.val) (128 * h.val + d.val) := by
  have hb := b.isLt
  have ht := t.isLt
  have hr := r.isLt
  have hh := h.isLt
  have hd := d.isLt
  unfold k0_pay2
  rw [mulf_apply, shapeCast_apply _ _ _ (ix3 b ⟨128 * t.val + r.val, by omega⟩ ⟨128 * h.val + d.val, by omega⟩) (by
    rw [Shape.rowMajor_val_three, Shape.rowMajor_val_five]
    show (b.val * 7680 + (128 * t.val + r.val)) * 5120 + (128 * h.val + d.val) = (((b.val * 60 + t.val) * 128 + r.val) * 40 + h.val) * 128 + d.val
    omega)]
  exact congrArg (· * _) (rd3_of a0 _ rfl rfl rfl)

/-- The scale of a block. -/
theorem pay3_apply (b : Fin 3) (t : Fin 60) (h : Fin 40) : k0_pay3 a0 (ix5 b t 0 h 0) = QS a0 b.val t.val h.val := by
  unfold k0_pay3
  have key : shapeCast S3x60x1x40x1 (multiReduction .maximumf [2, 4] S3x60x40 (absf (k0_pay2 a0)) 0xFF800000#32 reduces_S3x60x128x40x128_S3x60x40 (.inl rfl) rfl)
      shapeCasts_S3x60x40_S3x60x1x40x1 (ix5 b t 0 h 0) = qmax fun r d => q a0 b.val (128 * t.val + r.val) (128 * h.val + d.val) := by
    refine (shapeCast_apply _ _ _ (ix3 b t h) (by
      rw [Shape.rowMajor_val_three, Shape.rowMajor_val_five]
      show (b.val * 60 + t.val) * 40 + h.val = (((b.val * 60 + t.val) * 1 + 0) * 40 + h.val) * 1 + 0
      omega)).trans (eq_qmax _ _ fun B => (max_le_axes _ reduces_S3x60x128x40x128_S3x60x40 _ _ (ix3 b t h) B).trans ?_)
    constructor
    · intro H r d
      have w := H (ix5 b t r h d) (funext fun a => match a with | ⟨0, _⟩ => rfl | ⟨1, _⟩ => rfl | ⟨2, _⟩ => rfl)
      have e := pay2_apply a0 b t r h d
      rw [← e]; exact w
    · intro H i hi
      have e0 : i 0 = b := congrFun hi 0
      have e1 : i 1 = t := congrFun hi 1
      have e2 : i 3 = h := congrFun hi 2
      have ei : i = ix5 b t (i 2) h (i 4) := by
        rw [← e0, ← e1, ← e2]
        funext a
        match a with
        | ⟨0, _⟩ => rfl
        | ⟨1, _⟩ => rfl
        | ⟨2, _⟩ => rfl
        | ⟨3, _⟩ => rfl
        | ⟨4, _⟩ => rfl
      have w := H (i 2) (i 4)
      have e := pay2_apply a0 b t (i 2) h (i 4)
      rw [← e] at w
      rw [ei]; exact w
  refine (scale_vec _ _ _ _ _).trans ?_
  rw [key]
  unfold QS scaleOf
  rfl

/-- The reference's scales. -/
theorem pay5_apply (b : Fin 3) (t : Fin 60) (h : Fin 40) : k0_pay5 a0 (ix3 b t h) = QS a0 b.val t.val h.val := by
  unfold k0_pay5
  exact (shapeCast_apply _ _ _ (ix5 b t 0 h 0) (by
      rw [Shape.rowMajor_val_three, Shape.rowMajor_val_five]
      show (((b.val * 60 + t.val) * 1 + 0) * 40 + h.val) * 1 + 0 = (b.val * 60 + t.val) * 40 + h.val
      omega)).trans (pay3_apply a0 b t h)

/-- The reference's codes, heads apart. -/
theorem pay4_apply (b : Fin 3) (n : Fin 7680) (h : Fin 40) (d : Fin 128) :
    k0_pay4 a0 (ix4 b n h d) = QC a0 b.val n.val (128 * h.val + d.val) := by
  have hb := b.isLt
  have hn := n.isLt
  have hh := h.isLt
  have hd := d.isLt
  unfold k0_pay4
  refine (shapeCast_apply _ _ _ (ix5 b ⟨n.val / 128, by omega⟩ ⟨n.val % 128, by omega⟩ h d) (by
      rw [Shape.rowMajor_val_four, Shape.rowMajor_val_five]
      show (((b.val * 60 + n.val / 128) * 128 + n.val % 128) * 40 + h.val) * 128 + d.val = ((b.val * 7680 + n.val) * 40 + h.val) * 128 + d.val
      omega)).trans ?_
  have e2 := pay2_apply a0 b ⟨n.val / 128, by omega⟩ ⟨n.val % 128, by omega⟩ h d
  have e3 : broadcastTo S3x60x128x40x128 (k0_pay3 a0) broadcasts_S3x60x1x40x1_S3x60x128x40x128 (ix5 b ⟨n.val / 128, by omega⟩ ⟨n.val % 128, by omega⟩ h d)
      = QS a0 b.val (n.val / 128) h.val :=
    (broadcastTo_apply _ _ _ (ix5 b ⟨n.val / 128, by omega⟩ 0 h 0) (fun a => match a with | ⟨0, _⟩ => rfl | ⟨1, _⟩ => rfl | ⟨2, _⟩ => rfl | ⟨3, _⟩ => rfl | ⟨4, _⟩ => rfl)).trans
      (pay3_apply a0 b ⟨n.val / 128, by omega⟩ h)
  have en : 128 * (n.val / 128) + n.val % 128 = n.val := by omega
  have eh : (128 * h.val + d.val) / 128 = h.val := by omega
  refine (code_vec _ _ _ _ _).trans ?_
  rw [e2, e3]
  unfold QC codeOf
  rw [eh]
  simp only [en]

/-- The reference's codes. -/
theorem pay6_apply (b : Fin 3) (n : Fin 7680) (c : Fin 5120) : k0_pay6 a0 (ix3 b n c) = QC a0 b.val n.val c.val := by
  have hc := c.isLt
  unfold k0_pay6
  refine (shapeCast_apply _ _ _ (ix4 b n ⟨c.val / 128, by omega⟩ ⟨c.val % 128, by omega⟩) (by
      rw [Shape.rowMajor_val_four, Shape.rowMajor_val_three]
      show ((b.val * 7680 + n.val) * 40 + c.val / 128) * 128 + c.val % 128 = (b.val * 7680 + n.val) * 5120 + c.val
      omega)).trans ?_
  rw [pay4_apply]
  show QC a0 b.val n.val (128 * (c.val / 128) + c.val % 128) = _
  rw [show 128 * (c.val / 128) + c.val % 128 = c.val by omega]

end Cert.ReferenceIdeal.Reads
-- ==== Proof.RefAttn.lean ====
module

public import proofs.«01_k».proof.Proof.RefQuant

@[expose] public section

set_option maxRecDepth 16384
set_option maxHeartbeats 1000000

noncomputable section

/-! The reference's attention read element by element. -/

namespace Cert.ReferenceIdeal.Reads

open Idealize.ShloMosaic Idealize.ShloMosaic.ValueIdx
open Cert.ReferenceIdeal Cert.ReferenceIdeal.Gen Cert.Reads Cert.Quantize

variable (a0 : Vec Ideal S3x7680x5120 .bf16) (a1 : Vec Ideal S3x8x7680x128 .i8) (a2 : Vec Ideal S3x8x120 .f32)
  (a3 : Vec Ideal S3x8x128x7680 .fp8e4m3) (a4 : Vec Ideal S3x8x128 .f32)

/-- The query codes as numbers, heads first. -/
theorem pay7_apply (b : Fin 3) (h : Fin 8) (g : Fin 5) (T : Fin 7680) (d : Fin 128) :
    k0_pay7 a0 (ix5 b h g T d) = cv (QC a0 b.val T.val (128 * (h.val * 5 + g.val) + d.val)) := by
  have hh := h.isLt
  have hg := g.isLt
  unfold k0_pay7
  rw [sitofp_apply]
  refine congrArg cv ?_
  rw [transpose_apply _ _ _ _ (ix5 b T h g d) (fun b => match b with | ⟨0, _⟩ => rfl | ⟨1, _⟩ => rfl | ⟨2, _⟩ => rfl | ⟨3, _⟩ => rfl | ⟨4, _⟩ => rfl),
    shapeCast_apply _ _ _ (ix4 b T ⟨h.val * 5 + g.val, by omega⟩ d) (by
      rw [Shape.rowMajor_val_four, Shape.rowMajor_val_five]
      show ((b.val * 7680 + T.val) * 40 + (h.val * 5 + g.val)) * 128 + d.val = (((b.val * 7680 + T.val) * 8 + h.val) * 5 + g.val) * 128 + d.val
      omega), pay4_apply]

/-- The query scales, one per token. -/
theorem pay8_apply (b : Fin 3) (h : Fin 8) (g : Fin 5) (T : Fin 7680) :
    k0_pay8 a0 (ix4 b h g T) = QS a0 b.val (T.val / 128) (h.val * 5 + g.val) := by
  have hh := h.isLt
  have hg := g.isLt
  have hT := T.isLt
  unfold k0_pay8
  rw [shapeCast_apply _ _ _ (ix5 b h g ⟨T.val / 128, by omega⟩ ⟨T.val % 128, by omega⟩) (by
      rw [Shape.rowMajor_val_four, Shape.rowMajor_val_five]
      show (((b.val * 8 + h.val) * 5 + g.val) * 60 + T.val / 128) * 128 + T.val % 128 = ((b.val * 8 + h.val) * 5 + g.val) * 7680 + T.val
      omega),
    broadcastTo_apply _ _ _ (ix5 b h g ⟨T.val / 128, by omega⟩ 0) (fun a => match a with | ⟨0, _⟩ => rfl | ⟨1, _⟩ => rfl | ⟨2, _⟩ => rfl | ⟨3, _⟩ => rfl | ⟨4, _⟩ => rfl),
    shapeCast_apply _ _ _ (ix4 b h g ⟨T.val / 128, by omega⟩) (by
      rw [Shape.rowMajor_val_four, Shape.rowMajor_val_five]
      show ((b.val * 8 + h.val) * 5 + g.val) * 60 + T.val / 128 = (((b.val * 8 + h.val) * 5 + g.val) * 60 + T.val / 128) * 1 + 0
      omega),
    transpose_apply _ _ _ _ (ix4 b ⟨T.val / 128, by omega⟩ h g) (fun b => match b with | ⟨0, _⟩ => rfl | ⟨1, _⟩ => rfl | ⟨2, _⟩ => rfl | ⟨3, _⟩ => rfl),
    shapeCast_apply _ _ _ (ix3 b ⟨T.val / 128, by omega⟩ ⟨h.val * 5 + g.val, by omega⟩) (by
      rw [Shape.rowMajor_val_four, Shape.rowMajor_val_three]
      show (b.val * 60 + T.val / 128) * 40 + (h.val * 5 + g.val) = ((b.val * 60 + T.val / 128) * 8 + h.val) * 5 + g.val
      omega), pay5_apply]

/-- The scores, before the mask. -/
def scores (v29 : FVec Ideal S3x8x5x7680x128 .bf16) (v34 : FVec Ideal S3x8x5x7680 .f32) (v36 : FVec Ideal S3x8x7680x128 .bf16) (v37 : Vec Ideal S3x8x120 .f32) :
    FVec Ideal S3x8x5x7680x7680 .f32 :=
  mulf (mulf (shapeCast S3x8x5x7680x7680 (matmul dot_S24x38400x128_S24x7680x128_S24x38400x7680_2_2_1_1_0_0 none
      (shapeCast S24x38400x128 v29 shapeCasts_S3x8x5x7680x128_S24x38400x128) (shapeCast S24x7680x128 v36 shapeCasts_S3x8x7680x128_S24x7680x128)
      (constant S24x38400x7680 .f32 0x00000000#32)) shapeCasts_S24x38400x7680_S3x8x5x7680x7680)
      (broadcastTo S3x8x5x7680x7680 (shapeCast S3x8x5x7680x1 v34 shapeCasts_S3x8x5x7680_S3x8x5x7680x1) broadcasts_S3x8x5x7680x1_S3x8x5x7680x7680))
    (broadcastTo S3x8x5x7680x7680 (shapeCast S3x8x1x1x7680 (shapeCast S3x8x7680 (broadcastTo S3x8x120x64 (shapeCast S3x8x120x1 v37 shapeCasts_S3x8x120_S3x8x120x1)
      broadcasts_S3x8x120x1_S3x8x120x64) shapeCasts_S3x8x120x64_S3x8x7680) shapeCasts_S3x8x7680_S3x8x1x1x7680) broadcasts_S3x8x1x1x7680_S3x8x5x7680x7680)

/-- The mask, then the scores under it. -/
def masked (s : FVec Ideal S3x8x5x7680x7680 .f32) : FVec Ideal S3x8x5x7680x7680 .f32 :=
  select (broadcastTo S3x8x5x7680x7680 (shapeCast S1x1x1x7680x7680 (cmpi .sle (iota .tc S7680x7680 32 [1] iota_S7680x7680_d1_w32)
      (iota .tc S7680x7680 32 [0] iota_S7680x7680_d0_w32)) shapeCasts_S7680x7680_S1x1x1x7680x7680) broadcasts_S1x1x1x7680x7680_S3x8x5x7680x7680)
    s (broadcast S3x8x5x7680x7680 (Scalar.ofBits .f32 0xFF800000#32))

/-- The rows' maxima. -/
def maxima (s : FVec Ideal S3x8x5x7680x7680 .f32) : FVec Ideal S3x8x5x7680 .f32 :=
  multiReduction .maximumf [4] S3x8x5x7680 s 0xFF800000#32 reduces_S3x8x5x7680x7680_S3x8x5x7680 (.inl rfl) rfl

/-- The exponentials. -/
def exps (s : FVec Ideal S3x8x5x7680x7680 .f32) : FVec Ideal S3x8x5x7680x7680 .f32 :=
  exp (subf s (broadcastTo S3x8x5x7680x7680 (shapeCast S3x8x5x7680x1 (maxima s) shapeCasts_S3x8x5x7680_S3x8x5x7680x1) broadcasts_S3x8x5x7680x1_S3x8x5x7680x7680))

/-- Their codes. -/
def codes (e : FVec Ideal S3x8x5x7680x7680 .f32) : FVec Ideal S3x8x5x7680x7680 .fp8e4m3 :=
  truncf .fp8e4m3 (minimumf (broadcast S3x8x5x7680x7680 (Scalar.ofBits .f32 0x43E00000#32)) (maximumf (broadcast S3x8x5x7680x7680 (Scalar.ofBits .f32 0x00000000#32))
    (mulf e (broadcast S3x8x5x7680x7680 (Scalar.ofBits .f32 0x43800000#32))))) bitsLt_fp8e4m3_f32

/-- The attention, from the exponentials. -/
def weigh (e : FVec Ideal S3x8x5x7680x7680 .f32) (v72 : FVec Ideal S3x8x128x7680 .fp8e4m3) : FVec Ideal S3x8x5x7680x128 .f32 :=
  mulf (divf (shapeCast S3x8x5x7680x128 (matmul dot_S24x38400x7680_S24x128x7680_S24x38400x128_2_2_1_1_0_0 none
      (shapeCast S24x38400x7680 (codes e) shapeCasts_S3x8x5x7680x7680_S24x38400x7680) (shapeCast S24x128x7680 v72 shapeCasts_S3x8x128x7680_S24x128x7680)
      (constant S24x38400x128 .f32 0x00000000#32)) shapeCasts_S24x38400x128_S3x8x5x7680x128)
    (broadcastTo S3x8x5x7680x128 (shapeCast S3x8x5x7680x1 (multiReduction .add [4] S3x8x5x7680 e 0x00000000#32 reduces_S3x8x5x7680x7680_S3x8x5x7680 (.inl rfl) rfl)
      shapeCasts_S3x8x5x7680_S3x8x5x7680x1) broadcasts_S3x8x5x7680x1_S3x8x5x7680x128))
    (broadcast S3x8x5x7680x128 (Scalar.ofBits .f32 0x3B800000#32))

theorem pay10_eq (v29 : FVec Ideal S3x8x5x7680x128 .bf16) (v34 : FVec Ideal S3x8x5x7680 .f32) (v36 : FVec Ideal S3x8x7680x128 .bf16) (v37 : Vec Ideal S3x8x120 .f32)
    (v72 : Vec Ideal S3x8x128x7680 .fp8e4m3) : k0_pay10 v29 v34 v36 v37 v72 = weigh (exps (masked (scores v29 v34 v36 v37))) v72 := rfl

theorem scores_apply (b : Fin 3) (h : Fin 8) (g : Fin 5) (T k : Fin 7680) :
    scores (k0_pay7 a0) (k0_pay8 a0) (k0_pay9 a1) a2 (ix5 b h g T k)
      = Quantize.raw a0 a1 b.val h.val g.val T.val k.val * QS a0 b.val (T.val / 128) (h.val * 5 + g.val) * rd3 a2 b.val h.val (k.val / 64) := by
  have hb := b.isLt
  have hh := h.isLt
  have hg := g.isLt
  have hT := T.isLt
  have hk := k.isLt
  unfold scores
  rw [mulf_apply, mulf_apply]
  refine congrArg₂ (· * ·) (congrArg₂ (· * ·) ?_ ?_) ?_
  · rw [shapeCast_apply _ _ _ (ix3 ⟨b.val * 8 + h.val, by omega⟩ ⟨g.val * 7680 + T.val, by omega⟩ k) (by
      rw [Shape.rowMajor_val_three, Shape.rowMajor_val_five]
      show ((b.val * 8 + h.val) * 38400 + (g.val * 7680 + T.val)) * 7680 + k.val = (((b.val * 8 + h.val) * 5 + g.val) * 7680 + T.val) * 7680 + k.val
      omega)]
    refine (mm_apply dot_S24x38400x128_S24x7680x128_S24x38400x7680_2_2_1_1_0_0 128 rfl rfl none _ _ _
      (fun d => ix3 ⟨b.val * 8 + h.val, by omega⟩ ⟨g.val * 7680 + T.val, by omega⟩ d) (fun d => ix3 ⟨b.val * 8 + h.val, by omega⟩ k d)
      (fun d => ?_) (fun d => ?_)).trans (Finset.sum_congr rfl fun d _ => congrArg₂ (· * ·) ?_ ?_)
    · funext a; apply Fin.ext
      match a with
      | ⟨0, _⟩ => rfl
      | ⟨1, _⟩ => rfl
      | ⟨2, _⟩ => exact contrEquiv1_symm_val dot_S24x38400x128_S24x7680x128_S24x38400x7680_2_2_1_1_0_0 128 rfl rfl d
    · funext a; apply Fin.ext
      match a with
      | ⟨0, _⟩ => rfl
      | ⟨1, _⟩ => rfl
      | ⟨2, _⟩ => exact contrEquiv1_symm_val dot_S24x38400x128_S24x7680x128_S24x38400x7680_2_2_1_1_0_0 128 rfl rfl d
    · rw [shapeCast_apply _ _ _ (ix5 b h g T d) (by
        rw [Shape.rowMajor_val_three, Shape.rowMajor_val_five]
        show (((b.val * 8 + h.val) * 5 + g.val) * 7680 + T.val) * 128 + d.val = ((b.val * 8 + h.val) * 38400 + (g.val * 7680 + T.val)) * 128 + d.val
        omega), pay7_apply]
    · rw [shapeCast_apply _ _ _ (ix4 b h k d) (by
        rw [Shape.rowMajor_val_three, Shape.rowMajor_val_four]
        show ((b.val * 8 + h.val) * 7680 + k.val) * 128 + d.val = ((b.val * 8 + h.val) * 7680 + k.val) * 128 + d.val
        rfl)]
      unfold k0_pay9
      rw [sitofp_apply]
      exact congrArg cv (rd4_of a1 _ rfl rfl rfl rfl)
  · rw [broadcastTo_apply _ _ _ (ix5 b h g T 0) (fun a => match a with | ⟨0, _⟩ => rfl | ⟨1, _⟩ => rfl | ⟨2, _⟩ => rfl | ⟨3, _⟩ => rfl | ⟨4, _⟩ => rfl),
      shapeCast_apply _ _ _ (ix4 b h g T) (by
        rw [Shape.rowMajor_val_four, Shape.rowMajor_val_five]
        show ((b.val * 8 + h.val) * 5 + g.val) * 7680 + T.val = (((b.val * 8 + h.val) * 5 + g.val) * 7680 + T.val) * 1 + 0
        omega), pay8_apply]
  · rw [broadcastTo_apply _ _ _ (ix5 b h 0 0 k) (fun a => match a with | ⟨0, _⟩ => rfl | ⟨1, _⟩ => rfl | ⟨2, _⟩ => rfl | ⟨3, _⟩ => rfl | ⟨4, _⟩ => rfl),
      shapeCast_apply _ _ _ (ix3 b h k) (by
        rw [Shape.rowMajor_val_three, Shape.rowMajor_val_five]
        show (b.val * 8 + h.val) * 7680 + k.val = (((b.val * 8 + h.val) * 1 + 0) * 1 + 0) * 7680 + k.val
        omega),
      shapeCast_apply _ _ _ (ix4 b h ⟨k.val / 64, by omega⟩ ⟨k.val % 64, by omega⟩) (by
        rw [Shape.rowMajor_val_three, Shape.rowMajor_val_four]
        show ((b.val * 8 + h.val) * 120 + k.val / 64) * 64 + k.val % 64 = (b.val * 8 + h.val) * 7680 + k.val
        omega),
      broadcastTo_apply _ _ _ (ix4 b h ⟨k.val / 64, by omega⟩ 0) (fun a => match a with | ⟨0, _⟩ => rfl | ⟨1, _⟩ => rfl | ⟨2, _⟩ => rfl | ⟨3, _⟩ => rfl),
      shapeCast_apply _ _ _ (ix3 b h ⟨k.val / 64, by omega⟩) (by
        rw [Shape.rowMajor_val_three, Shape.rowMajor_val_four]
        show (b.val * 8 + h.val) * 120 + k.val / 64 = ((b.val * 8 + h.val) * 120 + k.val / 64) * 1 + 0
        omega)]
    exact rd3_of a2 _ rfl rfl rfl

theorem masked_apply (s : FVec Ideal S3x8x5x7680x7680 .f32) (b : Fin 3) (h : Fin 8) (g : Fin 5) (T k : Fin 7680) :
    masked s (ix5 b h g T k) = if k.val ≤ T.val then s (ix5 b h g T k) else ⊥ := by
  have hT := T.isLt
  have hk := k.isLt
  unfold masked
  rw [select_apply, broadcastTo_apply _ _ _ (ix5 0 0 0 T k) (fun a => match a with | ⟨0, _⟩ => rfl | ⟨1, _⟩ => rfl | ⟨2, _⟩ => rfl | ⟨3, _⟩ => rfl | ⟨4, _⟩ => rfl),
    shapeCast_apply _ _ _ (ix2 T k) (by
      rw [Shape.rowMajor_val_two, Shape.rowMajor_val_five]
      show T.val * 7680 + k.val = (((0 * 1 + 0) * 1 + 0) * 7680 + T.val) * 7680 + k.val
      omega)]
  show Scalar.select (IntOp.cmpi .sle (iota .tc S7680x7680 32 [1] iota_S7680x7680_d1_w32 (ix2 T k)) (iota .tc S7680x7680 32 [0] iota_S7680x7680_d0_w32 (ix2 T k))) _ _ = _
  rw [iota_single_apply, iota_single_apply]
  refine (select_sle (n := k.val) (k := T.val) (by omega) (by omega) _ _).trans ?_
  rw [broadcast_apply]
  exact congrArg (ite _ _ ·) Scalars.bits_bot

theorem masked_scores (b : Fin 3) (h : Fin 8) (g : Fin 5) (T k : Fin 7680) :
    masked (scores (k0_pay7 a0) (k0_pay8 a0) (k0_pay9 a1) a2) (ix5 b h g T k) = S a0 a1 a2 b.val h.val g.val T.val k.val := by
  rw [masked_apply, scores_apply]
  rfl

theorem lift_row (b : Fin 3) (h : Fin 8) (g : Fin 5) (T k : Fin 7680) :
    (reduces_S3x8x5x7680x7680_S3x8x5x7680).lift (ix4 b h g T) k = ix5 b h g T k := by
  funext a
  match a with
  | ⟨0, _⟩ => rfl
  | ⟨1, _⟩ => rfl
  | ⟨2, _⟩ => rfl
  | ⟨3, _⟩ => rfl
  | ⟨4, _⟩ => rfl

/-- A row's maximum. -/
def M (b : Fin 3) (h : Fin 8) (g : Fin 5) (T : Fin 7680) : EReal :=
  maxima (masked (scores (k0_pay7 a0) (k0_pay8 a0) (k0_pay9 a1) a2)) (ix4 b h g T)

/-- It is the least bound of the row's scores. -/
theorem M_le (b : Fin 3) (h : Fin 8) (g : Fin 5) (T : Fin 7680) (B : EReal) :
    M a0 a1 a2 b h g T ≤ B ↔ ∀ k < 7680, S a0 a1 a2 b.val h.val g.val T.val k ≤ B := by
  unfold M maxima
  refine (max_le_single _ reduces_S3x8x5x7680x7680_S3x8x5x7680 _ _ (ix4 b h g T) B).trans ?_
  constructor
  · intro H k hk
    exact (le_of_eq ((congrArg _ (lift_row b h g T ⟨k, hk⟩)).trans (masked_scores a0 a1 a2 b h g T ⟨k, hk⟩)).symm).trans (H ⟨k, hk⟩)
  · intro H (k : Fin 7680)
    exact (le_of_eq ((congrArg (masked (scores (k0_pay7 a0) (k0_pay8 a0) (k0_pay9 a1) a2)) (lift_row b h g T k)).trans (masked_scores a0 a1 a2 b h g T k))).trans (H k.val k.isLt)

theorem exps_apply (b : Fin 3) (h : Fin 8) (g : Fin 5) (T k : Fin 7680) :
    exps (masked (scores (k0_pay7 a0) (k0_pay8 a0) (k0_pay9 a1) a2)) (ix5 b h g T k)
      = Ideal.exp (S a0 a1 a2 b.val h.val g.val T.val k.val - M a0 a1 a2 b h g T) := by
  unfold exps
  refine congrArg Ideal.exp ?_
  rw [subf_apply, masked_scores]
  refine congrArg (fun z : EReal => S a0 a1 a2 b.val h.val g.val T.val k.val - z) ?_
  rw [broadcastTo_apply _ _ _ (ix5 b h g T 0) (fun a => match a with | ⟨0, _⟩ => rfl | ⟨1, _⟩ => rfl | ⟨2, _⟩ => rfl | ⟨3, _⟩ => rfl | ⟨4, _⟩ => rfl),
      shapeCast_apply _ _ _ (ix4 b h g T) (by
        rw [Shape.rowMajor_val_four, Shape.rowMajor_val_five]
        show ((b.val * 8 + h.val) * 5 + g.val) * 7680 + T.val = (((b.val * 8 + h.val) * 5 + g.val) * 7680 + T.val) * 1 + 0
        omega)]
  rfl

theorem codes_apply (e : FVec Ideal S3x8x5x7680x7680 .f32) (i : S3x8x5x7680x7680.Idx) : codes e i = Scalars.clip (e i * ((256 : ℝ) : EReal)) := by
  unfold codes Scalars.clip
  rw [truncf_apply, minimumf_apply, maximumf_apply, mulf_apply, broadcast_apply, broadcast_apply, broadcast_apply]
  exact congrArg₂ min Scalars.bits_448 (congrArg₂ max Ideal.ofBits_zero_f32 (congrArg (fun z : EReal => e i * z) Scalars.bits_256))

theorem weigh_apply (e : FVec Ideal S3x8x5x7680x7680 .f32) (b : Fin 3) (h : Fin 8) (g : Fin 5) (T : Fin 7680) (n : Fin 128) :
    weigh e a3 (ix5 b h g T n) = Ideal.div (∑ k : Fin 7680, Scalars.clip (e (ix5 b h g T k) * ((256 : ℝ) : EReal)) * rd4 a3 b.val h.val n.val k.val)
      (∑ k : Fin 7680, e (ix5 b h g T k)) * ((1 / 256 : ℝ) : EReal) := by
  have hb := b.isLt
  have hh := h.isLt
  have hg := g.isLt
  have hT := T.isLt
  unfold weigh
  rw [mulf_apply, broadcast_apply, divf_apply]
  refine congrArg₂ (· * ·) (congrArg₂ Ideal.div ?_ ?_) Scalars.bits_inv256
  · rw [shapeCast_apply _ _ _ (ix3 ⟨b.val * 8 + h.val, by omega⟩ ⟨g.val * 7680 + T.val, by omega⟩ n) (by
      rw [Shape.rowMajor_val_three, Shape.rowMajor_val_five]
      show ((b.val * 8 + h.val) * 38400 + (g.val * 7680 + T.val)) * 128 + n.val = (((b.val * 8 + h.val) * 5 + g.val) * 7680 + T.val) * 128 + n.val
      omega)]
    refine (mm_apply dot_S24x38400x7680_S24x128x7680_S24x38400x128_2_2_1_1_0_0 7680 rfl rfl none _ _ _
      (fun k => ix3 ⟨b.val * 8 + h.val, by omega⟩ ⟨g.val * 7680 + T.val, by omega⟩ k) (fun k => ix3 ⟨b.val * 8 + h.val, by omega⟩ n k)
      (fun k => ?_) (fun k => ?_)).trans (Finset.sum_congr rfl fun k _ => congrArg₂ (· * ·) ?_ ?_)
    · funext a; apply Fin.ext
      match a with
      | ⟨0, _⟩ => rfl
      | ⟨1, _⟩ => rfl
      | ⟨2, _⟩ => exact contrEquiv1_symm_val dot_S24x38400x7680_S24x128x7680_S24x38400x128_2_2_1_1_0_0 7680 rfl rfl k
    · funext a; apply Fin.ext
      match a with
      | ⟨0, _⟩ => rfl
      | ⟨1, _⟩ => rfl
      | ⟨2, _⟩ => exact contrEquiv1_symm_val dot_S24x38400x7680_S24x128x7680_S24x38400x128_2_2_1_1_0_0 7680 rfl rfl k
    · rw [shapeCast_apply _ _ _ (ix5 b h g T k) (by
        rw [Shape.rowMajor_val_three, Shape.rowMajor_val_five]
        show (((b.val * 8 + h.val) * 5 + g.val) * 7680 + T.val) * 7680 + k.val = ((b.val * 8 + h.val) * 38400 + (g.val * 7680 + T.val)) * 7680 + k.val
        omega), codes_apply]
    · rw [shapeCast_apply _ _ _ (ix4 b h n k) (by
        rw [Shape.rowMajor_val_three, Shape.rowMajor_val_four]
        show ((b.val * 8 + h.val) * 128 + n.val) * 7680 + k.val = ((b.val * 8 + h.val) * 128 + n.val) * 7680 + k.val
        rfl)]
      exact rd4_of a3 _ rfl rfl rfl rfl
  · rw [broadcastTo_apply _ _ _ (ix5 b h g T 0) (fun a => match a with | ⟨0, _⟩ => rfl | ⟨1, _⟩ => rfl | ⟨2, _⟩ => rfl | ⟨3, _⟩ => rfl | ⟨4, _⟩ => rfl),
      shapeCast_apply _ _ _ (ix4 b h g T) (by
        rw [Shape.rowMajor_val_four, Shape.rowMajor_val_five]
        show ((b.val * 8 + h.val) * 5 + g.val) * 7680 + T.val = (((b.val * 8 + h.val) * 5 + g.val) * 7680 + T.val) * 1 + 0
        omega)]
    refine (Ideal.multiReduction_add_single _ _ reduces_S3x8x5x7680x7680_S3x8x5x7680 _ _ (ix4 b h g T)).trans ?_
    exact Finset.sum_congr rfl fun (k : Fin 7680) _ => congrArg e (lift_row b h g T k)

/-- The reference's attention, element by element. -/
theorem out_apply (b : Fin 3) (h : Fin 8) (g : Fin 5) (T : Fin 7680) (n : Fin 128) (c : Fin 5120) (hc : c.val = 128 * (h.val * 5 + g.val) + n.val) :
    k0_pay1 (k0_pay10 (k0_pay7 a0) (k0_pay8 a0) (k0_pay9 a1) a2 a3) a4 (ix3 b T c)
      = attn a0 a1 a2 a3 a4 b.val h.val g.val T.val n.val (M a0 a1 a2 b h g T) := by
  rw [pay10_eq]
  unfold k0_pay1
  rw [truncf_apply, shapeCast_apply _ _ _ (ix5 b T h g n) (by
      rw [Shape.rowMajor_val_three, Shape.rowMajor_val_five]
      show (((b.val * 7680 + T.val) * 8 + h.val) * 5 + g.val) * 128 + n.val = (b.val * 7680 + T.val) * 5120 + c.val
      omega),
    transpose_apply _ _ _ _ (ix5 b h g T n) (fun b => match b with | ⟨0, _⟩ => rfl | ⟨1, _⟩ => rfl | ⟨2, _⟩ => rfl | ⟨3, _⟩ => rfl | ⟨4, _⟩ => rfl),
    mulf_apply, weigh_apply]
  unfold attn
  refine congrArg₂ (· * ·) (congrArg (· * _) (congrArg₂ Ideal.div ?_ ?_)) ?_
  · refine (Finset.sum_congr rfl fun k _ => ?_).trans (Fin.sum_univ_eq_sum_range (fun k => Scalars.clip (Ideal.exp (S a0 a1 a2 b.val h.val g.val T.val k - M a0 a1 a2 b h g T)
      * ((256 : ℝ) : EReal)) * rd4 a3 b.val h.val n.val k) 7680)
    rw [exps_apply]
  · refine (Finset.sum_congr rfl fun k _ => ?_).trans (Fin.sum_univ_eq_sum_range (fun k => Ideal.exp (S a0 a1 a2 b.val h.val g.val T.val k - M a0 a1 a2 b h g T)) 7680)
    rw [exps_apply]
  · rw [broadcastTo_apply _ _ _ (ix5 b h 0 0 n) (fun a => match a with | ⟨0, _⟩ => rfl | ⟨1, _⟩ => rfl | ⟨2, _⟩ => rfl | ⟨3, _⟩ => rfl | ⟨4, _⟩ => rfl),
      shapeCast_apply _ _ _ (ix3 b h n) (by
        rw [Shape.rowMajor_val_three, Shape.rowMajor_val_five]
        show (b.val * 8 + h.val) * 128 + n.val = (((b.val * 8 + h.val) * 1 + 0) * 1 + 0) * 128 + n.val
        omega)]
    exact rd3_of a4 _ rfl rfl rfl

end Cert.ReferenceIdeal.Reads
-- ==== Proof.IdlPoint.lean ====
module

public import proofs.«01_k».proof.Proof.IdlArrays
public import proofs.«01_k».proof.Proof.IdlBlocks
public import proofs.«01_k».proof.Proof.IdlHost
public import proofs.«01_k».proof.Proof.IdlFinal
public import proofs.«01_k».proof.Proof.RefAttn

@[expose] public section

set_option maxRecDepth 16384
set_option maxHeartbeats 2000000

noncomputable section

/-! The array the second call leaves is the reference's attention, whenever the call finds the codes, the products of the scales,
    the keys, the values and the values' scales. -/

namespace Cert.KernelIdeal.Point

open Idealize.ShloMosaic Idealize.ShloMosaic.TcCoe Idealize.ShloMosaic.ValueIdx
open Idealize.ShloMosaic.Pipeline (Dat Cfg Window)
open Cert.KernelIdeal Cert.KernelIdeal.Gen Cert.KernelIdeal.Run Cert.KernelIdeal.Body Cert.KernelIdeal.Blocks Cert.Reads Cert.Quantize

variable (A0 : Vec Ideal S3x7680x5120 .bf16) (A1 : Vec Ideal S3x8x7680x128 .i8) (A2 : Vec Ideal S3x8x120 .f32)
  (A3 : Vec Ideal S3x8x128x7680 .fp8e4m3) (A4 : Vec Ideal S3x8x128 .f32)

/-- The reference's attention. -/
def refOut : Vec Ideal S3x7680x5120 .bf16 :=
  Cert.ReferenceIdeal.Gen.k0_pay1 (Cert.ReferenceIdeal.Gen.k0_pay10 (Cert.ReferenceIdeal.Gen.k0_pay7 A0) (Cert.ReferenceIdeal.Gen.k0_pay8 A0) (Cert.ReferenceIdeal.Gen.k0_pay9 A1) A2 A3) A4

/-- The codes of the queries. -/
def codesOf : Vec Ideal S3x7680x5120 .i8 := fun i : S3x7680x5120.Idx => QC A0 (i 0).val (i 1).val (i 2).val

/-- The scales of the queries. -/
def scalesOf : Vec Ideal S3x30x2x40 .f32 := fun i : S3x30x2x40.Idx => QS A0 (i 0).val (2 * (i 1).val + (i 2).val) (i 3).val

theorem refOut_apply (b : Fin 3) (h : Fin 8) (g : Fin 5) (T : Fin 7680) (n : Fin 128) (c : Fin 5120) (hc : c.val = 128 * (h.val * 5 + g.val) + n.val) :
    refOut A0 A1 A2 A3 A4 (ix3 b T c)
      = attn A0 A1 A2 A3 A4 b.val h.val g.val T.val n.val (Cert.ReferenceIdeal.Reads.M A0 A1 A2 b h g T) :=
  Cert.ReferenceIdeal.Reads.out_apply A0 A1 A2 A3 A4 b h g T n c hc

theorem codesOf_rd (b n k : ℕ) (hb : b < 3) (hn : n < 7680) (hk : k < 5120) : rd3 (codesOf A0) b n k = QC A0 b n k := by
  show QC A0 (b % 3) (n % 7680) (k % 5120) = _
  rw [Nat.mod_eq_of_lt hb, Nat.mod_eq_of_lt hn, Nat.mod_eq_of_lt hk]

attribute [local irreducible] QC QS attnOut attn refOut

variable (V : Dev nD → Valuation τ sig (Elt Ideal)) (c : Dev nD)

/-- One product of scales, in the block a point reads. -/
theorem coef (h9 : (V c (Proc.devRef .tc main_v9) : Vec Ideal S3x1200x1x2x120 .f32) = Host.prods (scalesOf A0) A2)
    (t : Fin cfg1.N) (r : Fin 2) (n T : ℕ) (hn : n < 120) (hT : T / 128 = 2 * pi t + r.val) :
    cAt (iblk1 V c 1 t : Vec Ideal S1x1x1x2x120 .f32) r n = QS A0 (pb t) (T / 128) (ph t * 5 + pg t) * rd3 A2 (pb t) (ph t) n := by
  have hb := pb_lt t
  have hh := ph_lt t
  have hi := pi_lt t
  have hg := pg_lt t
  have hn' : n % 120 < 120 := Nat.mod_lt _ (by decide)
  refine (blk_c V c t r ⟨n % 120, hn'⟩ (by omega)).trans ?_
  rw [h9, Host.prods_apply (scalesOf A0) A2 ⟨pb t, hb⟩ ⟨ph t, hh⟩ ⟨pi t, hi⟩ ⟨pg t, hg⟩ r ⟨n % 120, hn'⟩ _ rfl ⟨ph t * 5 + pg t, by omega⟩ rfl]
  refine congrArg₂ (· * ·) ?_ (rd3_of A2 _ rfl rfl (Nat.mod_eq_of_lt hn))
  show QS A0 (pb t) (2 * pi t + r.val) (ph t * 5 + pg t) = _
  rw [hT]

/-- What a point of the second call leaves in its block of the result. -/
theorem point5 (hq : (V c (Proc.devRef .tc main_v0_0) : Vec Ideal S3x7680x5120 .i8) = codesOf A0)
    (h9 : (V c (Proc.devRef .tc main_v9) : Vec Ideal S3x1200x1x2x120 .f32) = Host.prods (scalesOf A0) A2)
    (hk : (V c (Proc.devRef .tc main_arg1) : Vec Ideal S3x8x7680x128 .i8) = A1)
    (hv : (V c (Proc.devRef .tc main_arg3) : Vec Ideal S3x8x128x7680 .fp8e4m3) = A3)
    (hs : (V c (Proc.devRef .tc main_v10) : Vec Ideal S3x8x1x128 .f32) = broadcastInDim S3x8x1x128 ![0, 1, 3] bcast_S3x8x128_S3x8x1x128_0_1_3 A4)
    (t : Fin cfg1.N) (col : Fin 256) (n : Fin 128) :
    (attnOut (pi t) (iblk1 V c 0 t) (iblk1 V c 1 t) (iblk1 V c 2 t) (iblk1 V c 3 t) (iblk1 V c 4 t) : Vec Ideal S1x256x128 .bf16) (ix3 0 col n)
      = refOut A0 A1 A2 A3 A4 (((cfg1.win 5).blk t).view.emb (ix3 0 col n : S1x256x128.Idx)) := by
  have hb := pb_lt t
  have hh := ph_lt t
  have hi := pi_lt t
  have hg := pg_lt t
  have hcol := col.isLt
  have hn := n.isLt
  have he : (((cfg1.win 5).blk t).view.emb (ix3 0 col n : S1x256x128.Idx) : S3x7680x5120.Idx)
      = ix3 ⟨pb t, hb⟩ ⟨256 * pi t + col.val, by omega⟩ ⟨128 * (ph t * 5 + pg t) + n.val, by omega⟩ := by
    refine funext fun a => Fin.ext ((emb1_5 t _ a).trans ?_)
    rw [idx1_5]
    match a with
    | ⟨0, _⟩ => show pb t * 1 + 0 = pb t; omega
    | ⟨1, _⟩ => show pi t * 256 + col.val = 256 * pi t + col.val; omega
    | ⟨2, _⟩ => show (ph t * 5 + pg t) * 128 + n.val = 128 * (ph t * 5 + pg t) + n.val; omega
  refine Eq.trans ?_ (congrArg (refOut A0 A1 A2 A3 A4) he).symm
  refine Eq.trans ?_ (refOut_apply A0 A1 A2 A3 A4 ⟨pb t, hb⟩ ⟨ph t, hh⟩ ⟨pg t, hg⟩ ⟨256 * pi t + col.val, by omega⟩ n
    ⟨128 * (ph t * 5 + pg t) + n.val, by omega⟩ rfl).symm
  refine Attn.attn_eq _ _ _ _ _ A0 A1 A2 A3 A4 (pb t) (ph t) (pg t) (pi t) hi col n _ ?_ ?_ ?_ ?_ ?_ ?_
  · intro d
    have hd := d.isLt
    rw [blk_q V c t col d, hq]
    exact codesOf_rd A0 _ _ _ hb (by omega) (by omega)
  · intro n hn
    split
    · exact coef A0 A2 V c h9 t 0 n _ hn (by show _ = 2 * pi t + 0; omega)
    · exact coef A0 A2 V c h9 t 1 n _ hn (by show _ = 2 * pi t + 1; omega)
  · intro k d
    rw [blk_k V c t k d, hk]
  · intro k
    rw [blk_v V c t n k, hv]
  · rw [blk_s V c t n, hs, Host.vs_apply]
    exact rd3_of A4 _ rfl rfl rfl
  · exact Cert.ReferenceIdeal.Reads.M_le A0 A1 A2 ⟨pb t, hb⟩ ⟨ph t, hh⟩ ⟨pg t, hg⟩ ⟨256 * pi t + col.val, by omega⟩

/-- The same at any index of the block. -/
theorem point5_of (hq : (V c (Proc.devRef .tc main_v0_0) : Vec Ideal S3x7680x5120 .i8) = codesOf A0)
    (h9 : (V c (Proc.devRef .tc main_v9) : Vec Ideal S3x1200x1x2x120 .f32) = Host.prods (scalesOf A0) A2)
    (hk : (V c (Proc.devRef .tc main_arg1) : Vec Ideal S3x8x7680x128 .i8) = A1)
    (hv : (V c (Proc.devRef .tc main_arg3) : Vec Ideal S3x8x128x7680 .fp8e4m3) = A3)
    (hs : (V c (Proc.devRef .tc main_v10) : Vec Ideal S3x8x1x128 .f32) = broadcastInDim S3x8x1x128 ![0, 1, 3] bcast_S3x8x128_S3x8x1x128_0_1_3 A4)
    (t : Fin cfg1.N) (y : S1x256x128.Idx) (col : Fin 256) (n : Fin 128) (hy : y = ix3 0 col n) :
    (attnOut (pi t) (iblk1 V c 0 t) (iblk1 V c 1 t) (iblk1 V c 2 t) (iblk1 V c 3 t) (iblk1 V c 4 t) : Vec Ideal S1x256x128 .bf16) y
      = refOut A0 A1 A2 A3 A4 (((cfg1.win 5).blk t).view.emb y) := by
  subst hy
  exact point5 A0 A1 A2 A3 A4 V c hq h9 hk hv hs t col n

/-- The result's array after the second call. -/
theorem result (hq : (V c (Proc.devRef .tc main_v0_0) : Vec Ideal S3x7680x5120 .i8) = codesOf A0)
    (h9 : (V c (Proc.devRef .tc main_v9) : Vec Ideal S3x1200x1x2x120 .f32) = Host.prods (scalesOf A0) A2)
    (hk : (V c (Proc.devRef .tc main_arg1) : Vec Ideal S3x8x7680x128 .i8) = A1)
    (hv : (V c (Proc.devRef .tc main_arg3) : Vec Ideal S3x8x128x7680 .fp8e4m3) = A3)
    (hs : (V c (Proc.devRef .tc main_v10) : Vec Ideal S3x8x1x128 .f32) = broadcastInDim S3x8x1x128 ![0, 1, 3] bcast_S3x8x128_S3x8x1x128_0_1_3 A4) :
    (dat1 V c).arrAt 5 cfg1.N = refOut A0 A1 A2 A3 A4 :=
  (dat1 V c).arrAt_eq_of_covers 5 _ cover1_w5 fun t _ y => by
    refine (cast_eq _ _).trans ((congrFun (after1_5 V c t) y).trans ?_)
    exact point5_of A0 A1 A2 A3 A4 V c hq h9 hk hv hs t y (y 1) (y 2) (funext fun a => match a with
      | ⟨0, _⟩ => Subsingleton.elim (α := Fin 1) _ _
      | ⟨1, _⟩ => rfl
      | ⟨2, _⟩ => rfl)

end Cert.KernelIdeal.Point

end
-- ==== Proof.IdlValue.lean ====
module

public import proofs.«01_k».proof.Proof.IdlPoint
public import proofs.«01_k».proof.Proof.RefQuant

@[expose] public section

set_option maxRecDepth 16384
set_option maxHeartbeats 2000000

noncomputable section

/-! What the idealised kernel's three results hold after its run: the reference's functions of the arguments. -/

namespace Cert.KernelIdeal.Value

open Idealize.ShloMosaic Idealize.ShloMosaic.TcCoe Idealize.ShloMosaic.ValueIdx
open Cert.KernelIdeal Cert.KernelIdeal.Gen Cert.KernelIdeal.Run Cert.KernelIdeal.Point Cert.Reads Cert.Quantize

variable (m : (ℓ : Loc nD τ sig) → Buf (Elt Ideal) ℓ) (c : Dev nD)

/-- The arguments as launched. -/
abbrev q0 : Vec Ideal S3x7680x5120 .bf16 := m ((c : Thread nD τ).loc main_arg0)
abbrev q1 : Vec Ideal S3x8x7680x128 .i8 := m ((c : Thread nD τ).loc main_arg1)
abbrev q2 : Vec Ideal S3x8x120 .f32 := m ((c : Thread nD τ).loc main_arg2)
abbrev q3 : Vec Ideal S3x8x128x7680 .fp8e4m3 := m ((c : Thread nD τ).loc main_arg3)
abbrev q4 : Vec Ideal S3x8x128 .f32 := m ((c : Thread nD τ).loc main_arg4)

attribute [local irreducible] QC QS refOut

/-- The codes after the first call. -/
theorem W1_codes : (W1 m c (Proc.devRef .tc main_v0_0) : Vec Ideal S3x7680x5120 .i8) = codesOf (q0 m c) :=
  (Pipeline.afterRegion_arr (dat0 (W0 m) c) (W0 m c) winFacts0.arr_inj 1).trans (Arrays.codes (W0 m) c)

/-- The scales after the first call. -/
theorem W1_scales : (W1 m c (Proc.devRef .tc main_v0_1) : Vec Ideal S3x30x2x40 .f32) = scalesOf (q0 m c) :=
  (Pipeline.afterRegion_arr (dat0 (W0 m) c) (W0 m c) winFacts0.arr_inj 2).trans (Arrays.scales (W0 m) c)

/-- The codes before the second call. -/
theorem W2_codes : (W2 m c (Proc.devRef .tc main_v0_0) : Vec Ideal S3x7680x5120 .i8) = codesOf (q0 m c) :=
  (W2_of m c main_v0_0 (by decide)).trans (W1_codes m c)

/-- The products of the scales before the second call. -/
theorem W2_prods : (W2 m c (Proc.devRef .tc main_v9) : Vec Ideal S3x1200x1x2x120 .f32) = Host.prods (scalesOf (q0 m c)) (q2 m c) :=
  (Host.after_v9 (W1 m c)).trans (congrArg₂ Host.prods (W1_scales m c) ((W1_of m c main_arg2 (by decide)).trans rfl))

/-- The values' scales before the second call. -/
theorem W2_vs : (W2 m c (Proc.devRef .tc main_v10) : Vec Ideal S3x8x1x128 .f32)
    = broadcastInDim S3x8x1x128 ![0, 1, 3] bcast_S3x8x128_S3x8x1x128_0_1_3 (q4 m c) :=
  (Host.after_v10 (W1 m c)).trans (congrArg (broadcastInDim S3x8x1x128 ![0, 1, 3] bcast_S3x8x128_S3x8x1x128_0_1_3) ((W1_of m c main_arg4 (by decide)).trans rfl))

/-- The first result is the reference's attention. -/
theorem W3_out : (W3 m c (Proc.devRef .tc main_v11) : Vec Ideal S3x7680x5120 .bf16) = refOut (q0 m c) (q1 m c) (q2 m c) (q3 m c) (q4 m c) :=
  (Pipeline.afterRegion_arr (dat1 (W2 m) c) (W2 m c) winFacts1.arr_inj 5).trans
    (result (q0 m c) (q1 m c) (q2 m c) (q3 m c) (q4 m c) (W2 m) c (W2_codes m c) (W2_prods m c)
      ((W2_of m c main_arg1 (by decide)).trans <| (W1_of m c main_arg1 (by decide)).trans rfl)
      ((W2_of m c main_arg3 (by decide)).trans <| (W1_of m c main_arg3 (by decide)).trans rfl) (W2_vs m c))

/-- The second result is the reference's codes. -/
theorem W3_codes : (W3 m c (Proc.devRef .tc main_v0_0) : Vec Ideal S3x7680x5120 .i8) = Cert.ReferenceIdeal.Gen.k0_pay6 (q0 m c) := by
  refine ((W3_of m c main_v0_0 (by decide)).trans (W2_codes m c)).trans (funext fun i => ?_)
  have hi : i = ix3 (i 0) (i 1) (i 2) := funext fun a => match a with
    | ⟨0, _⟩ => rfl
    | ⟨1, _⟩ => rfl
    | ⟨2, _⟩ => rfl
  exact (Cert.ReferenceIdeal.Reads.pay6_apply (q0 m c) (i 0) (i 1) (i 2)).symm.trans (congrArg (Cert.ReferenceIdeal.Gen.k0_pay6 (q0 m c)) hi).symm

/-- The scales' rows are the reference's scales. -/
theorem rows_scales (A0 : Vec Ideal S3x7680x5120 .bf16) : Host.rows (scalesOf A0) = Cert.ReferenceIdeal.Gen.k0_pay5 A0 := by
  refine funext fun i => ?_
  have hi : i = ix3 (i 0) (i 1) (i 2) := funext fun a => match a with
    | ⟨0, _⟩ => rfl
    | ⟨1, _⟩ => rfl
    | ⟨2, _⟩ => rfl
  refine (congrArg (Host.rows (scalesOf A0)) hi).trans (Eq.trans ?_ (congrArg (Cert.ReferenceIdeal.Gen.k0_pay5 A0) hi).symm)
  refine (Host.rows_apply (scalesOf A0) (i 0) (i 1) (i 2)).trans (Eq.trans ?_ (Cert.ReferenceIdeal.Reads.pay5_apply A0 (i 0) (i 1) (i 2)).symm)
  show QS A0 (i 0).val (2 * ((i 1).val / 2) + (i 1).val % 2) (i 2).val = _
  rw [Nat.div_add_mod]

/-- The third result is the reference's scales. -/
theorem W3_scales : (W3 m c (Proc.devRef .tc main_v1) : Vec Ideal S3x60x40 .f32) = Cert.ReferenceIdeal.Gen.k0_pay5 (q0 m c) :=
  (W3_of m c main_v1 (by decide)).trans <| (Host.after_v1 (W1 m c)).trans <| (congrArg Host.rows (W1_scales m c)).trans (rows_scales _)

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.IdlRun
public import proofs.«01_k».proof.Proof.KrnRun
public import proofs.«01_k».proof.Proof.IdlValue
public import Idealize.ShloMosaic.Adequacy
public import Idealize.ShloMosaic.Init

@[expose] public section

noncomputable section

namespace Cert.Proof

open Idealize.ShloMosaic Idealize.SL.Sem

/-- The kernel ends, faults nowhere, keeps its arguments and leaves every semaphore at zero. -/
theorem kernel_frame : quiescent_Kernel (hKernel := Cert.Kernel.Gen.facts) := fun m ρ _ =>
  (θ_run _ _ _).mono (fun _ h => ⟨fun c => Cert.Kernel.Run.args m c (h.1 c), h.2⟩) (Cert.Kernel.Run.run m ρ)

/-- So does the idealised kernel. -/
theorem kernelIdeal_frame : quiescent_KernelIdeal (hKernelIdeal := Cert.KernelIdeal.Gen.facts) := fun m ρ _ =>
  (θ_run _ _ _).mono (fun _ h => ⟨fun c => Cert.KernelIdeal.Run.args m c (h.1 c), h.2⟩) (Cert.KernelIdeal.Run.run m ρ)

/-- The two named constants stand for what the table says. -/
theorem named : preserves_Kernel_KernelIdeal :=
  ⟨IdealRules.named_const.statement Cert.KernelIdeal.κ "log2_e" .f32 0x3FB8AA3B#32 _ rfl,
    IdealRules.named_const.statement Cert.KernelIdeal.κ "mask" .f32 0xF149F2CA#32 _ rfl⟩

/-- From equal arguments the idealised kernel and the reference leave equal results. -/
theorem agree : algebraic_KernelIdeal_ReferenceIdeal (hKernelIdeal := Cert.KernelIdeal.Gen.facts) (hReferenceIdeal := Cert.ReferenceIdeal.Gen.facts) := by
  intro m g m' g' _ hm
  refine ⟨fun c => Cert.KernelIdeal.Run.W3 m c (Proc.devRef .tc Cert.KernelIdeal.main_v11), fun c => Cert.KernelIdeal.Run.W3 m c (Proc.devRef .tc Cert.KernelIdeal.main_v0_0),
    fun c => Cert.KernelIdeal.Run.W3 m c (Proc.devRef .tc Cert.KernelIdeal.main_v1), ?_, ?_⟩
  · exact (θ_run _ _ _).mono (fun _ h c => ⟨h.1 c _ (Cert.KernelIdeal.Run.mem_uc Cert.KernelIdeal.main_v11 (by decide)),
      h.1 c _ (Cert.KernelIdeal.Run.mem_uc Cert.KernelIdeal.main_v0_0 (by decide)), h.1 c _ (Cert.KernelIdeal.Run.mem_uc Cert.KernelIdeal.main_v1 (by decide)),
      Cert.KernelIdeal.Run.args m c (h.1 c)⟩) (Cert.KernelIdeal.Run.run m g)
  · refine (θ_run _ _ _).mono (fun _ h c => ?_) (Cert.ReferenceIdeal.Value.run m' g')
    obtain ⟨r0, r1, r2, k⟩ := h c
    obtain ⟨e0, e1, e2, e3, e4⟩ := hm c
    refine ⟨r0.trans ?_, r1.trans ?_, r2.trans ?_, k⟩
    · rw [e0, e1, e2, e3, e4]
      exact ((Cert.KernelIdeal.Value.W3_out m c).trans (by unfold Cert.KernelIdeal.Point.refOut; rfl)).symm
    · rw [e0, e1, e2, e3, e4]
      exact (Cert.KernelIdeal.Value.W3_codes m c).symm
    · rw [e0, e1, e2, e3, e4]
      exact (Cert.KernelIdeal.Value.W3_scales m c).symm

/-- The five claims. -/
theorem claim : Cert.Claim := ⟨Cert.Kernel.Gen.facts, Cert.KernelIdeal.Gen.facts, Cert.ReferenceIdeal.Gen.facts,
  kernel_frame, kernelIdeal_frame, fun m ρ _ => Cert.ReferenceIdeal.Gen.frame m ρ, named, agree⟩

end Cert.Proof

end
